-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def Pre_Input (m : (ℓ : Loc Cert.Input.nD Cert.Input.τ Cert.Input.sig) → Buf (Elt Bits) ℓ) : Prop :=
  True

def Pre_InputIdeal (m : (ℓ : Loc Cert.InputIdeal.nD Cert.InputIdeal.τ Cert.InputIdeal.sig) → Buf (Elt Ideal) ℓ) : Prop :=
  True

def Pre_InputReferenceIdeal (m : (ℓ : Loc Cert.InputReferenceIdeal.nD Cert.InputReferenceIdeal.τ Cert.InputReferenceIdeal.sig) → Buf (Elt Ideal) ℓ) : Prop :=
  True

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputReferenceIdeal (m : (ℓ : Loc Cert.OutputReferenceIdeal.nD Cert.OutputReferenceIdeal.τ Cert.OutputReferenceIdeal.sig) → Buf (Elt Ideal) ℓ) : Prop :=
  True

def Pre_OddOutput (m : (ℓ : Loc Cert.OddOutput.nD Cert.OddOutput.τ Cert.OddOutput.sig) → Buf (Elt Bits) ℓ) : Prop :=
  True

def Pre_OddOutputIdeal (m : (ℓ : Loc Cert.OddOutputIdeal.nD Cert.OddOutputIdeal.τ Cert.OddOutputIdeal.sig) → Buf (Elt Ideal) ℓ) : Prop :=
  True

def Pre_OddOutputReferenceIdeal (m : (ℓ : Loc Cert.OddOutputReferenceIdeal.nD Cert.OddOutputReferenceIdeal.τ Cert.OddOutputReferenceIdeal.sig) → Buf (Elt Ideal) ℓ) : Prop :=
  True

def Pre_OddInput (m : (ℓ : Loc Cert.OddInput.nD Cert.OddInput.τ Cert.OddInput.sig) → Buf (Elt Bits) ℓ) : Prop :=
  True

def Pre_OddInputIdeal (m : (ℓ : Loc Cert.OddInputIdeal.nD Cert.OddInputIdeal.τ Cert.OddInputIdeal.sig) → Buf (Elt Ideal) ℓ) : Prop :=
  True

def Pre_OddInputReferenceIdeal (m : (ℓ : Loc Cert.OddInputReferenceIdeal.nD Cert.OddInputReferenceIdeal.τ Cert.OddInputReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2)
      ∧ r.2.mem ((c.tc : Thread Cert.Query.nD Cert.Query.τ).loc Cert.Query.main_arg3) = m ((c.tc : Thread Cert.Query.nD Cert.Query.τ).loc Cert.Query.main_arg3))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
      ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1)
      ∧ r.2.mem ((c.tc : Thread Cert.QueryReferenceIdeal.nD Cert.QueryReferenceIdeal.τ).loc Cert.QueryReferenceIdeal.main_arg2) = m ((c.tc : Thread Cert.QueryReferenceIdeal.nD Cert.QueryReferenceIdeal.τ).loc Cert.QueryReferenceIdeal.main_arg2)
      ∧ r.2.mem ((c.tc : Thread Cert.QueryReferenceIdeal.nD Cert.QueryReferenceIdeal.τ).loc Cert.QueryReferenceIdeal.main_arg3) = m ((c.tc : Thread Cert.QueryReferenceIdeal.nD Cert.QueryReferenceIdeal.τ).loc Cert.QueryReferenceIdeal.main_arg3))
      ∧ r.2.sem = fun _ => 0)

def quiescent_Input [hInput : Cert.Input.Facts] : Prop :=
  ∀ (m : (ℓ : Loc Cert.Input.nD Cert.Input.τ Cert.Input.sig) → Buf (Elt Bits) ℓ) (g : Dev Cert.Input.nD → PrngReg), Pre_Input m →
    θ_run (Cert.Input.defs (F := Bits)) (onTc (τ := Cert.Input.τ) (Cert.Input.main (F := Bits))) ⟨m, fun _ => 0, g⟩ (fun r => (∀ c : Dev Cert.Input.nD,
      r.2.mem ((c.tc : Thread Cert.Input.nD Cert.Input.τ).loc Cert.Input.main_arg0) = m ((c.tc : Thread Cert.Input.nD Cert.Input.τ).loc Cert.Input.main_arg0)
      ∧ r.2.mem ((c.tc : Thread Cert.Input.nD Cert.Input.τ).loc Cert.Input.main_arg1) = m ((c.tc : Thread Cert.Input.nD Cert.Input.τ).loc Cert.Input.main_arg1)
      ∧ r.2.mem ((c.tc : Thread Cert.Input.nD Cert.Input.τ).loc Cert.Input.main_arg2) = m ((c.tc : Thread Cert.Input.nD Cert.Input.τ).loc Cert.Input.main_arg2)
      ∧ r.2.mem ((c.tc : Thread Cert.Input.nD Cert.Input.τ).loc Cert.Input.main_arg3) = m ((c.tc : Thread Cert.Input.nD Cert.Input.τ).loc Cert.Input.main_arg3))
      ∧ r.2.sem = fun _ => 0)

def quiescent_InputIdeal [hInputIdeal : Cert.InputIdeal.Facts] : Prop :=
  ∀ (m : (ℓ : Loc Cert.InputIdeal.nD Cert.InputIdeal.τ Cert.InputIdeal.sig) → Buf (Elt Ideal) ℓ) (g : Dev Cert.InputIdeal.nD → PrngReg), Pre_InputIdeal m →
    θ_run (Cert.InputIdeal.defs (F := Ideal)) (onTc (τ := Cert.InputIdeal.τ) (Cert.InputIdeal.main (F := Ideal))) ⟨m, fun _ => 0, g⟩ (fun r => (∀ c : Dev Cert.InputIdeal.nD,
      r.2.mem ((c.tc : Thread Cert.InputIdeal.nD Cert.InputIdeal.τ).loc Cert.InputIdeal.main_arg0) = m ((c.tc : Thread Cert.InputIdeal.nD Cert.InputIdeal.τ).loc Cert.InputIdeal.main_arg0)
      ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
      ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
      ∧ r.2.mem ((c.tc : Thread Cert.InputIdeal.nD Cert.InputIdeal.τ).loc Cert.InputIdeal.main_arg3) = m ((c.tc : Thread Cert.InputIdeal.nD Cert.InputIdeal.τ).loc Cert.InputIdeal.main_arg3))
      ∧ r.2.sem = fun _ => 0)

def quiescent_InputReferenceIdeal [hInputReferenceIdeal : Cert.InputReferenceIdeal.Facts] : Prop :=
  ∀ (m : (ℓ : Loc Cert.InputReferenceIdeal.nD Cert.InputReferenceIdeal.τ Cert.InputReferenceIdeal.sig) → Buf (Elt Ideal) ℓ) (g : Dev Cert.InputReferenceIdeal.nD → PrngReg), Pre_InputReferenceIdeal m →
    θ_run (Cert.InputReferenceIdeal.defs (F := Ideal)) (onTc (τ := Cert.InputReferenceIdeal.τ) (Cert.InputReferenceIdeal.main (F := Ideal))) ⟨m, fun _ => 0, g⟩ (fun r => (∀ c : Dev Cert.InputReferenceIdeal.nD,
      r.2.mem ((c.tc : Thread Cert.InputReferenceIdeal.nD Cert.InputReferenceIdeal.τ).loc Cert.InputReferenceIdeal.main_arg0) = m ((c.tc : Thread Cert.InputReferenceIdeal.nD Cert.InputReferenceIdeal.τ).loc Cert.InputReferenceIdeal.main_arg0)
      ∧ r.2.mem ((c.tc : Thread Cert.InputReferenceIdeal.nD Cert.InputReferenceIdeal.τ).loc Cert.InputReferenceIdeal.main_arg1) = m ((c.tc : Thread Cert.InputReferenceIdeal.nD Cert.InputReferenceIdeal.τ).loc Cert.InputReferenceIdeal.main_arg1)
      ∧ r.2.mem ((c.tc : Thread Cert.InputReferenceIdeal.nD Cert.InputReferenceIdeal.τ).loc Cert.InputReferenceIdeal.main_arg2) = m ((c.tc : Thread Cert.InputReferenceIdeal.nD Cert.InputReferenceIdeal.τ).loc Cert.InputReferenceIdeal.main_arg2)
      ∧ r.2.mem ((c.tc : Thread Cert.InputReferenceIdeal.nD Cert.InputReferenceIdeal.τ).loc Cert.InputReferenceIdeal.main_arg3) = m ((c.tc : Thread Cert.InputReferenceIdeal.nD Cert.InputReferenceIdeal.τ).loc Cert.InputReferenceIdeal.main_arg3))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1)
      ∧ r.2.mem ((c.tc : Thread Cert.Output.nD Cert.Output.τ).loc Cert.Output.main_arg2) = m ((c.tc : Thread Cert.Output.nD Cert.Output.τ).loc Cert.Output.main_arg2)
      ∧ r.2.mem ((c.tc : Thread Cert.Output.nD Cert.Output.τ).loc Cert.Output.main_arg3) = m ((c.tc : Thread Cert.Output.nD Cert.Output.τ).loc Cert.Output.main_arg3)
      ∧ r.2.mem ((c.tc : Thread Cert.Output.nD Cert.Output.τ).loc Cert.Output.main_arg4) = m ((c.tc : Thread Cert.Output.nD Cert.Output.τ).loc Cert.Output.main_arg4)
      ∧ r.2.mem ((c.tc : Thread Cert.Output.nD Cert.Output.τ).loc Cert.Output.main_arg5) = m ((c.tc : Thread Cert.Output.nD Cert.Output.τ).loc Cert.Output.main_arg5)
      ∧ r.2.mem ((c.tc : Thread Cert.Output.nD Cert.Output.τ).loc Cert.Output.main_arg6) = m ((c.tc : Thread Cert.Output.nD Cert.Output.τ).loc Cert.Output.main_arg6))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
      ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
      ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
      ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
      ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
      ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6))
      ∧ r.2.sem = fun _ => 0)

def quiescent_OutputReferenceIdeal [hOutputReferenceIdeal : Cert.OutputReferenceIdeal.Facts] : Prop :=
  ∀ (m : (ℓ : Loc Cert.OutputReferenceIdeal.nD Cert.OutputReferenceIdeal.τ Cert.OutputReferenceIdeal.sig) → Buf (Elt Ideal) ℓ) (g : Dev Cert.OutputReferenceIdeal.nD → PrngReg), Pre_OutputReferenceIdeal m →
    θ_run (Cert.OutputReferenceIdeal.defs (F := Ideal)) (onTc (τ := Cert.OutputReferenceIdeal.τ) (Cert.OutputReferenceIdeal.main (F := Ideal))) ⟨m, fun _ => 0, g⟩ (fun r => (∀ c : Dev Cert.OutputReferenceIdeal.nD,
      r.2.mem ((c.tc : Thread Cert.OutputReferenceIdeal.nD Cert.OutputReferenceIdeal.τ).loc Cert.OutputReferenceIdeal.main_arg0) = m ((c.tc : Thread Cert.OutputReferenceIdeal.nD Cert.OutputReferenceIdeal.τ).loc Cert.OutputReferenceIdeal.main_arg0)
      ∧ r.2.mem ((c.tc : Thread Cert.OutputReferenceIdeal.nD Cert.OutputReferenceIdeal.τ).loc Cert.OutputReferenceIdeal.main_arg1) = m ((c.tc : Thread Cert.OutputReferenceIdeal.nD Cert.OutputReferenceIdeal.τ).loc Cert.OutputReferenceIdeal.main_arg1)
      ∧ r.2.mem ((c.tc : Thread Cert.OutputReferenceIdeal.nD Cert.OutputReferenceIdeal.τ).loc Cert.OutputReferenceIdeal.main_arg2) = m ((c.tc : Thread Cert.OutputReferenceIdeal.nD Cert.OutputReferenceIdeal.τ).loc Cert.OutputReferenceIdeal.main_arg2)
      ∧ r.2.mem ((c.tc : Thread Cert.OutputReferenceIdeal.nD Cert.OutputReferenceIdeal.τ).loc Cert.OutputReferenceIdeal.main_arg3) = m ((c.tc : Thread Cert.OutputReferenceIdeal.nD Cert.OutputReferenceIdeal.τ).loc Cert.OutputReferenceIdeal.main_arg3)
      ∧ r.2.mem ((c.tc : Thread Cert.OutputReferenceIdeal.nD Cert.OutputReferenceIdeal.τ).loc Cert.OutputReferenceIdeal.main_arg4) = m ((c.tc : Thread Cert.OutputReferenceIdeal.nD Cert.OutputReferenceIdeal.τ).loc Cert.OutputReferenceIdeal.main_arg4)
      ∧ r.2.mem ((c.tc : Thread Cert.OutputReferenceIdeal.nD Cert.OutputReferenceIdeal.τ).loc Cert.OutputReferenceIdeal.main_arg5) = m ((c.tc : Thread Cert.OutputReferenceIdeal.nD Cert.OutputReferenceIdeal.τ).loc Cert.OutputReferenceIdeal.main_arg5)
      ∧ r.2.mem ((c.tc : Thread Cert.OutputReferenceIdeal.nD Cert.OutputReferenceIdeal.τ).loc Cert.OutputReferenceIdeal.main_arg6) = m ((c.tc : Thread Cert.OutputReferenceIdeal.nD Cert.OutputReferenceIdeal.τ).loc Cert.OutputReferenceIdeal.main_arg6))
      ∧ r.2.sem = fun _ => 0)

def quiescent_OddOutput [hOddOutput : Cert.OddOutput.Facts] : Prop :=
  ∀ (m : (ℓ : Loc Cert.OddOutput.nD Cert.OddOutput.τ Cert.OddOutput.sig) → Buf (Elt Bits) ℓ) (g : Dev Cert.OddOutput.nD → PrngReg), Pre_OddOutput m →
    θ_run (Cert.OddOutput.defs (F := Bits)) (onTc (τ := Cert.OddOutput.τ) (Cert.OddOutput.main (F := Bits))) ⟨m, fun _ => 0, g⟩ (fun r => (∀ c : Dev Cert.OddOutput.nD,
      r.2.mem ((c.tc : Thread Cert.OddOutput.nD Cert.OddOutput.τ).loc Cert.OddOutput.main_arg0) = m ((c.tc : Thread Cert.OddOutput.nD Cert.OddOutput.τ).loc Cert.OddOutput.main_arg0)
      ∧ r.2.mem ((c.tc : Thread Cert.OddOutput.nD Cert.OddOutput.τ).loc Cert.OddOutput.main_arg1) = m ((c.tc : Thread Cert.OddOutput.nD Cert.OddOutput.τ).loc Cert.OddOutput.main_arg1)
      ∧ r.2.mem ((c.tc : Thread Cert.OddOutput.nD Cert.OddOutput.τ).loc Cert.OddOutput.main_arg2) = m ((c.tc : Thread Cert.OddOutput.nD Cert.OddOutput.τ).loc Cert.OddOutput.main_arg2)
      ∧ r.2.mem ((c.tc : Thread Cert.OddOutput.nD Cert.OddOutput.τ).loc Cert.OddOutput.main_arg3) = m ((c.tc : Thread Cert.OddOutput.nD Cert.OddOutput.τ).loc Cert.OddOutput.main_arg3)
      ∧ r.2.mem ((c.tc : Thread Cert.OddOutput.nD Cert.OddOutput.τ).loc Cert.OddOutput.main_arg4) = m ((c.tc : Thread Cert.OddOutput.nD Cert.OddOutput.τ).loc Cert.OddOutput.main_arg4)
      ∧ r.2.mem ((c.tc : Thread Cert.OddOutput.nD Cert.OddOutput.τ).loc Cert.OddOutput.main_arg5) = m ((c.tc : Thread Cert.OddOutput.nD Cert.OddOutput.τ).loc Cert.OddOutput.main_arg5))
      ∧ r.2.sem = fun _ => 0)

def quiescent_OddOutputIdeal [hOddOutputIdeal : Cert.OddOutputIdeal.Facts] : Prop :=
  ∀ (m : (ℓ : Loc Cert.OddOutputIdeal.nD Cert.OddOutputIdeal.τ Cert.OddOutputIdeal.sig) → Buf (Elt Ideal) ℓ) (g : Dev Cert.OddOutputIdeal.nD → PrngReg), Pre_OddOutputIdeal m →
    θ_run (Cert.OddOutputIdeal.defs (F := Ideal)) (onTc (τ := Cert.OddOutputIdeal.τ) (Cert.OddOutputIdeal.main (F := Ideal))) ⟨m, fun _ => 0, g⟩ (fun r => (∀ c : Dev Cert.OddOutputIdeal.nD,
      r.2.mem ((c.tc : Thread Cert.OddOutputIdeal.nD Cert.OddOutputIdeal.τ).loc Cert.OddOutputIdeal.main_arg0) = m ((c.tc : Thread Cert.OddOutputIdeal.nD Cert.OddOutputIdeal.τ).loc Cert.OddOutputIdeal.main_arg0)
      ∧ r.2.mem ((c.tc : Thread Cert.OddOutputIdeal.nD Cert.OddOutputIdeal.τ).loc Cert.OddOutputIdeal.main_arg1) = m ((c.tc : Thread Cert.OddOutputIdeal.nD Cert.OddOutputIdeal.τ).loc Cert.OddOutputIdeal.main_arg1)
      ∧ r.2.mem ((c.tc : Thread Cert.OddOutputIdeal.nD Cert.OddOutputIdeal.τ).loc Cert.OddOutputIdeal.main_arg2) = m ((c.tc : Thread Cert.OddOutputIdeal.nD Cert.OddOutputIdeal.τ).loc Cert.OddOutputIdeal.main_arg2)
      ∧ r.2.mem ((c.tc : Thread Cert.OddOutputIdeal.nD Cert.OddOutputIdeal.τ).loc Cert.OddOutputIdeal.main_arg3) = m ((c.tc : Thread Cert.OddOutputIdeal.nD Cert.OddOutputIdeal.τ).loc Cert.OddOutputIdeal.main_arg3)
      ∧ r.2.mem ((c.tc : Thread Cert.OddOutputIdeal.nD Cert.OddOutputIdeal.τ).loc Cert.OddOutputIdeal.main_arg4) = m ((c.tc : Thread Cert.OddOutputIdeal.nD Cert.OddOutputIdeal.τ).loc Cert.OddOutputIdeal.main_arg4)
      ∧ r.2.mem ((c.tc : Thread Cert.OddOutputIdeal.nD Cert.OddOutputIdeal.τ).loc Cert.OddOutputIdeal.main_arg5) = m ((c.tc : Thread Cert.OddOutputIdeal.nD Cert.OddOutputIdeal.τ).loc Cert.OddOutputIdeal.main_arg5))
      ∧ r.2.sem = fun _ => 0)

def quiescent_OddOutputReferenceIdeal [hOddOutputReferenceIdeal : Cert.OddOutputReferenceIdeal.Facts] : Prop :=
  ∀ (m : (ℓ : Loc Cert.OddOutputReferenceIdeal.nD Cert.OddOutputReferenceIdeal.τ Cert.OddOutputReferenceIdeal.sig) → Buf (Elt Ideal) ℓ) (g : Dev Cert.OddOutputReferenceIdeal.nD → PrngReg), Pre_OddOutputReferenceIdeal m →
    θ_run (Cert.OddOutputReferenceIdeal.defs (F := Ideal)) (onTc (τ := Cert.OddOutputReferenceIdeal.τ) (Cert.OddOutputReferenceIdeal.main (F := Ideal))) ⟨m, fun _ => 0, g⟩ (fun r => (∀ c : Dev Cert.OddOutputReferenceIdeal.nD,
      r.2.mem ((c.tc : Thread Cert.OddOutputReferenceIdeal.nD Cert.OddOutputReferenceIdeal.τ).loc Cert.OddOutputReferenceIdeal.main_arg0) = m ((c.tc : Thread Cert.OddOutputReferenceIdeal.nD Cert.OddOutputReferenceIdeal.τ).loc Cert.OddOutputReferenceIdeal.main_arg0)
      ∧ r.2.mem ((c.tc : Thread Cert.OddOutputReferenceIdeal.nD Cert.OddOutputReferenceIdeal.τ).loc Cert.OddOutputReferenceIdeal.main_arg1) = m ((c.tc : Thread Cert.OddOutputReferenceIdeal.nD Cert.OddOutputReferenceIdeal.τ).loc Cert.OddOutputReferenceIdeal.main_arg1)
      ∧ r.2.mem ((c.tc : Thread Cert.OddOutputReferenceIdeal.nD Cert.OddOutputReferenceIdeal.τ).loc Cert.OddOutputReferenceIdeal.main_arg2) = m ((c.tc : Thread Cert.OddOutputReferenceIdeal.nD Cert.OddOutputReferenceIdeal.τ).loc Cert.OddOutputReferenceIdeal.main_arg2)
      ∧ r.2.mem ((c.tc : Thread Cert.OddOutputReferenceIdeal.nD Cert.OddOutputReferenceIdeal.τ).loc Cert.OddOutputReferenceIdeal.main_arg3) = m ((c.tc : Thread Cert.OddOutputReferenceIdeal.nD Cert.OddOutputReferenceIdeal.τ).loc Cert.OddOutputReferenceIdeal.main_arg3)
      ∧ r.2.mem ((c.tc : Thread Cert.OddOutputReferenceIdeal.nD Cert.OddOutputReferenceIdeal.τ).loc Cert.OddOutputReferenceIdeal.main_arg4) = m ((c.tc : Thread Cert.OddOutputReferenceIdeal.nD Cert.OddOutputReferenceIdeal.τ).loc Cert.OddOutputReferenceIdeal.main_arg4)
      ∧ r.2.mem ((c.tc : Thread Cert.OddOutputReferenceIdeal.nD Cert.OddOutputReferenceIdeal.τ).loc Cert.OddOutputReferenceIdeal.main_arg5) = m ((c.tc : Thread Cert.OddOutputReferenceIdeal.nD Cert.OddOutputReferenceIdeal.τ).loc Cert.OddOutputReferenceIdeal.main_arg5))
      ∧ r.2.sem = fun _ => 0)

def quiescent_OddInput [hOddInput : Cert.OddInput.Facts] : Prop :=
  ∀ (m : (ℓ : Loc Cert.OddInput.nD Cert.OddInput.τ Cert.OddInput.sig) → Buf (Elt Bits) ℓ) (g : Dev Cert.OddInput.nD → PrngReg), Pre_OddInput m →
    θ_run (Cert.OddInput.defs (F := Bits)) (onTc (τ := Cert.OddInput.τ) (Cert.OddInput.main (F := Bits))) ⟨m, fun _ => 0, g⟩ (fun r => (∀ c : Dev Cert.OddInput.nD,
      r.2.mem ((c.tc : Thread Cert.OddInput.nD Cert.OddInput.τ).loc Cert.OddInput.main_arg0) = m ((c.tc : Thread Cert.OddInput.nD Cert.OddInput.τ).loc Cert.OddInput.main_arg0)
      ∧ r.2.mem ((c.tc : Thread Cert.OddInput.nD Cert.OddInput.τ).loc Cert.OddInput.main_arg1) = m ((c.tc : Thread Cert.OddInput.nD Cert.OddInput.τ).loc Cert.OddInput.main_arg1)
      ∧ r.2.mem ((c.tc : Thread Cert.OddInput.nD Cert.OddInput.τ).loc Cert.OddInput.main_arg2) = m ((c.tc : Thread Cert.OddInput.nD Cert.OddInput.τ).loc Cert.OddInput.main_arg2)
      ∧ r.2.mem ((c.tc : Thread Cert.OddInput.nD Cert.OddInput.τ).loc Cert.OddInput.main_arg3) = m ((c.tc : Thread Cert.OddInput.nD Cert.OddInput.τ).loc Cert.OddInput.main_arg3))
      ∧ r.2.sem = fun _ => 0)

def quiescent_OddInputIdeal [hOddInputIdeal : Cert.OddInputIdeal.Facts] : Prop :=
  ∀ (m : (ℓ : Loc Cert.OddInputIdeal.nD Cert.OddInputIdeal.τ Cert.OddInputIdeal.sig) → Buf (Elt Ideal) ℓ) (g : Dev Cert.OddInputIdeal.nD → PrngReg), Pre_OddInputIdeal m →
    θ_run (Cert.OddInputIdeal.defs (F := Ideal)) (onTc (τ := Cert.OddInputIdeal.τ) (Cert.OddInputIdeal.main (F := Ideal))) ⟨m, fun _ => 0, g⟩ (fun r => (∀ c : Dev Cert.OddInputIdeal.nD,
      r.2.mem ((c.tc : Thread Cert.OddInputIdeal.nD Cert.OddInputIdeal.τ).loc Cert.OddInputIdeal.main_arg0) = m ((c.tc : Thread Cert.OddInputIdeal.nD Cert.OddInputIdeal.τ).loc Cert.OddInputIdeal.main_arg0)
      ∧ r.2.mem ((c.tc : Thread Cert.OddInputIdeal.nD Cert.OddInputIdeal.τ).loc Cert.OddInputIdeal.main_arg1) = m ((c.tc : Thread Cert.OddInputIdeal.nD Cert.OddInputIdeal.τ).loc Cert.OddInputIdeal.main_arg1)
      ∧ r.2.mem ((c.tc : Thread Cert.OddInputIdeal.nD Cert.OddInputIdeal.τ).loc Cert.OddInputIdeal.main_arg2) = m ((c.tc : Thread Cert.OddInputIdeal.nD Cert.OddInputIdeal.τ).loc Cert.OddInputIdeal.main_arg2)
      ∧ r.2.mem ((c.tc : Thread Cert.OddInputIdeal.nD Cert.OddInputIdeal.τ).loc Cert.OddInputIdeal.main_arg3) = m ((c.tc : Thread Cert.OddInputIdeal.nD Cert.OddInputIdeal.τ).loc Cert.OddInputIdeal.main_arg3))
      ∧ r.2.sem = fun _ => 0)

def quiescent_OddInputReferenceIdeal [hOddInputReferenceIdeal : Cert.OddInputReferenceIdeal.Facts] : Prop :=
  ∀ (m : (ℓ : Loc Cert.OddInputReferenceIdeal.nD Cert.OddInputReferenceIdeal.τ Cert.OddInputReferenceIdeal.sig) → Buf (Elt Ideal) ℓ) (g : Dev Cert.OddInputReferenceIdeal.nD → PrngReg), Pre_OddInputReferenceIdeal m →
    θ_run (Cert.OddInputReferenceIdeal.defs (F := Ideal)) (onTc (τ := Cert.OddInputReferenceIdeal.τ) (Cert.OddInputReferenceIdeal.main (F := Ideal))) ⟨m, fun _ => 0, g⟩ (fun r => (∀ c : Dev Cert.OddInputReferenceIdeal.nD,
      r.2.mem ((c.tc : Thread Cert.OddInputReferenceIdeal.nD Cert.OddInputReferenceIdeal.τ).loc Cert.OddInputReferenceIdeal.main_arg0) = m ((c.tc : Thread Cert.OddInputReferenceIdeal.nD Cert.OddInputReferenceIdeal.τ).loc Cert.OddInputReferenceIdeal.main_arg0)
      ∧ r.2.mem ((c.tc : Thread Cert.OddInputReferenceIdeal.nD Cert.OddInputReferenceIdeal.τ).loc Cert.OddInputReferenceIdeal.main_arg1) = m ((c.tc : Thread Cert.OddInputReferenceIdeal.nD Cert.OddInputReferenceIdeal.τ).loc Cert.OddInputReferenceIdeal.main_arg1)
      ∧ r.2.mem ((c.tc : Thread Cert.OddInputReferenceIdeal.nD Cert.OddInputReferenceIdeal.τ).loc Cert.OddInputReferenceIdeal.main_arg2) = m ((c.tc : Thread Cert.OddInputReferenceIdeal.nD Cert.OddInputReferenceIdeal.τ).loc Cert.OddInputReferenceIdeal.main_arg2)
      ∧ r.2.mem ((c.tc : Thread Cert.OddInputReferenceIdeal.nD Cert.OddInputReferenceIdeal.τ).loc Cert.OddInputReferenceIdeal.main_arg3) = m ((c.tc : Thread Cert.OddInputReferenceIdeal.nD Cert.OddInputReferenceIdeal.τ).loc Cert.OddInputReferenceIdeal.main_arg3))
      ∧ r.2.sem = fun _ => 0)

def preserves_Kernel_KernelIdeal : Prop :=
  True

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Query_QueryIdeal : Prop :=
  True

def algebraic_QueryIdeal_QueryReferenceIdeal [hQueryIdeal : Cert.QueryIdeal.Facts] [hQueryReferenceIdeal : Cert.QueryReferenceIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryIdeal m →
    (∀ c : Dev Cert.QueryIdeal.nD,
      m' ((c.tc : Thread Cert.QueryReferenceIdeal.nD Cert.QueryReferenceIdeal.τ).loc Cert.QueryReferenceIdeal.main_arg0) = m ((c.tc : Thread Cert.QueryIdeal.nD Cert.QueryIdeal.τ).loc Cert.QueryIdeal.main_arg0)
      ∧ m' ((c.tc : Thread Cert.QueryReferenceIdeal.nD Cert.QueryReferenceIdeal.τ).loc Cert.QueryReferenceIdeal.main_arg1) = m ((c.tc : Thread Cert.QueryIdeal.nD Cert.QueryIdeal.τ).loc Cert.QueryIdeal.main_arg1)
      ∧ m' ((c.tc : Thread Cert.QueryReferenceIdeal.nD Cert.QueryReferenceIdeal.τ).loc Cert.QueryReferenceIdeal.main_arg2) = m ((c.tc : Thread Cert.QueryIdeal.nD Cert.QueryIdeal.τ).loc Cert.QueryIdeal.main_arg2)
      ∧ m' ((c.tc : Thread Cert.QueryReferenceIdeal.nD Cert.QueryReferenceIdeal.τ).loc Cert.QueryReferenceIdeal.main_arg3) = m ((c.tc : Thread Cert.QueryIdeal.nD Cert.QueryIdeal.τ).loc Cert.QueryIdeal.main_arg3)) →
    ∃ (v0 : (c : Dev Cert.QueryIdeal.nD) → Buf (Elt Ideal) ((c.tc : Thread Cert.QueryIdeal.nD Cert.QueryIdeal.τ).loc Cert.QueryIdeal.main_v26_0)) (v1 : (c : Dev Cert.QueryIdeal.nD) → Buf (Elt Ideal) ((c.tc : Thread Cert.QueryIdeal.nD Cert.QueryIdeal.τ).loc Cert.QueryIdeal.main_v26_1)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v26_0) = v0 c
          ∧ r.2.mem ((c.tc : Thread Cert.QueryIdeal.nD Cert.QueryIdeal.τ).loc Cert.QueryIdeal.main_v26_1) = v1 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
          ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v10) = v0 c
          ∧ r.2.mem ((c.tc : Thread Cert.QueryReferenceIdeal.nD Cert.QueryReferenceIdeal.τ).loc Cert.QueryReferenceIdeal.main_v14) = v1 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1)
          ∧ r.2.mem ((c.tc : Thread Cert.QueryReferenceIdeal.nD Cert.QueryReferenceIdeal.τ).loc Cert.QueryReferenceIdeal.main_arg2) = m' ((c.tc : Thread Cert.QueryReferenceIdeal.nD Cert.QueryReferenceIdeal.τ).loc Cert.QueryReferenceIdeal.main_arg2)
          ∧ r.2.mem ((c.tc : Thread Cert.QueryReferenceIdeal.nD Cert.QueryReferenceIdeal.τ).loc Cert.QueryReferenceIdeal.main_arg3) = m' ((c.tc : Thread Cert.QueryReferenceIdeal.nD Cert.QueryReferenceIdeal.τ).loc Cert.QueryReferenceIdeal.main_arg3))

def preserves_Input_InputIdeal : Prop :=
  IdealRules.named_const.Statement Cert.InputIdeal.κ "scale" .f32 0x3E38AA3B#32 (((1 / 8) * (Real.log 2)⁻¹ : ℝ) : EReal)

def algebraic_InputIdeal_InputReferenceIdeal [hInputIdeal : Cert.InputIdeal.Facts] [hInputReferenceIdeal : Cert.InputReferenceIdeal.Facts] : Prop :=
  ∀ (m : (ℓ : Loc Cert.InputIdeal.nD Cert.InputIdeal.τ Cert.InputIdeal.sig) → Buf (Elt Ideal) ℓ) (g : Dev Cert.InputIdeal.nD → PrngReg)
    (m' : (ℓ : Loc Cert.InputReferenceIdeal.nD Cert.InputReferenceIdeal.τ Cert.InputReferenceIdeal.sig) → Buf (Elt Ideal) ℓ) (g' : Dev Cert.InputReferenceIdeal.nD → PrngReg), Pre_InputIdeal m →
    (∀ c : Dev Cert.InputIdeal.nD,
      m' ((c.tc : Thread Cert.InputReferenceIdeal.nD Cert.InputReferenceIdeal.τ).loc Cert.InputReferenceIdeal.main_arg0) = m ((c.tc : Thread Cert.InputIdeal.nD Cert.InputIdeal.τ).loc Cert.InputIdeal.main_arg0)
      ∧ m' ((c.tc : Thread Cert.InputReferenceIdeal.nD Cert.InputReferenceIdeal.τ).loc Cert.InputReferenceIdeal.main_arg1) = m ((c.tc : Thread Cert.InputIdeal.nD Cert.InputIdeal.τ).loc Cert.InputIdeal.main_arg1)
      ∧ m' ((c.tc : Thread Cert.InputReferenceIdeal.nD Cert.InputReferenceIdeal.τ).loc Cert.InputReferenceIdeal.main_arg2) = m ((c.tc : Thread Cert.InputIdeal.nD Cert.InputIdeal.τ).loc Cert.InputIdeal.main_arg2)
      ∧ m' ((c.tc : Thread Cert.InputReferenceIdeal.nD Cert.InputReferenceIdeal.τ).loc Cert.InputReferenceIdeal.main_arg3) = m ((c.tc : Thread Cert.InputIdeal.nD Cert.InputIdeal.τ).loc Cert.InputIdeal.main_arg3)) →
    ∃ (v0 : (c : Dev Cert.InputIdeal.nD) → Buf (Elt Ideal) ((c.tc : Thread Cert.InputIdeal.nD Cert.InputIdeal.τ).loc Cert.InputIdeal.main_v26)),
      θ_run (Cert.InputIdeal.defs (F := Ideal)) (onTc (τ := Cert.InputIdeal.τ) (Cert.InputIdeal.main (F := Ideal))) ⟨m, fun _ => 0, g⟩ (fun r => ∀ c : Dev Cert.InputIdeal.nD,
          r.2.mem ((c.tc : Thread Cert.InputIdeal.nD Cert.InputIdeal.τ).loc Cert.InputIdeal.main_v26) = v0 c
          ∧ r.2.mem ((c.tc : Thread Cert.InputIdeal.nD Cert.InputIdeal.τ).loc Cert.InputIdeal.main_arg0) = m ((c.tc : Thread Cert.InputIdeal.nD Cert.InputIdeal.τ).loc Cert.InputIdeal.main_arg0)
          ∧ r.2.mem ((c.tc : Thread Cert.InputIdeal.nD Cert.InputIdeal.τ).loc Cert.InputIdeal.main_arg1) = m ((c.tc : Thread Cert.InputIdeal.nD Cert.InputIdeal.τ).loc Cert.InputIdeal.main_arg1)
          ∧ r.2.mem ((c.tc : Thread Cert.InputIdeal.nD Cert.InputIdeal.τ).loc Cert.InputIdeal.main_arg2) = m ((c.tc : Thread Cert.InputIdeal.nD Cert.InputIdeal.τ).loc Cert.InputIdeal.main_arg2)
          ∧ r.2.mem ((c.tc : Thread Cert.InputIdeal.nD Cert.InputIdeal.τ).loc Cert.InputIdeal.main_arg3) = m ((c.tc : Thread Cert.InputIdeal.nD Cert.InputIdeal.τ).loc Cert.InputIdeal.main_arg3))
      ∧ θ_run (Cert.InputReferenceIdeal.defs (F := Ideal)) (onTc (τ := Cert.InputReferenceIdeal.τ) (Cert.InputReferenceIdeal.main (F := Ideal))) ⟨m', fun _ => 0, g'⟩ (fun r => ∀ c : Dev Cert.InputReferenceIdeal.nD,
          r.2.mem ((c.tc : Thread Cert.InputReferenceIdeal.nD Cert.InputReferenceIdeal.τ).loc Cert.InputReferenceIdeal.main_v96) = v0 c
          ∧ r.2.mem ((c.tc : Thread Cert.InputReferenceIdeal.nD Cert.InputReferenceIdeal.τ).loc Cert.InputReferenceIdeal.main_arg0) = m' ((c.tc : Thread Cert.InputReferenceIdeal.nD Cert.InputReferenceIdeal.τ).loc Cert.InputReferenceIdeal.main_arg0)
          ∧ r.2.mem ((c.tc : Thread Cert.InputReferenceIdeal.nD Cert.InputReferenceIdeal.τ).loc Cert.InputReferenceIdeal.main_arg1) = m' ((c.tc : Thread Cert.InputReferenceIdeal.nD Cert.InputReferenceIdeal.τ).loc Cert.InputReferenceIdeal.main_arg1)
          ∧ r.2.mem ((c.tc : Thread Cert.InputReferenceIdeal.nD Cert.InputReferenceIdeal.τ).loc Cert.InputReferenceIdeal.main_arg2) = m' ((c.tc : Thread Cert.InputReferenceIdeal.nD Cert.InputReferenceIdeal.τ).loc Cert.InputReferenceIdeal.main_arg2)
          ∧ r.2.mem ((c.tc : Thread Cert.InputReferenceIdeal.nD Cert.InputReferenceIdeal.τ).loc Cert.InputReferenceIdeal.main_arg3) = m' ((c.tc : Thread Cert.InputReferenceIdeal.nD Cert.InputReferenceIdeal.τ).loc Cert.InputReferenceIdeal.main_arg3))

def preserves_Output_OutputIdeal : Prop :=
  True

def algebraic_OutputIdeal_OutputReferenceIdeal [hOutputIdeal : Cert.OutputIdeal.Facts] [hOutputReferenceIdeal : Cert.OutputReferenceIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputReferenceIdeal.nD Cert.OutputReferenceIdeal.τ Cert.OutputReferenceIdeal.sig) → Buf (Elt Ideal) ℓ) (g' : Dev Cert.OutputReferenceIdeal.nD → PrngReg), Pre_OutputIdeal m →
    (∀ c : Dev Cert.OutputIdeal.nD,
      m' ((c.tc : Thread Cert.OutputReferenceIdeal.nD Cert.OutputReferenceIdeal.τ).loc Cert.OutputReferenceIdeal.main_arg0) = m ((c.tc : Thread Cert.OutputIdeal.nD Cert.OutputIdeal.τ).loc Cert.OutputIdeal.main_arg0)
      ∧ m' ((c.tc : Thread Cert.OutputReferenceIdeal.nD Cert.OutputReferenceIdeal.τ).loc Cert.OutputReferenceIdeal.main_arg1) = m ((c.tc : Thread Cert.OutputIdeal.nD Cert.OutputIdeal.τ).loc Cert.OutputIdeal.main_arg1)
      ∧ m' ((c.tc : Thread Cert.OutputReferenceIdeal.nD Cert.OutputReferenceIdeal.τ).loc Cert.OutputReferenceIdeal.main_arg2) = m ((c.tc : Thread Cert.OutputIdeal.nD Cert.OutputIdeal.τ).loc Cert.OutputIdeal.main_arg2)
      ∧ m' ((c.tc : Thread Cert.OutputReferenceIdeal.nD Cert.OutputReferenceIdeal.τ).loc Cert.OutputReferenceIdeal.main_arg3) = m ((c.tc : Thread Cert.OutputIdeal.nD Cert.OutputIdeal.τ).loc Cert.OutputIdeal.main_arg3)
      ∧ m' ((c.tc : Thread Cert.OutputReferenceIdeal.nD Cert.OutputReferenceIdeal.τ).loc Cert.OutputReferenceIdeal.main_arg4) = m ((c.tc : Thread Cert.OutputIdeal.nD Cert.OutputIdeal.τ).loc Cert.OutputIdeal.main_arg4)
      ∧ m' ((c.tc : Thread Cert.OutputReferenceIdeal.nD Cert.OutputReferenceIdeal.τ).loc Cert.OutputReferenceIdeal.main_arg5) = m ((c.tc : Thread Cert.OutputIdeal.nD Cert.OutputIdeal.τ).loc Cert.OutputIdeal.main_arg5)
      ∧ m' ((c.tc : Thread Cert.OutputReferenceIdeal.nD Cert.OutputReferenceIdeal.τ).loc Cert.OutputReferenceIdeal.main_arg6) = m ((c.tc : Thread Cert.OutputIdeal.nD Cert.OutputIdeal.τ).loc Cert.OutputIdeal.main_arg6)) →
    ∃ (v0 : (c : Dev Cert.OutputIdeal.nD) → Buf (Elt Ideal) ((c.tc : Thread Cert.OutputIdeal.nD Cert.OutputIdeal.τ).loc Cert.OutputIdeal.main_v9)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v9) = v0 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1)
          ∧ r.2.mem ((c.tc : Thread Cert.OutputIdeal.nD Cert.OutputIdeal.τ).loc Cert.OutputIdeal.main_arg2) = m ((c.tc : Thread Cert.OutputIdeal.nD Cert.OutputIdeal.τ).loc Cert.OutputIdeal.main_arg2)
          ∧ r.2.mem ((c.tc : Thread Cert.OutputIdeal.nD Cert.OutputIdeal.τ).loc Cert.OutputIdeal.main_arg3) = m ((c.tc : Thread Cert.OutputIdeal.nD Cert.OutputIdeal.τ).loc Cert.OutputIdeal.main_arg3)
          ∧ r.2.mem ((c.tc : Thread Cert.OutputIdeal.nD Cert.OutputIdeal.τ).loc Cert.OutputIdeal.main_arg4) = m ((c.tc : Thread Cert.OutputIdeal.nD Cert.OutputIdeal.τ).loc Cert.OutputIdeal.main_arg4)
          ∧ r.2.mem ((c.tc : Thread Cert.OutputIdeal.nD Cert.OutputIdeal.τ).loc Cert.OutputIdeal.main_arg5) = m ((c.tc : Thread Cert.OutputIdeal.nD Cert.OutputIdeal.τ).loc Cert.OutputIdeal.main_arg5)
          ∧ r.2.mem ((c.tc : Thread Cert.OutputIdeal.nD Cert.OutputIdeal.τ).loc Cert.OutputIdeal.main_arg6) = m ((c.tc : Thread Cert.OutputIdeal.nD Cert.OutputIdeal.τ).loc Cert.OutputIdeal.main_arg6))
      ∧ θ_run (Cert.OutputReferenceIdeal.defs (F := Ideal)) (onTc (τ := Cert.OutputReferenceIdeal.τ) (Cert.OutputReferenceIdeal.main (F := Ideal))) ⟨m', fun _ => 0, g'⟩ (fun r => ∀ c : Dev Cert.OutputReferenceIdeal.nD,
          r.2.mem ((c.tc : Thread Cert.OutputReferenceIdeal.nD Cert.OutputReferenceIdeal.τ).loc Cert.OutputReferenceIdeal.main_v32) = v0 c
          ∧ r.2.mem ((c.tc : Thread Cert.OutputReferenceIdeal.nD Cert.OutputReferenceIdeal.τ).loc Cert.OutputReferenceIdeal.main_arg0) = m' ((c.tc : Thread Cert.OutputReferenceIdeal.nD Cert.OutputReferenceIdeal.τ).loc Cert.OutputReferenceIdeal.main_arg0)
          ∧ r.2.mem ((c.tc : Thread Cert.OutputReferenceIdeal.nD Cert.OutputReferenceIdeal.τ).loc Cert.OutputReferenceIdeal.main_arg1) = m' ((c.tc : Thread Cert.OutputReferenceIdeal.nD Cert.OutputReferenceIdeal.τ).loc Cert.OutputReferenceIdeal.main_arg1)
          ∧ r.2.mem ((c.tc : Thread Cert.OutputReferenceIdeal.nD Cert.OutputReferenceIdeal.τ).loc Cert.OutputReferenceIdeal.main_arg2) = m' ((c.tc : Thread Cert.OutputReferenceIdeal.nD Cert.OutputReferenceIdeal.τ).loc Cert.OutputReferenceIdeal.main_arg2)
          ∧ r.2.mem ((c.tc : Thread Cert.OutputReferenceIdeal.nD Cert.OutputReferenceIdeal.τ).loc Cert.OutputReferenceIdeal.main_arg3) = m' ((c.tc : Thread Cert.OutputReferenceIdeal.nD Cert.OutputReferenceIdeal.τ).loc Cert.OutputReferenceIdeal.main_arg3)
          ∧ r.2.mem ((c.tc : Thread Cert.OutputReferenceIdeal.nD Cert.OutputReferenceIdeal.τ).loc Cert.OutputReferenceIdeal.main_arg4) = m' ((c.tc : Thread Cert.OutputReferenceIdeal.nD Cert.OutputReferenceIdeal.τ).loc Cert.OutputReferenceIdeal.main_arg4)
          ∧ r.2.mem ((c.tc : Thread Cert.OutputReferenceIdeal.nD Cert.OutputReferenceIdeal.τ).loc Cert.OutputReferenceIdeal.main_arg5) = m' ((c.tc : Thread Cert.OutputReferenceIdeal.nD Cert.OutputReferenceIdeal.τ).loc Cert.OutputReferenceIdeal.main_arg5)
          ∧ r.2.mem ((c.tc : Thread Cert.OutputReferenceIdeal.nD Cert.OutputReferenceIdeal.τ).loc Cert.OutputReferenceIdeal.main_arg6) = m' ((c.tc : Thread Cert.OutputReferenceIdeal.nD Cert.OutputReferenceIdeal.τ).loc Cert.OutputReferenceIdeal.main_arg6))

def preserves_OddOutput_OddOutputIdeal : Prop :=
  True

def algebraic_OddOutputIdeal_OddOutputReferenceIdeal [hOddOutputIdeal : Cert.OddOutputIdeal.Facts] [hOddOutputReferenceIdeal : Cert.OddOutputReferenceIdeal.Facts] : Prop :=
  ∀ (m : (ℓ : Loc Cert.OddOutputIdeal.nD Cert.OddOutputIdeal.τ Cert.OddOutputIdeal.sig) → Buf (Elt Ideal) ℓ) (g : Dev Cert.OddOutputIdeal.nD → PrngReg)
    (m' : (ℓ : Loc Cert.OddOutputReferenceIdeal.nD Cert.OddOutputReferenceIdeal.τ Cert.OddOutputReferenceIdeal.sig) → Buf (Elt Ideal) ℓ) (g' : Dev Cert.OddOutputReferenceIdeal.nD → PrngReg), Pre_OddOutputIdeal m →
    (∀ c : Dev Cert.OddOutputIdeal.nD,
      m' ((c.tc : Thread Cert.OddOutputReferenceIdeal.nD Cert.OddOutputReferenceIdeal.τ).loc Cert.OddOutputReferenceIdeal.main_arg0) = m ((c.tc : Thread Cert.OddOutputIdeal.nD Cert.OddOutputIdeal.τ).loc Cert.OddOutputIdeal.main_arg0)
      ∧ m' ((c.tc : Thread Cert.OddOutputReferenceIdeal.nD Cert.OddOutputReferenceIdeal.τ).loc Cert.OddOutputReferenceIdeal.main_arg1) = m ((c.tc : Thread Cert.OddOutputIdeal.nD Cert.OddOutputIdeal.τ).loc Cert.OddOutputIdeal.main_arg1)
      ∧ m' ((c.tc : Thread Cert.OddOutputReferenceIdeal.nD Cert.OddOutputReferenceIdeal.τ).loc Cert.OddOutputReferenceIdeal.main_arg2) = m ((c.tc : Thread Cert.OddOutputIdeal.nD Cert.OddOutputIdeal.τ).loc Cert.OddOutputIdeal.main_arg2)
      ∧ m' ((c.tc : Thread Cert.OddOutputReferenceIdeal.nD Cert.OddOutputReferenceIdeal.τ).loc Cert.OddOutputReferenceIdeal.main_arg3) = m ((c.tc : Thread Cert.OddOutputIdeal.nD Cert.OddOutputIdeal.τ).loc Cert.OddOutputIdeal.main_arg3)
      ∧ m' ((c.tc : Thread Cert.OddOutputReferenceIdeal.nD Cert.OddOutputReferenceIdeal.τ).loc Cert.OddOutputReferenceIdeal.main_arg4) = m ((c.tc : Thread Cert.OddOutputIdeal.nD Cert.OddOutputIdeal.τ).loc Cert.OddOutputIdeal.main_arg4)
      ∧ m' ((c.tc : Thread Cert.OddOutputReferenceIdeal.nD Cert.OddOutputReferenceIdeal.τ).loc Cert.OddOutputReferenceIdeal.main_arg5) = m ((c.tc : Thread Cert.OddOutputIdeal.nD Cert.OddOutputIdeal.τ).loc Cert.OddOutputIdeal.main_arg5)) →
    ∃ (v0 : (c : Dev Cert.OddOutputIdeal.nD) → Buf (Elt Ideal) ((c.tc : Thread Cert.OddOutputIdeal.nD Cert.OddOutputIdeal.τ).loc Cert.OddOutputIdeal.main_v7)),
      θ_run (Cert.OddOutputIdeal.defs (F := Ideal)) (onTc (τ := Cert.OddOutputIdeal.τ) (Cert.OddOutputIdeal.main (F := Ideal))) ⟨m, fun _ => 0, g⟩ (fun r => ∀ c : Dev Cert.OddOutputIdeal.nD,
          r.2.mem ((c.tc : Thread Cert.OddOutputIdeal.nD Cert.OddOutputIdeal.τ).loc Cert.OddOutputIdeal.main_v7) = v0 c
          ∧ r.2.mem ((c.tc : Thread Cert.OddOutputIdeal.nD Cert.OddOutputIdeal.τ).loc Cert.OddOutputIdeal.main_arg0) = m ((c.tc : Thread Cert.OddOutputIdeal.nD Cert.OddOutputIdeal.τ).loc Cert.OddOutputIdeal.main_arg0)
          ∧ r.2.mem ((c.tc : Thread Cert.OddOutputIdeal.nD Cert.OddOutputIdeal.τ).loc Cert.OddOutputIdeal.main_arg1) = m ((c.tc : Thread Cert.OddOutputIdeal.nD Cert.OddOutputIdeal.τ).loc Cert.OddOutputIdeal.main_arg1)
          ∧ r.2.mem ((c.tc : Thread Cert.OddOutputIdeal.nD Cert.OddOutputIdeal.τ).loc Cert.OddOutputIdeal.main_arg2) = m ((c.tc : Thread Cert.OddOutputIdeal.nD Cert.OddOutputIdeal.τ).loc Cert.OddOutputIdeal.main_arg2)
          ∧ r.2.mem ((c.tc : Thread Cert.OddOutputIdeal.nD Cert.OddOutputIdeal.τ).loc Cert.OddOutputIdeal.main_arg3) = m ((c.tc : Thread Cert.OddOutputIdeal.nD Cert.OddOutputIdeal.τ).loc Cert.OddOutputIdeal.main_arg3)
          ∧ r.2.mem ((c.tc : Thread Cert.OddOutputIdeal.nD Cert.OddOutputIdeal.τ).loc Cert.OddOutputIdeal.main_arg4) = m ((c.tc : Thread Cert.OddOutputIdeal.nD Cert.OddOutputIdeal.τ).loc Cert.OddOutputIdeal.main_arg4)
          ∧ r.2.mem ((c.tc : Thread Cert.OddOutputIdeal.nD Cert.OddOutputIdeal.τ).loc Cert.OddOutputIdeal.main_arg5) = m ((c.tc : Thread Cert.OddOutputIdeal.nD Cert.OddOutputIdeal.τ).loc Cert.OddOutputIdeal.main_arg5))
      ∧ θ_run (Cert.OddOutputReferenceIdeal.defs (F := Ideal)) (onTc (τ := Cert.OddOutputReferenceIdeal.τ) (Cert.OddOutputReferenceIdeal.main (F := Ideal))) ⟨m', fun _ => 0, g'⟩ (fun r => ∀ c : Dev Cert.OddOutputReferenceIdeal.nD,
          r.2.mem ((c.tc : Thread Cert.OddOutputReferenceIdeal.nD Cert.OddOutputReferenceIdeal.τ).loc Cert.OddOutputReferenceIdeal.main_v31) = v0 c
          ∧ r.2.mem ((c.tc : Thread Cert.OddOutputReferenceIdeal.nD Cert.OddOutputReferenceIdeal.τ).loc Cert.OddOutputReferenceIdeal.main_arg0) = m' ((c.tc : Thread Cert.OddOutputReferenceIdeal.nD Cert.OddOutputReferenceIdeal.τ).loc Cert.OddOutputReferenceIdeal.main_arg0)
          ∧ r.2.mem ((c.tc : Thread Cert.OddOutputReferenceIdeal.nD Cert.OddOutputReferenceIdeal.τ).loc Cert.OddOutputReferenceIdeal.main_arg1) = m' ((c.tc : Thread Cert.OddOutputReferenceIdeal.nD Cert.OddOutputReferenceIdeal.τ).loc Cert.OddOutputReferenceIdeal.main_arg1)
          ∧ r.2.mem ((c.tc : Thread Cert.OddOutputReferenceIdeal.nD Cert.OddOutputReferenceIdeal.τ).loc Cert.OddOutputReferenceIdeal.main_arg2) = m' ((c.tc : Thread Cert.OddOutputReferenceIdeal.nD Cert.OddOutputReferenceIdeal.τ).loc Cert.OddOutputReferenceIdeal.main_arg2)
          ∧ r.2.mem ((c.tc : Thread Cert.OddOutputReferenceIdeal.nD Cert.OddOutputReferenceIdeal.τ).loc Cert.OddOutputReferenceIdeal.main_arg3) = m' ((c.tc : Thread Cert.OddOutputReferenceIdeal.nD Cert.OddOutputReferenceIdeal.τ).loc Cert.OddOutputReferenceIdeal.main_arg3)
          ∧ r.2.mem ((c.tc : Thread Cert.OddOutputReferenceIdeal.nD Cert.OddOutputReferenceIdeal.τ).loc Cert.OddOutputReferenceIdeal.main_arg4) = m' ((c.tc : Thread Cert.OddOutputReferenceIdeal.nD Cert.OddOutputReferenceIdeal.τ).loc Cert.OddOutputReferenceIdeal.main_arg4)
          ∧ r.2.mem ((c.tc : Thread Cert.OddOutputReferenceIdeal.nD Cert.OddOutputReferenceIdeal.τ).loc Cert.OddOutputReferenceIdeal.main_arg5) = m' ((c.tc : Thread Cert.OddOutputReferenceIdeal.nD Cert.OddOutputReferenceIdeal.τ).loc Cert.OddOutputReferenceIdeal.main_arg5))

def preserves_OddInput_OddInputIdeal : Prop :=
  True

def algebraic_OddInputIdeal_OddInputReferenceIdeal [hOddInputIdeal : Cert.OddInputIdeal.Facts] [hOddInputReferenceIdeal : Cert.OddInputReferenceIdeal.Facts] : Prop :=
  ∀ (m : (ℓ : Loc Cert.OddInputIdeal.nD Cert.OddInputIdeal.τ Cert.OddInputIdeal.sig) → Buf (Elt Ideal) ℓ) (g : Dev Cert.OddInputIdeal.nD → PrngReg)
    (m' : (ℓ : Loc Cert.OddInputReferenceIdeal.nD Cert.OddInputReferenceIdeal.τ Cert.OddInputReferenceIdeal.sig) → Buf (Elt Ideal) ℓ) (g' : Dev Cert.OddInputReferenceIdeal.nD → PrngReg), Pre_OddInputIdeal m →
    (∀ c : Dev Cert.OddInputIdeal.nD,
      m' ((c.tc : Thread Cert.OddInputReferenceIdeal.nD Cert.OddInputReferenceIdeal.τ).loc Cert.OddInputReferenceIdeal.main_arg0) = m ((c.tc : Thread Cert.OddInputIdeal.nD Cert.OddInputIdeal.τ).loc Cert.OddInputIdeal.main_arg0)
      ∧ m' ((c.tc : Thread Cert.OddInputReferenceIdeal.nD Cert.OddInputReferenceIdeal.τ).loc Cert.OddInputReferenceIdeal.main_arg1) = m ((c.tc : Thread Cert.OddInputIdeal.nD Cert.OddInputIdeal.τ).loc Cert.OddInputIdeal.main_arg1)
      ∧ m' ((c.tc : Thread Cert.OddInputReferenceIdeal.nD Cert.OddInputReferenceIdeal.τ).loc Cert.OddInputReferenceIdeal.main_arg2) = m ((c.tc : Thread Cert.OddInputIdeal.nD Cert.OddInputIdeal.τ).loc Cert.OddInputIdeal.main_arg2)
      ∧ m' ((c.tc : Thread Cert.OddInputReferenceIdeal.nD Cert.OddInputReferenceIdeal.τ).loc Cert.OddInputReferenceIdeal.main_arg3) = m ((c.tc : Thread Cert.OddInputIdeal.nD Cert.OddInputIdeal.τ).loc Cert.OddInputIdeal.main_arg3)) →
    ∃ (v0 : (c : Dev Cert.OddInputIdeal.nD) → Buf (Elt Ideal) ((c.tc : Thread Cert.OddInputIdeal.nD Cert.OddInputIdeal.τ).loc Cert.OddInputIdeal.main_v31)),
      θ_run (Cert.OddInputIdeal.defs (F := Ideal)) (onTc (τ := Cert.OddInputIdeal.τ) (Cert.OddInputIdeal.main (F := Ideal))) ⟨m, fun _ => 0, g⟩ (fun r => ∀ c : Dev Cert.OddInputIdeal.nD,
          r.2.mem ((c.tc : Thread Cert.OddInputIdeal.nD Cert.OddInputIdeal.τ).loc Cert.OddInputIdeal.main_v31) = v0 c
          ∧ r.2.mem ((c.tc : Thread Cert.OddInputIdeal.nD Cert.OddInputIdeal.τ).loc Cert.OddInputIdeal.main_arg0) = m ((c.tc : Thread Cert.OddInputIdeal.nD Cert.OddInputIdeal.τ).loc Cert.OddInputIdeal.main_arg0)
          ∧ r.2.mem ((c.tc : Thread Cert.OddInputIdeal.nD Cert.OddInputIdeal.τ).loc Cert.OddInputIdeal.main_arg1) = m ((c.tc : Thread Cert.OddInputIdeal.nD Cert.OddInputIdeal.τ).loc Cert.OddInputIdeal.main_arg1)
          ∧ r.2.mem ((c.tc : Thread Cert.OddInputIdeal.nD Cert.OddInputIdeal.τ).loc Cert.OddInputIdeal.main_arg2) = m ((c.tc : Thread Cert.OddInputIdeal.nD Cert.OddInputIdeal.τ).loc Cert.OddInputIdeal.main_arg2)
          ∧ r.2.mem ((c.tc : Thread Cert.OddInputIdeal.nD Cert.OddInputIdeal.τ).loc Cert.OddInputIdeal.main_arg3) = m ((c.tc : Thread Cert.OddInputIdeal.nD Cert.OddInputIdeal.τ).loc Cert.OddInputIdeal.main_arg3))
      ∧ θ_run (Cert.OddInputReferenceIdeal.defs (F := Ideal)) (onTc (τ := Cert.OddInputReferenceIdeal.τ) (Cert.OddInputReferenceIdeal.main (F := Ideal))) ⟨m', fun _ => 0, g'⟩ (fun r => ∀ c : Dev Cert.OddInputReferenceIdeal.nD,
          r.2.mem ((c.tc : Thread Cert.OddInputReferenceIdeal.nD Cert.OddInputReferenceIdeal.τ).loc Cert.OddInputReferenceIdeal.main_v96) = v0 c
          ∧ r.2.mem ((c.tc : Thread Cert.OddInputReferenceIdeal.nD Cert.OddInputReferenceIdeal.τ).loc Cert.OddInputReferenceIdeal.main_arg0) = m' ((c.tc : Thread Cert.OddInputReferenceIdeal.nD Cert.OddInputReferenceIdeal.τ).loc Cert.OddInputReferenceIdeal.main_arg0)
          ∧ r.2.mem ((c.tc : Thread Cert.OddInputReferenceIdeal.nD Cert.OddInputReferenceIdeal.τ).loc Cert.OddInputReferenceIdeal.main_arg1) = m' ((c.tc : Thread Cert.OddInputReferenceIdeal.nD Cert.OddInputReferenceIdeal.τ).loc Cert.OddInputReferenceIdeal.main_arg1)
          ∧ r.2.mem ((c.tc : Thread Cert.OddInputReferenceIdeal.nD Cert.OddInputReferenceIdeal.τ).loc Cert.OddInputReferenceIdeal.main_arg2) = m' ((c.tc : Thread Cert.OddInputReferenceIdeal.nD Cert.OddInputReferenceIdeal.τ).loc Cert.OddInputReferenceIdeal.main_arg2)
          ∧ r.2.mem ((c.tc : Thread Cert.OddInputReferenceIdeal.nD Cert.OddInputReferenceIdeal.τ).loc Cert.OddInputReferenceIdeal.main_arg3) = m' ((c.tc : Thread Cert.OddInputReferenceIdeal.nD Cert.OddInputReferenceIdeal.τ).loc Cert.OddInputReferenceIdeal.main_arg3))

def Claim : Prop :=
  ∃ (hKernel : Cert.Kernel.Facts) (hKernelIdeal : Cert.KernelIdeal.Facts) (hReferenceIdeal : Cert.ReferenceIdeal.Facts) (hQuery : Cert.Query.Facts) (hQueryIdeal : Cert.QueryIdeal.Facts) (hQueryReferenceIdeal : Cert.QueryReferenceIdeal.Facts) (hInput : Cert.Input.Facts) (hInputIdeal : Cert.InputIdeal.Facts) (hInputReferenceIdeal : Cert.InputReferenceIdeal.Facts) (hOutput : Cert.Output.Facts) (hOutputIdeal : Cert.OutputIdeal.Facts) (hOutputReferenceIdeal : Cert.OutputReferenceIdeal.Facts) (hOddOutput : Cert.OddOutput.Facts) (hOddOutputIdeal : Cert.OddOutputIdeal.Facts) (hOddOutputReferenceIdeal : Cert.OddOutputReferenceIdeal.Facts) (hOddInput : Cert.OddInput.Facts) (hOddInputIdeal : Cert.OddInputIdeal.Facts) (hOddInputReferenceIdeal : Cert.OddInputReferenceIdeal.Facts) (hPre_finite_values : Cert.Pre_finite_values.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_Query (hQuery := hQuery)
    ∧ quiescent_QueryIdeal (hQueryIdeal := hQueryIdeal)
    ∧ quiescent_QueryReferenceIdeal (hQueryReferenceIdeal := hQueryReferenceIdeal)
    ∧ quiescent_Input (hInput := hInput)
    ∧ quiescent_InputIdeal (hInputIdeal := hInputIdeal)
    ∧ quiescent_InputReferenceIdeal (hInputReferenceIdeal := hInputReferenceIdeal)
    ∧ quiescent_Output (hOutput := hOutput)
    ∧ quiescent_OutputIdeal (hOutputIdeal := hOutputIdeal)
    ∧ quiescent_OutputReferenceIdeal (hOutputReferenceIdeal := hOutputReferenceIdeal)
    ∧ quiescent_OddOutput (hOddOutput := hOddOutput)
    ∧ quiescent_OddOutputIdeal (hOddOutputIdeal := hOddOutputIdeal)
    ∧ quiescent_OddOutputReferenceIdeal (hOddOutputReferenceIdeal := hOddOutputReferenceIdeal)
    ∧ quiescent_OddInput (hOddInput := hOddInput)
    ∧ quiescent_OddInputIdeal (hOddInputIdeal := hOddInputIdeal)
    ∧ quiescent_OddInputReferenceIdeal (hOddInputReferenceIdeal := hOddInputReferenceIdeal)
    ∧ preserves_Kernel_KernelIdeal
    ∧ algebraic_KernelIdeal_ReferenceIdeal_pre_finite_values (hKernelIdeal := hKernelIdeal) (hReferenceIdeal := hReferenceIdeal) (hPre_finite_values := hPre_finite_values)
    ∧ preserves_Query_QueryIdeal
    ∧ algebraic_QueryIdeal_QueryReferenceIdeal (hQueryIdeal := hQueryIdeal) (hQueryReferenceIdeal := hQueryReferenceIdeal)
    ∧ preserves_Input_InputIdeal
    ∧ algebraic_InputIdeal_InputReferenceIdeal (hInputIdeal := hInputIdeal) (hInputReferenceIdeal := hInputReferenceIdeal)
    ∧ preserves_Output_OutputIdeal
    ∧ algebraic_OutputIdeal_OutputReferenceIdeal (hOutputIdeal := hOutputIdeal) (hOutputReferenceIdeal := hOutputReferenceIdeal)
    ∧ preserves_OddOutput_OddOutputIdeal
    ∧ algebraic_OddOutputIdeal_OddOutputReferenceIdeal (hOddOutputIdeal := hOddOutputIdeal) (hOddOutputReferenceIdeal := hOddOutputReferenceIdeal)
    ∧ preserves_OddInput_OddInputIdeal
    ∧ algebraic_OddInputIdeal_OddInputReferenceIdeal (hOddInputIdeal := hOddInputIdeal) (hOddInputReferenceIdeal := hOddInputReferenceIdeal)
-- ==== Pre_finite_values.lean ====
abbrev S2x8192x4x2x64 : Shape := ⟨5, ![2, 8192, 4, 2, 64]⟩
abbrev S2x8192x4x128 : Shape := ⟨4, ![2, 8192, 4, 128]⟩
abbrev S64 : Shape := ⟨1, ![64]⟩
abbrev S128 : Shape := ⟨1, ![128]⟩
abbrev S_ : Shape := ⟨0, ![]⟩

class Facts : Prop where
  bcast_S_S2x8192x4x128 : S_.BroadcastsInDim S2x8192x4x128 (![] : Fin 0 → Fin S2x8192x4x128.rank)
  reducesTo_S2x8192x4x128_S_d0_1_2_3 : S2x8192x4x128.ReducesTo [0, 1, 2, 3] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S2x8192x4x2x64 .f32) (main_arg1 : FVec F S2x8192x4x2x64 .f32) (main_arg2 : FVec F S2x8192x4x128 .f32) (main_arg3 : FVec F S64 .f32) (main_arg4 : FVec F S64 .f32) (main_arg5 : FVec F S64 .f32) (main_arg6 : FVec F S64 .f32) (main_arg7 : FVec F S128 .f32) : IVec S_ 1 :=
  let main_v0 : FVec F S2x8192x4x128 .f32 := Host.absf main_arg2
  let main_cst : FVec F S_ .f32 := constant S_ .f32 0x7F800000#32
  let main_v1 : FVec F S2x8192x4x128 .f32 := broadcastInDim S2x8192x4x128 ![] bcast_S_S2x8192x4x128 main_cst
  let main_v2 : IVec S2x8192x4x128 1 := cmpf .olt main_v0 main_v1
  let main_c : IVec S_ 1 := constantI S_ 1 1#1
  let main_v3 : IVec S_ 1 := (fun x v => Host.reduce IntOp.andi x v reducesTo_S2x8192x4x128_S_d0_1_2_3 h_S_) main_v2 main_c
  let main_v4 : FVec F S64 .f32 := Host.absf main_arg3
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_v13 main_v16
-- ==== Kernel.lean ====
abbrev S2x8192x4x2x64 : Shape := ⟨5, ![2, 8192, 4, 2, 64]⟩
abbrev S2x8192x4x128 : Shape := ⟨4, ![2, 8192, 4, 128]⟩
abbrev S64 : Shape := ⟨1, ![64]⟩
abbrev S128 : Shape := ⟨1, ![128]⟩
abbrev S_ : Shape := ⟨0, ![]⟩
abbrev S16384x512 : Shape := ⟨2, ![16384, 512]⟩
abbrev S16384x1536 : Shape := ⟨2, ![16384, 1536]⟩
abbrev S16384x3072 : Shape := ⟨2, ![16384, 3072]⟩
abbrev S1x64 : Shape := ⟨2, ![1, 64]⟩
abbrev S4x64 : Shape := ⟨2, ![4, 64]⟩
abbrev S1x128 : Shape := ⟨2, ![1, 128]⟩
abbrev S1024x128 : Shape := ⟨2, ![1024, 128]⟩
abbrev S2048x128 : Shape := ⟨2, ![2048, 128]⟩
abbrev S2x1024x128 : Shape := ⟨3, ![2, 1024, 128]⟩
abbrev S1024x2048 : Shape := ⟨2, ![1024, 2048]⟩
abbrev S1x1024x128 : Shape := ⟨3, ![1, 1024, 128]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 31
  | .vmem => 13
  | .smem => 0
  | _ => 0

abbrev bufTy : (tb : Table) → Fin (tcTables nBuf tb) → BufTy
  | .hbm, ⟨0, _⟩ => ⟨S2x8192x4x2x64, .f32⟩
  | .hbm, ⟨1, _⟩ => ⟨S2x8192x4x2x64, .f32⟩
  | .hbm, ⟨2, _⟩ => ⟨S2x8192x4x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x8192x4x2x64, .f32⟩
  | .hbm, ⟨14, _⟩ => ⟨S2x8192x4x2x64, .f32⟩
  | .hbm, ⟨15, _⟩ => ⟨S16384x512, .f32⟩
  | .hbm, ⟨16, _⟩ => ⟨S16384x512, .bf16⟩
  | .hbm, ⟨17, _⟩ => ⟨S_, .bf16⟩
  | .hbm, ⟨18, _⟩ => ⟨S16384x1536, .bf16⟩
  | .hbm, ⟨19, _⟩ => ⟨S16384x512, .f32⟩
  | .hbm, ⟨20, _⟩ => ⟨S16384x512, .bf16⟩
  | .hbm, ⟨21, _⟩ => ⟨S16384x512, .f32⟩
  | .hbm, ⟨22, _⟩ => ⟨S16384x512, .bf16⟩
  | .hbm, ⟨23, _⟩ => ⟨S16384x3072, .bf16⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S1x64, .f32⟩
  | .hbm, ⟨28, _⟩ => ⟨S4x64, .f32⟩
  | .hbm, ⟨29, _⟩ => ⟨S1x128, .f32⟩
  | .hbm, ⟨30, _⟩ => ⟨S16384x512, .bf16⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S4x64, .f32⟩
  | .local _ .vmem, ⟨7, _⟩ => ⟨S1x128, .f32⟩
  | .local _ .vmem, ⟨8, _⟩ => ⟨S1024x128, .bf16⟩
  | .local _ .vmem, ⟨9, _⟩ => ⟨S1024x128, .bf16⟩
  | .local _ .vmem, ⟨10, _⟩ => ⟨S2x1024x128, .f32⟩
  | .local _ .vmem, ⟨11, _⟩ => ⟨S2x1024x128, .f32⟩
  | .local _ .vmem, ⟨12, _⟩ => ⟨S2x1024x128, .f32⟩
  | _, _ => ⟨S2x8192x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨4, ![2, 4, 8, 4], ![false, false, false, false]⟩

def k0_cond2 (i : grid0.Coords) : BitVec 1 :=
  let arg3 : BitVec 32 := BitVec.ofNat 32 (i 3).val
  let c3_i32 : BitVec 32 := 3#32
  let v101 : BitVec 1 := Scalar.cmpi .eq arg3 c3_i32
  let v102 : BitVec 32 := Scalar.extui v101
  let c0_i32_55 : BitVec 32 := 0#32
  let v103 : BitVec 1 := Scalar.cmpi .ne v102 c0_i32_55
  v103

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg3
  let c16_i32 : BitVec 32 := 16#32
  let v2 : BitVec 32 := Scalar.addi c16_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg3
  let c20_i32 : BitVec 32 := 20#32
  let v2 : BitVec 32 := Scalar.addi c20_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]
-- ==== ReferenceIdeal.lean ====
abbrev S2x8192x4x2x64 : Shape := ⟨5, ![2, 8192, 4, 2, 64]⟩
abbrev S2x8192x4x128 : Shape := ⟨4, ![2, 8192, 4, 128]⟩
abbrev S64 : Shape := ⟨1, ![64]⟩
abbrev S128 : Shape := ⟨1, ![128]⟩
abbrev S_ : Shape := ⟨0, ![]⟩
abbrev S2x4x2x8192x8192 : Shape := ⟨5, ![2, 4, 2, 8192, 8192]⟩
abbrev S2x4x2x8192 : Shape := ⟨4, ![2, 4, 2, 8192]⟩
abbrev S2x4x2x8192x1 : Shape := ⟨5, ![2, 4, 2, 8192, 1]⟩
abbrev S2x4x1x8192x8192 : Shape := ⟨5, ![2, 4, 1, 8192, 8192]⟩
abbrev S2x4x8192x8192 : Shape := ⟨4, ![2, 4, 8192, 8192]⟩
abbrev S2x4x128x8192 : Shape := ⟨4, ![2, 4, 128, 8192]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩
abbrev S16384x512 : Shape := ⟨2, ![16384, 512]⟩

abbrev nBuf : Space → Nat
  | .hbm => 67
  | .vmem => 0
  | .smem => 0
  | _ => 0

abbrev bufTy : (tb : Table) → Fin (tcTables nBuf tb) → BufTy
  | .hbm, ⟨0, _⟩ => ⟨S2x8192x4x2x64, .f32⟩
  | .hbm, ⟨1, _⟩ => ⟨S2x8192x4x2x64, .f32⟩
  | .hbm, ⟨2, _⟩ => ⟨S2x8192x4x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2x4x2x8192x8192, .f32⟩
  | .hbm, ⟨20, _⟩ => ⟨S_, .f32⟩
  | .hbm, ⟨21, _⟩ => ⟨S2x4x2x8192x8192, .f32⟩
  | .hbm, ⟨22, _⟩ => ⟨S2x4x2x8192x8192, .f32⟩
  | .hbm, ⟨23, _⟩ => ⟨S_, .f32⟩
  | .hbm, ⟨24, _⟩ => ⟨S2x4x2x8192, .f32⟩
  | .hbm, ⟨25, _⟩ => ⟨S_, .f32⟩
  | .hbm, ⟨26, _⟩ => ⟨S2x4x2x8192, .f32⟩
  | .hbm, ⟨27, _⟩ => ⟨S2x4x2x8192, .f32⟩
  | .hbm, ⟨28, _⟩ => ⟨S2x4x2x8192x1, .f32⟩
  | .hbm, ⟨29, _⟩ => ⟨S2x4x2x8192x8192, .f32⟩
  | .hbm, ⟨30, _⟩ => ⟨S2x4x2x8192x8192, .f32⟩
  | .hbm, ⟨31, _⟩ => ⟨S2x4x2x8192x8192, .f32⟩
  | .hbm, ⟨32, _⟩ => ⟨S_, .f32⟩
  | .hbm, ⟨33, _⟩ => ⟨S2x4x2x8192, .f32⟩
  | .hbm, ⟨34, _⟩ => ⟨S2x4x2x8192x1, .f32⟩
  | .hbm, ⟨35, _⟩ => ⟨S2x4x2x8192x8192, .f32⟩
  | .hbm, ⟨36, _⟩ => ⟨S2x4x2x8192x8192, .f32⟩
  | .hbm, ⟨37, _⟩ => ⟨S2x4x1x8192x8192, .f32⟩
  | .hbm, ⟨38, _⟩ => ⟨S2x4x8192x8192, .f32⟩
  | .hbm, ⟨39, _⟩ => ⟨S2x4x1x8192x8192, .f32⟩
  | .hbm, ⟨40, _⟩ => ⟨S2x4x8192x8192, .f32⟩
  | .hbm, ⟨41, _⟩ => ⟨S2x4x8192x8192, .f32⟩
  | .hbm, ⟨42, _⟩ => ⟨S2x4x8192x8192, .f32⟩
  | .hbm, ⟨43, _⟩ => ⟨S2x4x8192x8192, .f32⟩
  | .hbm, ⟨44, _⟩ => ⟨S2x4x128x8192, .f32⟩
  | .hbm, ⟨45, _⟩ => ⟨S2x8192x4x128, .f32⟩
  | .hbm, ⟨46, _⟩ => ⟨S2x8192x4x128, .f32⟩
  | .hbm, ⟨47, _⟩ => ⟨S_, .f32⟩
  | .hbm, ⟨48, _⟩ => ⟨S2x8192x4, .f32⟩
  | .hbm, ⟨49, _⟩ => ⟨S2x8192x4x1, .f32⟩
  | .hbm, ⟨50, _⟩ => ⟨S_, .f32⟩
  | .hbm, ⟨51, _⟩ => ⟨S2x8192x4x1, .f32⟩
  | .hbm, ⟨52, _⟩ => ⟨S2x8192x4x1, .f32⟩
  | .hbm, ⟨53, _⟩ => ⟨S_, .f32⟩
  | .hbm, ⟨54, _⟩ => ⟨S2x8192x4x1, .f32⟩
  | .hbm, ⟨55, _⟩ => ⟨S2x8192x4x1, .f32⟩
  | .hbm, ⟨56, _⟩ => ⟨S2x8192x4x1, .f32⟩
  | .hbm, ⟨57, _⟩ => ⟨S2x8192x4x128, .f32⟩
  | .hbm, ⟨58, _⟩ => ⟨S2x8192x4x128, .f32⟩
  | .hbm, ⟨59, _⟩ => ⟨S1x1x1x128, .f32⟩
  | .hbm, ⟨60, _⟩ => ⟨S2x8192x4x128, .f32⟩
  | .hbm, ⟨61, _⟩ => ⟨S2x8192x4x128, .f32⟩
  | .hbm, ⟨62, _⟩ => ⟨S_, .f32⟩
  | .hbm, ⟨63, _⟩ => ⟨S2x8192x4x128, .f32⟩
  | .hbm, ⟨64, _⟩ => ⟨S2x8192x4x128, .f32⟩
  | .hbm, ⟨65, _⟩ => ⟨S16384x512, .f32⟩
  | .hbm, ⟨66, _⟩ => ⟨S16384x512, .bf16⟩
  | _, _ => ⟨S2x8192x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== Query.lean ====
abbrev S2x8192x1024 : Shape := ⟨3, ![2, 8192, 1024]⟩
abbrev S2x1024 : Shape := ⟨2, ![2, 1024]⟩
abbrev S1024x2048 : Shape := ⟨2, ![1024, 2048]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S16384x1024 : Shape := ⟨2, ![16384, 1024]⟩
abbrev S2x1x1024 : Shape := ⟨3, ![2, 1, 1024]⟩
abbrev S16384x2048 : Shape := ⟨2, ![16384, 2048]⟩
abbrev S512x1024 : Shape := ⟨2, ![512, 1024]⟩
abbrev S1x1x1024 : Shape := ⟨3, ![1, 1, 1024]⟩
abbrev S512x128 : Shape := ⟨2, ![512, 128]⟩
abbrev S512x2048 : Shape := ⟨2, ![512, 2048]⟩
abbrev S1x1024 : Shape := ⟨2, ![1, 1024]⟩
abbrev S1024x256 : Shape := ⟨2, ![1024, 256]⟩
abbrev S512x256 : Shape := ⟨2, ![512, 256]⟩

abbrev nBuf : Space → Nat
  | .hbm => 37
  | .vmem => 15
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024, .f32⟩
  | .hbm, ⟨3, _⟩ => ⟨S1024x2048, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S8192, .f32⟩
  | .hbm, ⟨21, _⟩ => ⟨S8192x1, .f32⟩
  | .hbm, ⟨22, _⟩ => ⟨S1x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S8192x128, .f32⟩
  | .hbm, ⟨29, _⟩ => ⟨S8192x32, .f32⟩
  | .hbm, ⟨30, _⟩ => ⟨S8192x128, .f32⟩
  | .hbm, ⟨31, _⟩ => ⟨S16384x1024, .f32⟩
  | .hbm, ⟨32, _⟩ => ⟨S2x1x1024, .f32⟩
  | .hbm, ⟨33, _⟩ => ⟨S2x1x1024, .f32⟩
  | .hbm, ⟨34, _⟩ => ⟨S1024x2048, .bf16⟩
  | .hbm, ⟨35, _⟩ => ⟨S16384x2048, .bf16⟩
  | .hbm, ⟨36, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2048, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x2048, .bf16⟩
  | .local _ .vmem, ⟨12, _⟩ => ⟨S512x2048, .bf16⟩
  | .local _ .vmem, ⟨13, _⟩ => ⟨S512x1024, .bf16⟩
  | .local _ .vmem, ⟨14, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26_0 : Ref sig .tc := ⟨.hbm, 35, rfl⟩
abbrev main_v26_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QueryReferenceIdeal.lean ====
abbrev S2x8192x1024 : Shape := ⟨3, ![2, 8192, 1024]⟩
abbrev S2x1024 : Shape := ⟨2, ![2, 1024]⟩
abbrev S1024x2048 : Shape := ⟨2, ![1024, 2048]⟩
abbrev S2x1x1024 : Shape := ⟨3, ![2, 1, 1024]⟩
abbrev S_ : Shape := ⟨0, ![]⟩
abbrev S2x8192x2048 : Shape := ⟨3, ![2, 8192, 2048]⟩
abbrev S16384x2048 : Shape := ⟨2, ![16384, 2048]⟩
abbrev S16384x1024 : Shape := ⟨2, ![16384, 1024]⟩

abbrev nBuf : Space → Nat
  | .hbm => 21
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024, .f32⟩
  | .hbm, ⟨3, _⟩ => ⟨S1024x2048, .f32⟩
  | .hbm, ⟨4, _⟩ => ⟨S2x1x1024, .f32⟩
  | .hbm, ⟨5, _⟩ => ⟨S_, .f32⟩
  | .hbm, ⟨6, _⟩ => ⟨S2x1x1024, .f32⟩
  | .hbm, ⟨7, _⟩ => ⟨S2x1x1024, .f32⟩
  | .hbm, ⟨8, _⟩ => ⟨S2x8192x1024, .f32⟩
  | .hbm, ⟨9, _⟩ => ⟨S2x8192x1024, .f32⟩
  | .hbm, ⟨10, _⟩ => ⟨S2x1x1024, .f32⟩
  | .hbm, ⟨11, _⟩ => ⟨S2x8192x1024, .f32⟩
  | .hbm, ⟨12, _⟩ => ⟨S2x8192x1024, .f32⟩
  | .hbm, ⟨13, _⟩ => ⟨S2x8192x2048, .f32⟩
  | .hbm, ⟨14, _⟩ => ⟨S16384x2048, .f32⟩
  | .hbm, ⟨15, _⟩ => ⟨S16384x2048, .bf16⟩
  | .hbm, ⟨16, _⟩ => ⟨S_, .f32⟩
  | .hbm, ⟨17, _⟩ => ⟨S2x8192x1024, .f32⟩
  | .hbm, ⟨18, _⟩ => ⟨S2x8192x1024, .f32⟩
  | .hbm, ⟨19, _⟩ => ⟨S16384x1024, .f32⟩
  | .hbm, ⟨20, _⟩ => ⟨S16384x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Input.lean ====
abbrev S2x8192x1024 : Shape := ⟨3, ![2, 8192, 1024]⟩
abbrev S2x1024 : Shape := ⟨2, ![2, 1024]⟩
abbrev S1024x3072 : Shape := ⟨2, ![1024, 3072]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S16384x1024 : Shape := ⟨2, ![16384, 1024]⟩
abbrev S2x1x1024 : Shape := ⟨3, ![2, 1, 1024]⟩
abbrev S16384x3072 : Shape := ⟨2, ![16384, 3072]⟩
abbrev S512x1024 : Shape := ⟨2, ![512, 1024]⟩
abbrev S1x1x1024 : Shape := ⟨3, ![1, 1, 1024]⟩
abbrev S512x128 : Shape := ⟨2, ![512, 128]⟩
abbrev S512x3072 : Shape := ⟨2, ![512, 3072]⟩
abbrev S1x1024 : Shape := ⟨2, ![1, 1024]⟩
abbrev S1024x256 : Shape := ⟨2, ![1024, 256]⟩
abbrev S512x256 : Shape := ⟨2, ![512, 256]⟩

abbrev nBuf : Space → Nat
  | .hbm => 36
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024, .f32⟩
  | .hbm, ⟨3, _⟩ => ⟨S1024x3072, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S8192, .f32⟩
  | .hbm, ⟨21, _⟩ => ⟨S8192x1, .f32⟩
  | .hbm, ⟨22, _⟩ => ⟨S1x32, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S8192x128, .f32⟩
  | .hbm, ⟨29, _⟩ => ⟨S8192x32, .f32⟩
  | .hbm, ⟨30, _⟩ => ⟨S8192x128, .f32⟩
  | .hbm, ⟨31, _⟩ => ⟨S16384x1024, .f32⟩
  | .hbm, ⟨32, _⟩ => ⟨S2x1x1024, .f32⟩
  | .hbm, ⟨33, _⟩ => ⟨S2x1x1024, .f32⟩
  | .hbm, ⟨34, _⟩ => ⟨S1024x3072, .bf16⟩
  | .hbm, ⟨35, _⟩ => ⟨S16384x3072, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3072, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x3072, .bf16⟩
  | .local _ .vmem, ⟨12, _⟩ => ⟨S512x3072, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InputIdeal.lean ====
variable {F : FTy → Type} [FloatOps F] [Named F]
def κ : String → Option EReal := fun
  | "scale" => some (((1 / 8) * (Real.log 2)⁻¹ : ℝ) : EReal)
  | _ => none
-- ==== InputReferenceIdeal.lean ====
abbrev S2x8192x1024 : Shape := ⟨3, ![2, 8192, 1024]⟩
abbrev S2x1024 : Shape := ⟨2, ![2, 1024]⟩
abbrev S1024x3072 : Shape := ⟨2, ![1024, 3072]⟩
abbrev S2x1x1024 : Shape := ⟨3, ![2, 1, 1024]⟩
abbrev S_ : Shape := ⟨0, ![]⟩
abbrev S2x8192x3072 : Shape := ⟨3, ![2, 8192, 3072]⟩
abbrev S2x8192x512 : Shape := ⟨3, ![2, 8192, 512]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S2x8192x8x64 : Shape := ⟨4, ![2, 8192, 8, 64]⟩
abbrev S2x8192x8x32 : Shape := ⟨4, ![2, 8192, 8, 32]⟩
abbrev S16384x3072 : Shape := ⟨2, ![16384, 3072]⟩

abbrev nBuf : Space → Nat
  | .hbm => 115
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024, .f32⟩
  | .hbm, ⟨3, _⟩ => ⟨S1024x3072, .f32⟩
  | .hbm, ⟨4, _⟩ => ⟨S2x1x1024, .f32⟩
  | .hbm, ⟨5, _⟩ => ⟨S_, .f32⟩
  | .hbm, ⟨6, _⟩ => ⟨S2x1x1024, .f32⟩
  | .hbm, ⟨7, _⟩ => ⟨S2x1x1024, .f32⟩
  | .hbm, ⟨8, _⟩ => ⟨S2x8192x1024, .f32⟩
  | .hbm, ⟨9, _⟩ => ⟨S2x8192x1024, .f32⟩
  | .hbm, ⟨10, _⟩ => ⟨S2x1x1024, .f32⟩
  | .hbm, ⟨11, _⟩ => ⟨S2x8192x1024, .f32⟩
  | .hbm, ⟨12, _⟩ => ⟨S2x8192x1024, .f32⟩
  | .hbm, ⟨13, _⟩ => ⟨S2x8192x3072, .f32⟩
  | .hbm, ⟨14, _⟩ => ⟨S2x8192x512, .f32⟩
  | .hbm, ⟨15, _⟩ => ⟨S2x8192x512, .f32⟩
  | .hbm, ⟨16, _⟩ => ⟨S2x8192x512, .f32⟩
  | .hbm, ⟨17, _⟩ => ⟨S2x8192x512, .f32⟩
  | .hbm, ⟨18, _⟩ => ⟨S2x8192x512, .f32⟩
  | .hbm, ⟨19, _⟩ => ⟨S2x8192x512, .f32⟩
  | .hbm, ⟨20, _⟩ => ⟨S_, .f32⟩
  | .hbm, ⟨21, _⟩ => ⟨S2x8192x512, .f32⟩
  | .hbm, ⟨22, _⟩ => ⟨S2x8192x512, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S8192, .f32⟩
  | .hbm, ⟨40, _⟩ => ⟨S8192x1, .f32⟩
  | .hbm, ⟨41, _⟩ => ⟨S1x32, .f32⟩
  | .hbm, ⟨42, _⟩ => ⟨S8192x32, .f32⟩
  | .hbm, ⟨43, _⟩ => ⟨S8192x32, .f32⟩
  | .hbm, ⟨44, _⟩ => ⟨S8192x32, .f32⟩
  | .hbm, ⟨45, _⟩ => ⟨S8192x32, .f32⟩
  | .hbm, ⟨46, _⟩ => ⟨S1x8192x1x32, .f32⟩
  | .hbm, ⟨47, _⟩ => ⟨S8192x32, .f32⟩
  | .hbm, ⟨48, _⟩ => ⟨S1x8192x1x32, .f32⟩
  | .hbm, ⟨49, _⟩ => ⟨S2x8192x8x64, .f32⟩
  | .hbm, ⟨50, _⟩ => ⟨S2x8192x8x32, .f32⟩
  | .hbm, ⟨51, _⟩ => ⟨S2x8192x8x32, .f32⟩
  | .hbm, ⟨52, _⟩ => ⟨S2x8192x8x32, .f32⟩
  | .hbm, ⟨53, _⟩ => ⟨S2x8192x8x32, .f32⟩
  | .hbm, ⟨54, _⟩ => ⟨S2x8192x8x32, .f32⟩
  | .hbm, ⟨55, _⟩ => ⟨S2x8192x8x32, .f32⟩
  | .hbm, ⟨56, _⟩ => ⟨S2x8192x8x32, .f32⟩
  | .hbm, ⟨57, _⟩ => ⟨S2x8192x8x32, .f32⟩
  | .hbm, ⟨58, _⟩ => ⟨S2x8192x8x32, .f32⟩
  | .hbm, ⟨59, _⟩ => ⟨S2x8192x8x32, .f32⟩
  | .hbm, ⟨60, _⟩ => ⟨S2x8192x8x32, .f32⟩
  | .hbm, ⟨61, _⟩ => ⟨S2x8192x8x32, .f32⟩
  | .hbm, ⟨62, _⟩ => ⟨S2x8192x8x64, .f32⟩
  | .hbm, ⟨63, _⟩ => ⟨S2x8192x512, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S2x8192x512, .f32⟩
  | .hbm, ⟨70, _⟩ => ⟨S2x8192x512, .f32⟩
  | .hbm, ⟨71, _⟩ => ⟨S32, .f32⟩
  | .hbm, ⟨72, _⟩ => ⟨S_, .f32⟩
  | .hbm, ⟨73, _⟩ => ⟨S32, .f32⟩
  | .hbm, ⟨74, _⟩ => ⟨S32, .f32⟩
  | .hbm, ⟨75, _⟩ => ⟨S_, .f32⟩
  | .hbm, ⟨76, _⟩ => ⟨S32, .f32⟩
  | .hbm, ⟨77, _⟩ => ⟨S32, .f32⟩
  | .hbm, ⟨78, _⟩ => ⟨S_, .f32⟩
  | .hbm, ⟨79, _⟩ => ⟨S32, .f32⟩
  | .hbm, ⟨80, _⟩ => ⟨S32, .f32⟩
  | .hbm, ⟨81, _⟩ => ⟨S_, .f32⟩
  | .hbm, ⟨82, _⟩ => ⟨S32, .f32⟩
  | .hbm, ⟨83, _⟩ => ⟨S32, .f32⟩
  | .hbm, ⟨84, _⟩ => ⟨S_, .f32⟩
  | .hbm, ⟨85, _⟩ => ⟨S32, .f32⟩
  | .hbm, ⟨86, _⟩ => ⟨S32, .f32⟩
  | .hbm, ⟨87, _⟩ => ⟨S8192, .f32⟩
  | .hbm, ⟨88, _⟩ => ⟨S8192x1, .f32⟩
  | .hbm, ⟨89, _⟩ => ⟨S1x32, .f32⟩
  | .hbm, ⟨90, _⟩ => ⟨S8192x32, .f32⟩
  | .hbm, ⟨91, _⟩ => ⟨S8192x32, .f32⟩
  | .hbm, ⟨92, _⟩ => ⟨S8192x32, .f32⟩
  | .hbm, ⟨93, _⟩ => ⟨S8192x32, .f32⟩
  | .hbm, ⟨94, _⟩ => ⟨S1x8192x1x32, .f32⟩
  | .hbm, ⟨95, _⟩ => ⟨S8192x32, .f32⟩
  | .hbm, ⟨96, _⟩ => ⟨S1x8192x1x32, .f32⟩
  | .hbm, ⟨97, _⟩ => ⟨S2x8192x8x64, .f32⟩
  | .hbm, ⟨98, _⟩ => ⟨S2x8192x8x32, .f32⟩
  | .hbm, ⟨99, _⟩ => ⟨S2x8192x8x32, .f32⟩
  | .hbm, ⟨100, _⟩ => ⟨S2x8192x8x32, .f32⟩
  | .hbm, ⟨101, _⟩ => ⟨S2x8192x8x32, .f32⟩
  | .hbm, ⟨102, _⟩ => ⟨S2x8192x8x32, .f32⟩
  | .hbm, ⟨103, _⟩ => ⟨S2x8192x8x32, .f32⟩
  | .hbm, ⟨104, _⟩ => ⟨S2x8192x8x32, .f32⟩
  | .hbm, ⟨105, _⟩ => ⟨S2x8192x8x32, .f32⟩
  | .hbm, ⟨106, _⟩ => ⟨S2x8192x8x32, .f32⟩
  | .hbm, ⟨107, _⟩ => ⟨S2x8192x8x32, .f32⟩
  | .hbm, ⟨108, _⟩ => ⟨S2x8192x8x32, .f32⟩
  | .hbm, ⟨109, _⟩ => ⟨S2x8192x8x32, .f32⟩
  | .hbm, ⟨110, _⟩ => ⟨S2x8192x8x64, .f32⟩
  | .hbm, ⟨111, _⟩ => ⟨S2x8192x512, .f32⟩
  | .hbm, ⟨112, _⟩ => ⟨S2x8192x3072, .f32⟩
  | .hbm, ⟨113, _⟩ => ⟨S16384x3072, .f32⟩
  | .hbm, ⟨114, _⟩ => ⟨S16384x3072, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_v53 : Ref sig .tc := ⟨.hbm, 65, rfl⟩
abbrev main_cst_7 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_8 : Ref sig .tc := ⟨.hbm, 72, rfl⟩
abbrev main_v59 : Ref sig .tc := ⟨.hbm, 73, rfl⟩
abbrev main_v60 : Ref sig .tc := ⟨.hbm, 74, rfl⟩
abbrev main_cst_9 : Ref sig .tc := ⟨.hbm, 75, rfl⟩
abbrev main_v61 : Ref sig .tc := ⟨.hbm, 76, rfl⟩
abbrev main_v62 : Ref sig .tc := ⟨.hbm, 77, rfl⟩
abbrev main_cst_10 : Ref sig .tc := ⟨.hbm, 78, rfl⟩
abbrev main_v63 : Ref sig .tc := ⟨.hbm, 79, rfl⟩
abbrev main_v64 : Ref sig .tc := ⟨.hbm, 80, rfl⟩
abbrev main_cst_11 : Ref sig .tc := ⟨.hbm, 81, rfl⟩
abbrev main_v65 : Ref sig .tc := ⟨.hbm, 82, rfl⟩
abbrev main_v66 : Ref sig .tc := ⟨.hbm, 83, rfl⟩
abbrev main_cst_12 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩

abbrev nD : Nat := 1
abbrev τ : Topo := Topo.v7x

variable {F : FTy → Type} [FloatOps F]
-- ==== Output.lean ====
abbrev S2x8192x512 : Shape := ⟨3, ![2, 8192, 512]⟩
abbrev S1024x1024 : Shape := ⟨2, ![1024, 1024]⟩
abbrev S2x8192x1024 : Shape := ⟨3, ![2, 8192, 1024]⟩
abbrev S2x1024 : Shape := ⟨2, ![2, 1024]⟩
abbrev S1024 : Shape := ⟨1, ![1024]⟩
abbrev S16384x512 : Shape := ⟨2, ![16384, 512]⟩
abbrev S16384x1024 : Shape := ⟨2, ![16384, 1024]⟩
abbrev S2x1x1024 : Shape := ⟨3, ![2, 1, 1024]⟩
abbrev S1x1024 : Shape := ⟨2, ![1, 1024]⟩
abbrev S512x512 : Shape := ⟨2, ![512, 512]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 17
  | .vmem => 13
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S1024x1024, .f32⟩
  | .hbm, ⟨3, _⟩ => ⟨S2x8192x1024, .f32⟩
  | .hbm, ⟨4, _⟩ => ⟨S2x1024, .f32⟩
  | .hbm, ⟨5, _⟩ => ⟨S1024, .f32⟩
  | .hbm, ⟨6, _⟩ => ⟨S1024, .f32⟩
  | .hbm, ⟨7, _⟩ => ⟨S16384x512, .f32⟩
  | .hbm, ⟨8, _⟩ => ⟨S16384x512, .bf16⟩
  | .hbm, ⟨9, _⟩ => ⟨S16384x512, .f32⟩
  | .hbm, ⟨10, _⟩ => ⟨S16384x512, .bf16⟩
  | .hbm, ⟨11, _⟩ => ⟨S1024x1024, .bf16⟩
  | .hbm, ⟨12, _⟩ => ⟨S16384x1024, .f32⟩
  | .hbm, ⟨13, _⟩ => ⟨S2x1x1024, .f32⟩
  | .hbm, ⟨14, _⟩ => ⟨S1x1024, .f32⟩
  | .hbm, ⟨15, _⟩ => ⟨S1x1024, .f32⟩
  | .hbm, ⟨16, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutputReferenceIdeal.lean ====
abbrev S2x8192x512 : Shape := ⟨3, ![2, 8192, 512]⟩
abbrev S1024x1024 : Shape := ⟨2, ![1024, 1024]⟩
abbrev S2x8192x1024 : Shape := ⟨3, ![2, 8192, 1024]⟩
abbrev S2x1024 : Shape := ⟨2, ![2, 1024]⟩
abbrev S1024 : Shape := ⟨1, ![1024]⟩
abbrev S_ : Shape := ⟨0, ![]⟩
abbrev S2x1x1024 : Shape := ⟨3, ![2, 1, 1024]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 46
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S1024x1024, .f32⟩
  | .hbm, ⟨3, _⟩ => ⟨S2x8192x1024, .f32⟩
  | .hbm, ⟨4, _⟩ => ⟨S2x1024, .f32⟩
  | .hbm, ⟨5, _⟩ => ⟨S1024, .f32⟩
  | .hbm, ⟨6, _⟩ => ⟨S1024, .f32⟩
  | .hbm, ⟨7, _⟩ => ⟨S2x8192x1024, .f32⟩
  | .hbm, ⟨8, _⟩ => ⟨S2x8192x1024, .f32⟩
  | .hbm, ⟨9, _⟩ => ⟨S_, .f32⟩
  | .hbm, ⟨10, _⟩ => ⟨S2x8192x1024, .f32⟩
  | .hbm, ⟨11, _⟩ => ⟨S2x8192x1024, .f32⟩
  | .hbm, ⟨12, _⟩ => ⟨S2x1x1024, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1024, .f32⟩
  | .hbm, ⟨23, _⟩ => ⟨S2x8192x1024, .f32⟩
  | .hbm, ⟨24, _⟩ => ⟨S2x8192x1024, .f32⟩
  | .hbm, ⟨25, _⟩ => ⟨S_, .f32⟩
  | .hbm, ⟨26, _⟩ => ⟨S2x8192, .f32⟩
  | .hbm, ⟨27, _⟩ => ⟨S2x8192x1, .f32⟩
  | .hbm, ⟨28, _⟩ => ⟨S_, .f32⟩
  | .hbm, ⟨29, _⟩ => ⟨S2x8192x1, .f32⟩
  | .hbm, ⟨30, _⟩ => ⟨S2x8192x1, .f32⟩
  | .hbm, ⟨31, _⟩ => ⟨S2x8192x1024, .f32⟩
  | .hbm, ⟨32, _⟩ => ⟨S2x8192x1024, .f32⟩
  | .hbm, ⟨33, _⟩ => ⟨S_, .f32⟩
  | .hbm, ⟨34, _⟩ => ⟨S2x8192x1, .f32⟩
  | .hbm, ⟨35, _⟩ => ⟨S2x8192x1, .f32⟩
  | .hbm, ⟨36, _⟩ => ⟨S2x8192x1, .f32⟩
  | .hbm, ⟨37, _⟩ => ⟨S2x8192x1024, .f32⟩
  | .hbm, ⟨38, _⟩ => ⟨S2x8192x1024, .f32⟩
  | .hbm, ⟨39, _⟩ => ⟨S1x1x1024, .f32⟩
  | .hbm, ⟨40, _⟩ => ⟨S2x8192x1024, .f32⟩
  | .hbm, ⟨41, _⟩ => ⟨S2x8192x1024, .f32⟩
  | .hbm, ⟨42, _⟩ => ⟨S1x1x1024, .f32⟩
  | .hbm, ⟨43, _⟩ => ⟨S2x8192x1024, .f32⟩
  | .hbm, ⟨44, _⟩ => ⟨S2x8192x1024, .f32⟩
  | .hbm, ⟨45, _⟩ => ⟨S16384x1024, .f32⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== OddOutput.lean ====
abbrev S2x8192x1024 : Shape := ⟨3, ![2, 8192, 1024]⟩
abbrev S1024x1024 : Shape := ⟨2, ![1024, 1024]⟩
abbrev S2x1024 : Shape := ⟨2, ![2, 1024]⟩
abbrev S1024 : Shape := ⟨1, ![1024]⟩
abbrev S16384x1024 : Shape := ⟨2, ![16384, 1024]⟩
abbrev S2x1x1024 : Shape := ⟨3, ![2, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 14
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S1024x1024, .f32⟩
  | .hbm, ⟨2, _⟩ => ⟨S2x8192x1024, .f32⟩
  | .hbm, ⟨3, _⟩ => ⟨S2x1024, .f32⟩
  | .hbm, ⟨4, _⟩ => ⟨S1024, .f32⟩
  | .hbm, ⟨5, _⟩ => ⟨S1024, .f32⟩
  | .hbm, ⟨6, _⟩ => ⟨S16384x1024, .f32⟩
  | .hbm, ⟨7, _⟩ => ⟨S16384x1024, .bf16⟩
  | .hbm, ⟨8, _⟩ => ⟨S1024x1024, .bf16⟩
  | .hbm, ⟨9, _⟩ => ⟨S16384x1024, .f32⟩
  | .hbm, ⟨10, _⟩ => ⟨S2x1x1024, .f32⟩
  | .hbm, ⟨11, _⟩ => ⟨S1x1024, .f32⟩
  | .hbm, ⟨12, _⟩ => ⟨S1x1024, .f32⟩
  | .hbm, ⟨13, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OddOutputReferenceIdeal.lean ====
abbrev S2x8192x1024 : Shape := ⟨3, ![2, 8192, 1024]⟩
abbrev S1024x1024 : Shape := ⟨2, ![1024, 1024]⟩
abbrev S2x1024 : Shape := ⟨2, ![2, 1024]⟩
abbrev S1024 : Shape := ⟨1, ![1024]⟩
abbrev S_ : Shape := ⟨0, ![]⟩
abbrev S2x1x1024 : Shape := ⟨3, ![2, 1, 1024]⟩
abbrev S2x8192 : Shape := ⟨2, ![2, 8192]⟩
abbrev S2x8192x1 : Shape := ⟨3, ![2, 8192, 1]⟩
abbrev S1x1x1024 : Shape := ⟨3, ![1, 1, 1024]⟩
abbrev S16384x1024 : Shape := ⟨2, ![16384, 1024]⟩

abbrev nBuf : Space → Nat
  | .hbm => 44
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024x1024, .f32⟩
  | .hbm, ⟨2, _⟩ => ⟨S2x8192x1024, .f32⟩
  | .hbm, ⟨3, _⟩ => ⟨S2x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S2x8192x1024, .f32⟩
  | .hbm, ⟨8, _⟩ => ⟨S2x8192x1024, .f32⟩
  | .hbm, ⟨9, _⟩ => ⟨S2x1x1024, .f32⟩
  | .hbm, ⟨10, _⟩ => ⟨S2x8192x1024, .f32⟩
  | .hbm, ⟨11, _⟩ => ⟨S2x8192x1024, .f32⟩
  | .hbm, ⟨12, _⟩ => ⟨S2x8192x1024, .f32⟩
  | .hbm, ⟨13, _⟩ => ⟨S2x8192x1024, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S2x8192x1024, .f32⟩
  | .hbm, ⟨21, _⟩ => ⟨S2x8192x1024, .f32⟩
  | .hbm, ⟨22, _⟩ => ⟨S2x8192x1024, .f32⟩
  | .hbm, ⟨23, _⟩ => ⟨S_, .f32⟩
  | .hbm, ⟨24, _⟩ => ⟨S2x8192, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S2x8192x1024, .f32⟩
  | .hbm, ⟨30, _⟩ => ⟨S2x8192x1024, .f32⟩
  | .hbm, ⟨31, _⟩ => ⟨S_, .f32⟩
  | .hbm, ⟨32, _⟩ => ⟨S2x8192x1, .f32⟩
  | .hbm, ⟨33, _⟩ => ⟨S2x8192x1, .f32⟩
  | .hbm, ⟨34, _⟩ => ⟨S2x8192x1, .f32⟩
  | .hbm, ⟨35, _⟩ => ⟨S2x8192x1024, .f32⟩
  | .hbm, ⟨36, _⟩ => ⟨S2x8192x1024, .f32⟩
  | .hbm, ⟨37, _⟩ => ⟨S1x1x1024, .f32⟩
  | .hbm, ⟨38, _⟩ => ⟨S2x8192x1024, .f32⟩
  | .hbm, ⟨39, _⟩ => ⟨S2x8192x1024, .f32⟩
  | .hbm, ⟨40, _⟩ => ⟨S1x1x1024, .f32⟩
  | .hbm, ⟨41, _⟩ => ⟨S2x8192x1024, .f32⟩
  | .hbm, ⟨42, _⟩ => ⟨S2x8192x1024, .f32⟩
  | .hbm, ⟨43, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== OddInput.lean ====
abbrev S2x8192x1024 : Shape := ⟨3, ![2, 8192, 1024]⟩
abbrev S2x1024 : Shape := ⟨2, ![2, 1024]⟩
abbrev S1024x1536 : Shape := ⟨2, ![1024, 1536]⟩
abbrev S2048 : Shape := ⟨1, ![2048]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S16384x1024 : Shape := ⟨2, ![16384, 1024]⟩
abbrev S2x1x1024 : Shape := ⟨3, ![2, 1, 1024]⟩
abbrev S2048x1 : Shape := ⟨2, ![2048, 1]⟩
abbrev S1024x2048 : Shape := ⟨2, ![1024, 2048]⟩
abbrev S16384x2048 : Shape := ⟨2, ![16384, 2048]⟩
abbrev S512x1024 : Shape := ⟨2, ![512, 1024]⟩
abbrev S1x1x1024 : Shape := ⟨3, ![1, 1, 1024]⟩
abbrev S512x128 : Shape := ⟨2, ![512, 128]⟩
abbrev S512x2048 : Shape := ⟨2, ![512, 2048]⟩
abbrev S1x1024 : Shape := ⟨2, ![1, 1024]⟩
abbrev S1024x256 : Shape := ⟨2, ![1024, 256]⟩
abbrev S512x256 : Shape := ⟨2, ![512, 256]⟩

abbrev nBuf : Space → Nat
  | .hbm => 44
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024, .f32⟩
  | .hbm, ⟨3, _⟩ => ⟨S1024x1536, .f32⟩
  | .hbm, ⟨4, _⟩ => ⟨S2048, .i32⟩
  | .hbm, ⟨5, _⟩ => ⟨S2048, .i1⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S8192, .f32⟩
  | .hbm, ⟨23, _⟩ => ⟨S8192x1, .f32⟩
  | .hbm, ⟨24, _⟩ => ⟨S1x32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S8192x128, .f32⟩
  | .hbm, ⟨31, _⟩ => ⟨S8192x32, .f32⟩
  | .hbm, ⟨32, _⟩ => ⟨S8192x128, .f32⟩
  | .hbm, ⟨33, _⟩ => ⟨S16384x1024, .f32⟩
  | .hbm, ⟨34, _⟩ => ⟨S2x1x1024, .f32⟩
  | .hbm, ⟨35, _⟩ => ⟨S2x1x1024, .f32⟩
  | .hbm, ⟨36, _⟩ => ⟨S_, .i32⟩
  | .hbm, ⟨37, _⟩ => ⟨S2048, .i32⟩
  | .hbm, ⟨38, _⟩ => ⟨S2048, .i32⟩
  | .hbm, ⟨39, _⟩ => ⟨S2048, .i32⟩
  | .hbm, ⟨40, _⟩ => ⟨S2048x1, .i32⟩
  | .hbm, ⟨41, _⟩ => ⟨S1024x2048, .f32⟩
  | .hbm, ⟨42, _⟩ => ⟨S1024x2048, .bf16⟩
  | .hbm, ⟨43, _⟩ => ⟨S16384x2048, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2048, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x2048, .bf16⟩
  | .local _ .vmem, ⟨12, _⟩ => ⟨S512x2048, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_cst_4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OddInputReferenceIdeal.lean ====
abbrev S2x8192x1024 : Shape := ⟨3, ![2, 8192, 1024]⟩
abbrev S2x1024 : Shape := ⟨2, ![2, 1024]⟩
abbrev S1024x1536 : Shape := ⟨2, ![1024, 1536]⟩
abbrev S2x1x1024 : Shape := ⟨3, ![2, 1, 1024]⟩
abbrev S_ : Shape := ⟨0, ![]⟩
abbrev S2x8192x1536 : Shape := ⟨3, ![2, 8192, 1536]⟩
abbrev S2x8192x256 : Shape := ⟨3, ![2, 8192, 256]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S2x8192x16x64 : Shape := ⟨4, ![2, 8192, 16, 64]⟩
abbrev S2x8192x16x32 : Shape := ⟨4, ![2, 8192, 16, 32]⟩
abbrev S2x8192x4x64 : Shape := ⟨4, ![2, 8192, 4, 64]⟩
abbrev S2x8192x4x32 : Shape := ⟨4, ![2, 8192, 4, 32]⟩
abbrev S2x8192x4x2x64 : Shape := ⟨5, ![2, 8192, 4, 2, 64]⟩
abbrev S2x8192x8x64 : Shape := ⟨4, ![2, 8192, 8, 64]⟩
abbrev S2x8192x512 : Shape := ⟨3, ![2, 8192, 512]⟩
abbrev S2x8192x2048 : Shape := ⟨3, ![2, 8192, 2048]⟩
abbrev S16384x2048 : Shape := ⟨2, ![16384, 2048]⟩

abbrev nBuf : Space → Nat
  | .hbm => 113
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024, .f32⟩
  | .hbm, ⟨3, _⟩ => ⟨S1024x1536, .f32⟩
  | .hbm, ⟨4, _⟩ => ⟨S2x1x1024, .f32⟩
  | .hbm, ⟨5, _⟩ => ⟨S_, .f32⟩
  | .hbm, ⟨6, _⟩ => ⟨S2x1x1024, .f32⟩
  | .hbm, ⟨7, _⟩ => ⟨S2x1x1024, .f32⟩
  | .hbm, ⟨8, _⟩ => ⟨S2x8192x1024, .f32⟩
  | .hbm, ⟨9, _⟩ => ⟨S2x8192x1024, .f32⟩
  | .hbm, ⟨10, _⟩ => ⟨S2x1x1024, .f32⟩
  | .hbm, ⟨11, _⟩ => ⟨S2x8192x1024, .f32⟩
  | .hbm, ⟨12, _⟩ => ⟨S2x8192x1024, .f32⟩
  | .hbm, ⟨13, _⟩ => ⟨S2x8192x1536, .f32⟩
  | .hbm, ⟨14, _⟩ => ⟨S2x8192x1024, .f32⟩
  | .hbm, ⟨15, _⟩ => ⟨S2x8192x256, .f32⟩
  | .hbm, ⟨16, _⟩ => ⟨S2x8192x256, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S8192, .f32⟩
  | .hbm, ⟨34, _⟩ => ⟨S8192x1, .f32⟩
  | .hbm, ⟨35, _⟩ => ⟨S1x32, .f32⟩
  | .hbm, ⟨36, _⟩ => ⟨S8192x32, .f32⟩
  | .hbm, ⟨37, _⟩ => ⟨S8192x32, .f32⟩
  | .hbm, ⟨38, _⟩ => ⟨S8192x32, .f32⟩
  | .hbm, ⟨39, _⟩ => ⟨S8192x32, .f32⟩
  | .hbm, ⟨40, _⟩ => ⟨S1x8192x1x32, .f32⟩
  | .hbm, ⟨41, _⟩ => ⟨S8192x32, .f32⟩
  | .hbm, ⟨42, _⟩ => ⟨S1x8192x1x32, .f32⟩
  | .hbm, ⟨43, _⟩ => ⟨S2x8192x16x64, .f32⟩
  | .hbm, ⟨44, _⟩ => ⟨S2x8192x16x32, .f32⟩
  | .hbm, ⟨45, _⟩ => ⟨S2x8192x16x32, .f32⟩
  | .hbm, ⟨46, _⟩ => ⟨S2x8192x16x32, .f32⟩
  | .hbm, ⟨47, _⟩ => ⟨S2x8192x16x32, .f32⟩
  | .hbm, ⟨48, _⟩ => ⟨S2x8192x16x32, .f32⟩
  | .hbm, ⟨49, _⟩ => ⟨S2x8192x16x32, .f32⟩
  | .hbm, ⟨50, _⟩ => ⟨S2x8192x16x32, .f32⟩
  | .hbm, ⟨51, _⟩ => ⟨S2x8192x16x32, .f32⟩
  | .hbm, ⟨52, _⟩ => ⟨S2x8192x16x32, .f32⟩
  | .hbm, ⟨53, _⟩ => ⟨S2x8192x16x32, .f32⟩
  | .hbm, ⟨54, _⟩ => ⟨S2x8192x16x32, .f32⟩
  | .hbm, ⟨55, _⟩ => ⟨S2x8192x16x32, .f32⟩
  | .hbm, ⟨56, _⟩ => ⟨S2x8192x16x64, .f32⟩
  | .hbm, ⟨57, _⟩ => ⟨S2x8192x1024, .f32⟩
  | .hbm, ⟨58, _⟩ => ⟨S_, .f32⟩
  | .hbm, ⟨59, _⟩ => ⟨S2x8192x1024, .f32⟩
  | .hbm, ⟨60, _⟩ => ⟨S2x8192x1024, .f32⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S_, .f32⟩
  | .hbm, ⟨72, _⟩ => ⟨S32, .f32⟩
  | .hbm, ⟨73, _⟩ => ⟨S32, .f32⟩
  | .hbm, ⟨74, _⟩ => ⟨S_, .f32⟩
  | .hbm, ⟨75, _⟩ => ⟨S32, .f32⟩
  | .hbm, ⟨76, _⟩ => ⟨S32, .f32⟩
  | .hbm, ⟨77, _⟩ => ⟨S8192, .f32⟩
  | .hbm, ⟨78, _⟩ => ⟨S8192x1, .f32⟩
  | .hbm, ⟨79, _⟩ => ⟨S1x32, .f32⟩
  | .hbm, ⟨80, _⟩ => ⟨S8192x32, .f32⟩
  | .hbm, ⟨81, _⟩ => ⟨S8192x32, .f32⟩
  | .hbm, ⟨82, _⟩ => ⟨S8192x32, .f32⟩
  | .hbm, ⟨83, _⟩ => ⟨S8192x32, .f32⟩
  | .hbm, ⟨84, _⟩ => ⟨S1x8192x1x32, .f32⟩
  | .hbm, ⟨85, _⟩ => ⟨S8192x32, .f32⟩
  | .hbm, ⟨86, _⟩ => ⟨S1x8192x1x32, .f32⟩
  | .hbm, ⟨87, _⟩ => ⟨S2x8192x4x64, .f32⟩
  | .hbm, ⟨88, _⟩ => ⟨S2x8192x4x32, .f32⟩
  | .hbm, ⟨89, _⟩ => ⟨S2x8192x4x32, .f32⟩
  | .hbm, ⟨90, _⟩ => ⟨S2x8192x4x32, .f32⟩
  | .hbm, ⟨91, _⟩ => ⟨S2x8192x4x32, .f32⟩
  | .hbm, ⟨92, _⟩ => ⟨S2x8192x4x32, .f32⟩
  | .hbm, ⟨93, _⟩ => ⟨S2x8192x4x32, .f32⟩
  | .hbm, ⟨94, _⟩ => ⟨S2x8192x4x32, .f32⟩
  | .hbm, ⟨95, _⟩ => ⟨S2x8192x4x32, .f32⟩
  | .hbm, ⟨96, _⟩ => ⟨S2x8192x4x32, .f32⟩
  | .hbm, ⟨97, _⟩ => ⟨S2x8192x4x32, .f32⟩
  | .hbm, ⟨98, _⟩ => ⟨S2x8192x4x32, .f32⟩
  | .hbm, ⟨99, _⟩ => ⟨S2x8192x4x32, .f32⟩
  | .hbm, ⟨100, _⟩ => ⟨S2x8192x4x64, .f32⟩
  | .hbm, ⟨101, _⟩ => ⟨S2x8192x256, .f32⟩
  | .hbm, ⟨102, _⟩ => ⟨S2x8192x4x64, .f32⟩
  | .hbm, ⟨103, _⟩ => ⟨S2x8192x4x2x64, .f32⟩
  | .hbm, ⟨104, _⟩ => ⟨S2x8192x8x64, .f32⟩
  | .hbm, ⟨105, _⟩ => ⟨S2x8192x512, .f32⟩
  | .hbm, ⟨106, _⟩ => ⟨S2x8192x4x64, .f32⟩
  | .hbm, ⟨107, _⟩ => ⟨S2x8192x4x2x64, .f32⟩
  | .hbm, ⟨108, _⟩ => ⟨S2x8192x8x64, .f32⟩
  | .hbm, ⟨109, _⟩ => ⟨S2x8192x512, .f32⟩
  | .hbm, ⟨110, _⟩ => ⟨S2x8192x2048, .f32⟩
  | .hbm, ⟨111, _⟩ => ⟨S16384x2048, .f32⟩
  | .hbm, ⟨112, _⟩ => ⟨S16384x2048, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_5 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_cst_7 : Ref sig .tc := ⟨.hbm, 65, rfl⟩
abbrev main_v53 : Ref sig .tc := ⟨.hbm, 66, rfl⟩
abbrev main_v54 : Ref sig .tc := ⟨.hbm, 67, rfl⟩
abbrev main_cst_8 : Ref sig .tc := ⟨.hbm, 68, rfl⟩
abbrev main_v55 : Ref sig .tc := ⟨.hbm, 69, rfl⟩
abbrev main_v56 : Ref sig .tc := ⟨.hbm, 70, rfl⟩
abbrev main_cst_9 : Ref sig .tc := ⟨.hbm, 71, rfl⟩
abbrev main_v57 : Ref sig .tc := ⟨.hbm, 72, rfl⟩
abbrev main_v58 : Ref sig .tc := ⟨.hbm, 73, rfl⟩
abbrev main_cst_10 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩

abbrev nD : Nat := 1
abbrev τ : Topo := Topo.v7x

variable {F : FTy → Type} [FloatOps F]
-- ==== Proof.DiffPoint.lean ====
/-
  What one grid point of the differential attention leaves in its three carried scratch arrays (the running maximum,
  the running denominator, the running numerator) and, at a row block's last point, in its output block: each array's
  two planes, one per softmax, as one step from what the point found.
-/
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.DiffPoint

open Idealize.ShloMosaic Idealize.ShloMosaic.TcCoe Idealize.SL.Sem
open Cert.KernelIdeal Cert.KernelIdeal.Gen

variable {F : FTy → Type} [FloatOps F]

/-- The first plane of a carried array. -/
def plane0 (s : Vec F S2x1024x128 .f32) : Vec F S1x1024x128 .f32 :=
  View.ld s (Rect.unit ![0, 0, 0] ![1, 1024, 128] inb_S2x1024x128_S1x1024x128_0_0_0)

/-- Its second plane. -/
def plane1 (s : Vec F S2x1024x128 .f32) : Vec F S1x1024x128 .f32 :=
  View.ld s (Rect.unit ![1, 0, 0] ![1, 1024, 128] inb_S2x1024x128_S1x1024x128_1_0_0)

/-- A carried array put together from its two planes. -/
def planes (p0 p1 : Vec F S1x1024x128 .f32) : Vec F S2x1024x128 .f32 :=
  fun y => if (y 0).val = 0 then p0 (ix3 0 (y 1) (y 2)) else p1 (ix3 0 (y 1) (y 2))

/-- The second softmax's scores of a block of queries against a block of keys. -/
def scores1 (x0 : Vec F S1024x128 .bf16) (x1 : Vec F S2048x128 .bf16) : FVec F S1024x2048 .f32 :=
  k0_pay18 (k0_pay5 x0) (k0_pay6 x1) k0_pay8

/-- The running maximum after a point. -/
def stepM (x0 : Vec F S1024x128 .bf16) (x1 : Vec F S2048x128 .bf16) (s0 : Vec F S2x1024x128 .f32) : Vec F S2x1024x128 .f32 :=
  planes (k0_pay17 (k0_pay10 (plane0 s0)) (k0_pay11 x0 x1)) (k0_pay25 (scores1 x0 x1) (plane1 s0))

/-- The running denominator after a point. -/
def stepL (x0 : Vec F S1024x128 .bf16) (x1 : Vec F S2048x128 .bf16) (s0 s1 : Vec F S2x1024x128 .f32) : Vec F S2x1024x128 .f32 :=
  planes (k0_pay15 (k0_pay9 x0 x1) (k0_pay10 (plane0 s0)) (k0_pay11 x0 x1) (plane0 s1))
    (k0_pay23 (scores1 x0 x1) (plane1 s0) (plane1 s1))

/-- The running numerator after a point. -/
def stepA (x0 : Vec F S1024x128 .bf16) (x1 x2 : Vec F S2048x128 .bf16) (s0 s2 : Vec F S2x1024x128 .f32) : Vec F S2x1024x128 .f32 :=
  planes (k0_pay16 (k0_pay7 x2) (k0_pay9 x0 x1) (k0_pay10 (plane0 s0)) (k0_pay11 x0 x1) (plane0 s2))
    (k0_pay24 (k0_pay7 x2) (scores1 x0 x1) (plane1 s0) (plane1 s2))

/-- The output block from the carried denominator and numerator. -/
def outBlock (x3 : Vec F S4x64 .f32) (x4 : Vec F S1x128 .f32) (l a : Vec F S2x1024x128 .f32) : Vec F S1024x128 .bf16 :=
  k0_pay26 (k0_pay1 x3 (plane0 a) (plane0 l) (plane1 a) (plane1 l)) x4

theorem hz2 : (![0, 0] : Fin 2 → Nat) = fun _ => 0 := funext fun a => by fin_cases a <;> rfl
theorem hz3 : (![0, 0, 0] : Fin 3 → Nat) = fun _ => 0 := funext fun a => by fin_cases a <;> rfl

/-- Two stores, the first plane and then the second, leave the array made of the two. -/
theorem canon_planes (p1 p0 : Vec F S1x1024x128 .f32) (L : List (View.Piece (Elt F) S2x1024x128 .f32)) :
    View.canon (⟨Rect.unit ![1, 0, 0] ![1, 1024, 128] inb_S2x1024x128_S1x1024x128_1_0_0, p1⟩
      :: ⟨Rect.unit ![0, 0, 0] ![1, 1024, 128] inb_S2x1024x128_S1x1024x128_0_0_0, p0⟩ :: L) = planes p0 p1 := by
  funext y
  obtain ⟨a, r, l, rfl⟩ : ∃ (a : Fin 2) (r : Fin 1024) (l : Fin 128), y = ix3 a r l := ⟨y 0, y 1, y 2, eq_ix3 y⟩
  unfold planes
  have h1 := r.isLt
  have h2 := l.isLt
  by_cases ha : a.val = 0
  · rw [if_pos (show ((ix3 a r l : S2x1024x128.Idx) 0).val = 0 from ha), View.canon_cons_of_not_mem]
    · have he : (ix3 a r l : S2x1024x128.Idx)
          = (Rect.unit (s := S2x1024x128) ![0, 0, 0] ![1, 1024, 128] inb_S2x1024x128_S1x1024x128_0_0_0).emb (ix3 (0 : Fin 1) r l) := by
        funext b
        refine Fin.ext ?_
        match b with
        | ⟨0, _⟩ => show a.val = 0 + 1 * 0; omega
        | ⟨1, _⟩ => show r.val = 0 + 1 * r.val; omega
        | ⟨2, _⟩ => show l.val = 0 + 1 * l.val; omega
      show View.canon _ (ix3 a r l) = p0 (ix3 0 r l)
      rw [he, View.canon_cons_emb]
    · rw [Rect.mem_set_unit]
      intro h
      have := (h 0).1
      change 1 ≤ a.val at this
      omega
  · have ha1 : a.val = 1 := by have := a.isLt; omega
    rw [if_neg (show ¬((ix3 a r l : S2x1024x128.Idx) 0).val = 0 from ha)]
    have he : (ix3 a r l : S2x1024x128.Idx)
        = (Rect.unit (s := S2x1024x128) ![1, 0, 0] ![1, 1024, 128] inb_S2x1024x128_S1x1024x128_1_0_0).emb (ix3 (0 : Fin 1) r l) := by
      funext b
      refine Fin.ext ?_
      match b with
      | ⟨0, _⟩ => show a.val = 1 + 1 * 0; omega
      | ⟨1, _⟩ => show r.val = 0 + 1 * r.val; omega
      | ⟨2, _⟩ => show l.val = 0 + 1 * l.val; omega
    show View.canon _ (ix3 a r l) = p1 (ix3 0 r l)
    rw [he, View.canon_cons_emb]

/-- Reading the second plane skips a store of the first. -/
theorem readCov_plane1 (v : View sig .tc .vmem S2x1024x128 .f32) (p0 : Vec F S1x1024x128 .f32) (w : Vec F S2x1024x128 .f32) :
    v.readCov [⟨Rect.unit ![0, 0, 0] ![1, 1024, 128] inb_S2x1024x128_S1x1024x128_0_0_0, p0⟩,
        ⟨Rect.unit ![0, 0, 0] ![2, 1024, 128] inb_S2x1024x128_S2x1024x128_0_0_0, w⟩]
      (Rect.unit ![1, 0, 0] ![1, 1024, 128] inb_S2x1024x128_S1x1024x128_1_0_0).toLoadRect = plane1 w := by
  rw [View.readCov_eq_canon']
  funext j
  rw [View.canon_cons_of_not_mem, View.canon_unit_zero hz3]
  · rfl
  · rw [Rect.mem_set_unit]
    intro h
    have h1 := (h 0).2
    have h2 : 1 ≤ ((Rect.unit (s := S2x1024x128) ![1, 0, 0] ![1, 1024, 128] inb_S2x1024x128_S1x1024x128_1_0_0).toLoadRect.idx j 0).val :=
      Nat.le_add_right 1 _
    change _ < 0 + 1 at h1
    omega

/-- Reading the first plane of an array stored whole. -/
theorem readCov_plane0 (v : View sig .tc .vmem S2x1024x128 .f32) (w : Vec F S2x1024x128 .f32) :
    v.readCov [⟨Rect.unit ![0, 0, 0] ![2, 1024, 128] inb_S2x1024x128_S2x1024x128_0_0_0, w⟩]
      (Rect.unit ![0, 0, 0] ![1, 1024, 128] inb_S2x1024x128_S1x1024x128_0_0_0).toLoadRect = plane0 w := by
  rw [View.readCov_eq_canon', View.canon_unit_zero hz3]
  rfl

/-- Reading the first plane of an array stored plane by plane. -/
theorem readCov_planes0 (v : View sig .tc .vmem S2x1024x128 .f32) (p1 p0 : Vec F S1x1024x128 .f32) :
    v.readCov [⟨Rect.unit ![1, 0, 0] ![1, 1024, 128] inb_S2x1024x128_S1x1024x128_1_0_0, p1⟩,
        ⟨Rect.unit ![0, 0, 0] ![1, 1024, 128] inb_S2x1024x128_S1x1024x128_0_0_0, p0⟩]
      (Rect.unit ![0, 0, 0] ![1, 1024, 128] inb_S2x1024x128_S1x1024x128_0_0_0).toLoadRect = plane0 (planes p0 p1) := by
  rw [View.readCov_eq_canon', canon_planes]
  rfl

/-- Reading its second plane. -/
theorem readCov_planes1 (v : View sig .tc .vmem S2x1024x128 .f32) (p1 p0 : Vec F S1x1024x128 .f32) :
    v.readCov [⟨Rect.unit ![1, 0, 0] ![1, 1024, 128] inb_S2x1024x128_S1x1024x128_1_0_0, p1⟩,
        ⟨Rect.unit ![0, 0, 0] ![1, 1024, 128] inb_S2x1024x128_S1x1024x128_0_0_0, p0⟩]
      (Rect.unit ![1, 0, 0] ![1, 1024, 128] inb_S2x1024x128_S1x1024x128_1_0_0).toLoadRect = plane1 (planes p0 p1) := by
  rw [View.readCov_eq_canon', canon_planes]
  rfl

/-- The maximum after a row block's first point, which starts from minus infinity and zeros. -/
theorem sout_A_0 (c : Dev nD) (i : grid0.Coords) (arg4 : Memref sig .tc .vmem S1024x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1024x128 .bf16) (harg9 : arg9.IsWhole) (arg10 : Memref sig .tc .vmem S2x1024x128 .f32) (harg10 : arg10.IsWhole) (arg11 : Memref sig .tc .vmem S2x1024x128 .f32) (harg11 : arg11.IsWhole) (arg12 : Memref sig .tc .vmem S2x1024x128 .f32) (harg12 : arg12.IsWhole) (hc0 : cond0_0 i) (hc1 : ¬cond0_1 i)
    (x0 : Vec F S1024x128 .bf16) (x1 : Vec F S2048x128 .bf16) (x2 : Vec F S2048x128 .bf16) (x3 : Vec F S4x64 .f32) (x4 : Vec F S1x128 .f32) :
    sout0_A_0 c i arg4 harg4 arg5 harg5 arg6 harg6 arg7 harg7 arg8 harg8 arg9 harg9 arg10 harg10 arg11 harg11 arg12 harg12 hc0 hc1 x0 x1 x2 x3 x4 = stepM x0 x1 k0_pay2 := by
  unfold sout0_A_0
  rw [View.read_writes_eq_canon _ _ _ (scover0_A_0 c i arg4 harg4 arg5 harg5 arg6 harg6 arg7 harg7 arg8 harg8 arg9 harg9 arg10 harg10 arg11 harg11 arg12 harg12 hc0 hc1 x0 x1 x2 x3 x4)]
  unfold kernelRun0_A
  dsimp only
  sl_unfold_words
  simp only [View.readAt_eq_ld, harg4.read_unread, harg5.read_unread, harg6.read_unread, harg10.read_unread, harg11.read_unread,
    harg12.read_unread, View.ld_unit_zero (S := S1024x128) hz2, View.ld_unit_zero (S := S2048x128) hz2, readCov_plane0, readCov_plane1]
  rw [canon_planes]
  rfl

/-- The denominator after a row block's first point, which starts from minus infinity and zeros. -/
theorem sout_A_1 (c : Dev nD) (i : grid0.Coords) (arg4 : Memref sig .tc .vmem S1024x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1024x128 .bf16) (harg9 : arg9.IsWhole) (arg10 : Memref sig .tc .vmem S2x1024x128 .f32) (harg10 : arg10.IsWhole) (arg11 : Memref sig .tc .vmem S2x1024x128 .f32) (harg11 : arg11.IsWhole) (arg12 : Memref sig .tc .vmem S2x1024x128 .f32) (harg12 : arg12.IsWhole) (hc0 : cond0_0 i) (hc1 : ¬cond0_1 i)
    (x0 : Vec F S1024x128 .bf16) (x1 : Vec F S2048x128 .bf16) (x2 : Vec F S2048x128 .bf16) (x3 : Vec F S4x64 .f32) (x4 : Vec F S1x128 .f32) :
    sout0_A_1 c i arg4 harg4 arg5 harg5 arg6 harg6 arg7 harg7 arg8 harg8 arg9 harg9 arg10 harg10 arg11 harg11 arg12 harg12 hc0 hc1 x0 x1 x2 x3 x4 = stepL x0 x1 k0_pay2 k0_pay3 := by
  unfold sout0_A_1
  rw [View.read_writes_eq_canon _ _ _ (scover0_A_1 c i arg4 harg4 arg5 harg5 arg6 harg6 arg7 harg7 arg8 harg8 arg9 harg9 arg10 harg10 arg11 harg11 arg12 harg12 hc0 hc1 x0 x1 x2 x3 x4)]
  unfold kernelRun0_A
  dsimp only
  sl_unfold_words
  simp only [View.readAt_eq_ld, harg4.read_unread, harg5.read_unread, harg6.read_unread, harg10.read_unread, harg11.read_unread,
    harg12.read_unread, View.ld_unit_zero (S := S1024x128) hz2, View.ld_unit_zero (S := S2048x128) hz2, readCov_plane0, readCov_plane1]
  rw [canon_planes]
  rfl

/-- The numerator after a row block's first point, which starts from minus infinity and zeros. -/
theorem sout_A_2 (c : Dev nD) (i : grid0.Coords) (arg4 : Memref sig .tc .vmem S1024x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1024x128 .bf16) (harg9 : arg9.IsWhole) (arg10 : Memref sig .tc .vmem S2x1024x128 .f32) (harg10 : arg10.IsWhole) (arg11 : Memref sig .tc .vmem S2x1024x128 .f32) (harg11 : arg11.IsWhole) (arg12 : Memref sig .tc .vmem S2x1024x128 .f32) (harg12 : arg12.IsWhole) (hc0 : cond0_0 i) (hc1 : ¬cond0_1 i)
    (x0 : Vec F S1024x128 .bf16) (x1 : Vec F S2048x128 .bf16) (x2 : Vec F S2048x128 .bf16) (x3 : Vec F S4x64 .f32) (x4 : Vec F S1x128 .f32) :
    sout0_A_2 c i arg4 harg4 arg5 harg5 arg6 harg6 arg7 harg7 arg8 harg8 arg9 harg9 arg10 harg10 arg11 harg11 arg12 harg12 hc0 hc1 x0 x1 x2 x3 x4 = stepA x0 x1 x2 k0_pay2 k0_pay4 := by
  unfold sout0_A_2
  rw [View.read_writes_eq_canon _ _ _ (scover0_A_2 c i arg4 harg4 arg5 harg5 arg6 harg6 arg7 harg7 arg8 harg8 arg9 harg9 arg10 harg10 arg11 harg11 arg12 harg12 hc0 hc1 x0 x1 x2 x3 x4)]
  unfold kernelRun0_A
  dsimp only
  sl_unfold_words
  simp only [View.readAt_eq_ld, harg4.read_unread, harg5.read_unread, harg6.read_unread, harg10.read_unread, harg11.read_unread,
    harg12.read_unread, View.ld_unit_zero (S := S1024x128) hz2, View.ld_unit_zero (S := S2048x128) hz2, readCov_plane0, readCov_plane1]
  rw [canon_planes]
  rfl

/-- The maximum after a point between. -/
theorem sout_B_0 (c : Dev nD) (i : grid0.Coords) (arg4 : Memref sig .tc .vmem S1024x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1024x128 .bf16) (harg9 : arg9.IsWhole) (arg10 : Memref sig .tc .vmem S2x1024x128 .f32) (harg10 : arg10.IsWhole) (arg11 : Memref sig .tc .vmem S2x1024x128 .f32) (harg11 : arg11.IsWhole) (arg12 : Memref sig .tc .vmem S2x1024x128 .f32) (harg12 : arg12.IsWhole) (hc0 : ¬cond0_0 i) (hc1 : ¬cond0_1 i)
    (x0 : Vec F S1024x128 .bf16) (x1 : Vec F S2048x128 .bf16) (x2 : Vec F S2048x128 .bf16) (x3 : Vec F S4x64 .f32) (x4 : Vec F S1x128 .f32) (xs0 : Vec F S2x1024x128 .f32) (xs1 : Vec F S2x1024x128 .f32) (xs2 : Vec F S2x1024x128 .f32) :
    sout0_B_0 c i arg4 harg4 arg5 harg5 arg6 harg6 arg7 harg7 arg8 harg8 arg9 harg9 arg10 harg10 arg11 harg11 arg12 harg12 hc0 hc1 x0 x1 x2 x3 x4 xs0 xs1 xs2 = stepM x0 x1 xs0 := by
  unfold sout0_B_0
  rw [View.read_writes_eq_canon _ _ _ (scover0_B_0 c i arg4 harg4 arg5 harg5 arg6 harg6 arg7 harg7 arg8 harg8 arg9 harg9 arg10 harg10 arg11 harg11 arg12 harg12 hc0 hc1 x0 x1 x2 x3 x4 xs0 xs1 xs2)]
  unfold kernelRun0_B
  dsimp only
  sl_unfold_words
  simp only [View.readAt_eq_ld, harg4.read_unread, harg5.read_unread, harg6.read_unread, harg10.read_unread, harg11.read_unread,
    harg12.read_unread, View.ld_unit_zero (S := S1024x128) hz2, View.ld_unit_zero (S := S2048x128) hz2, readCov_plane0, readCov_plane1]
  rw [canon_planes]
  rfl

/-- The denominator after a point between. -/
theorem sout_B_1 (c : Dev nD) (i : grid0.Coords) (arg4 : Memref sig .tc .vmem S1024x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1024x128 .bf16) (harg9 : arg9.IsWhole) (arg10 : Memref sig .tc .vmem S2x1024x128 .f32) (harg10 : arg10.IsWhole) (arg11 : Memref sig .tc .vmem S2x1024x128 .f32) (harg11 : arg11.IsWhole) (arg12 : Memref sig .tc .vmem S2x1024x128 .f32) (harg12 : arg12.IsWhole) (hc0 : ¬cond0_0 i) (hc1 : ¬cond0_1 i)
    (x0 : Vec F S1024x128 .bf16) (x1 : Vec F S2048x128 .bf16) (x2 : Vec F S2048x128 .bf16) (x3 : Vec F S4x64 .f32) (x4 : Vec F S1x128 .f32) (xs0 : Vec F S2x1024x128 .f32) (xs1 : Vec F S2x1024x128 .f32) (xs2 : Vec F S2x1024x128 .f32) :
    sout0_B_1 c i arg4 harg4 arg5 harg5 arg6 harg6 arg7 harg7 arg8 harg8 arg9 harg9 arg10 harg10 arg11 harg11 arg12 harg12 hc0 hc1 x0 x1 x2 x3 x4 xs0 xs1 xs2 = stepL x0 x1 xs0 xs1 := by
  unfold sout0_B_1
  rw [View.read_writes_eq_canon _ _ _ (scover0_B_1 c i arg4 harg4 arg5 harg5 arg6 harg6 arg7 harg7 arg8 harg8 arg9 harg9 arg10 harg10 arg11 harg11 arg12 harg12 hc0 hc1 x0 x1 x2 x3 x4 xs0 xs1 xs2)]
  unfold kernelRun0_B
  dsimp only
  sl_unfold_words
  simp only [View.readAt_eq_ld, harg4.read_unread, harg5.read_unread, harg6.read_unread, harg10.read_unread, harg11.read_unread,
    harg12.read_unread, View.ld_unit_zero (S := S1024x128) hz2, View.ld_unit_zero (S := S2048x128) hz2, readCov_plane0, readCov_plane1]
  rw [canon_planes]
  rfl

/-- The numerator after a point between. -/
theorem sout_B_2 (c : Dev nD) (i : grid0.Coords) (arg4 : Memref sig .tc .vmem S1024x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1024x128 .bf16) (harg9 : arg9.IsWhole) (arg10 : Memref sig .tc .vmem S2x1024x128 .f32) (harg10 : arg10.IsWhole) (arg11 : Memref sig .tc .vmem S2x1024x128 .f32) (harg11 : arg11.IsWhole) (arg12 : Memref sig .tc .vmem S2x1024x128 .f32) (harg12 : arg12.IsWhole) (hc0 : ¬cond0_0 i) (hc1 : ¬cond0_1 i)
    (x0 : Vec F S1024x128 .bf16) (x1 : Vec F S2048x128 .bf16) (x2 : Vec F S2048x128 .bf16) (x3 : Vec F S4x64 .f32) (x4 : Vec F S1x128 .f32) (xs0 : Vec F S2x1024x128 .f32) (xs1 : Vec F S2x1024x128 .f32) (xs2 : Vec F S2x1024x128 .f32) :
    sout0_B_2 c i arg4 harg4 arg5 harg5 arg6 harg6 arg7 harg7 arg8 harg8 arg9 harg9 arg10 harg10 arg11 harg11 arg12 harg12 hc0 hc1 x0 x1 x2 x3 x4 xs0 xs1 xs2 = stepA x0 x1 x2 xs0 xs2 := by
  unfold sout0_B_2
  rw [View.read_writes_eq_canon _ _ _ (scover0_B_2 c i arg4 harg4 arg5 harg5 arg6 harg6 arg7 harg7 arg8 harg8 arg9 harg9 arg10 harg10 arg11 harg11 arg12 harg12 hc0 hc1 x0 x1 x2 x3 x4 xs0 xs1 xs2)]
  unfold kernelRun0_B
  dsimp only
  sl_unfold_words
  simp only [View.readAt_eq_ld, harg4.read_unread, harg5.read_unread, harg6.read_unread, harg10.read_unread, harg11.read_unread,
    harg12.read_unread, View.ld_unit_zero (S := S1024x128) hz2, View.ld_unit_zero (S := S2048x128) hz2, readCov_plane0, readCov_plane1]
  rw [canon_planes]
  rfl

/-- The maximum after a row block's last point. -/
theorem sout_C_0 (c : Dev nD) (i : grid0.Coords) (arg4 : Memref sig .tc .vmem S1024x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1024x128 .bf16) (harg9 : arg9.IsWhole) (arg10 : Memref sig .tc .vmem S2x1024x128 .f32) (harg10 : arg10.IsWhole) (arg11 : Memref sig .tc .vmem S2x1024x128 .f32) (harg11 : arg11.IsWhole) (arg12 : Memref sig .tc .vmem S2x1024x128 .f32) (harg12 : arg12.IsWhole) (hc0 : ¬cond0_0 i) (hc1 : cond0_1 i)
    (x0 : Vec F S1024x128 .bf16) (x1 : Vec F S2048x128 .bf16) (x2 : Vec F S2048x128 .bf16) (x3 : Vec F S4x64 .f32) (x4 : Vec F S1x128 .f32) (xs0 : Vec F S2x1024x128 .f32) (xs1 : Vec F S2x1024x128 .f32) (xs2 : Vec F S2x1024x128 .f32) :
    sout0_C_0 c i arg4 harg4 arg5 harg5 arg6 harg6 arg7 harg7 arg8 harg8 arg9 harg9 arg10 harg10 arg11 harg11 arg12 harg12 hc0 hc1 x0 x1 x2 x3 x4 xs0 xs1 xs2 = stepM x0 x1 xs0 := by
  unfold sout0_C_0
  rw [View.read_writes_eq_canon _ _ _ (scover0_C_0 c i arg4 harg4 arg5 harg5 arg6 harg6 arg7 harg7 arg8 harg8 arg9 harg9 arg10 harg10 arg11 harg11 arg12 harg12 hc0 hc1 x0 x1 x2 x3 x4 xs0 xs1 xs2)]
  unfold kernelRun0_C
  dsimp only
  sl_unfold_words
  simp only [View.readAt_eq_ld, harg4.read_unread, harg5.read_unread, harg6.read_unread, harg10.read_unread, harg11.read_unread,
    harg12.read_unread, View.ld_unit_zero (S := S1024x128) hz2, View.ld_unit_zero (S := S2048x128) hz2, readCov_plane0, readCov_plane1]
  rw [canon_planes]
  rfl

/-- The denominator after a row block's last point. -/
theorem sout_C_1 (c : Dev nD) (i : grid0.Coords) (arg4 : Memref sig .tc .vmem S1024x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1024x128 .bf16) (harg9 : arg9.IsWhole) (arg10 : Memref sig .tc .vmem S2x1024x128 .f32) (harg10 : arg10.IsWhole) (arg11 : Memref sig .tc .vmem S2x1024x128 .f32) (harg11 : arg11.IsWhole) (arg12 : Memref sig .tc .vmem S2x1024x128 .f32) (harg12 : arg12.IsWhole) (hc0 : ¬cond0_0 i) (hc1 : cond0_1 i)
    (x0 : Vec F S1024x128 .bf16) (x1 : Vec F S2048x128 .bf16) (x2 : Vec F S2048x128 .bf16) (x3 : Vec F S4x64 .f32) (x4 : Vec F S1x128 .f32) (xs0 : Vec F S2x1024x128 .f32) (xs1 : Vec F S2x1024x128 .f32) (xs2 : Vec F S2x1024x128 .f32) :
    sout0_C_1 c i arg4 harg4 arg5 harg5 arg6 harg6 arg7 harg7 arg8 harg8 arg9 harg9 arg10 harg10 arg11 harg11 arg12 harg12 hc0 hc1 x0 x1 x2 x3 x4 xs0 xs1 xs2 = stepL x0 x1 xs0 xs1 := by
  unfold sout0_C_1
  rw [View.read_writes_eq_canon _ _ _ (scover0_C_1 c i arg4 harg4 arg5 harg5 arg6 harg6 arg7 harg7 arg8 harg8 arg9 harg9 arg10 harg10 arg11 harg11 arg12 harg12 hc0 hc1 x0 x1 x2 x3 x4 xs0 xs1 xs2)]
  unfold kernelRun0_C
  dsimp only
  sl_unfold_words
  simp only [View.readAt_eq_ld, harg4.read_unread, harg5.read_unread, harg6.read_unread, harg10.read_unread, harg11.read_unread,
    harg12.read_unread, View.ld_unit_zero (S := S1024x128) hz2, View.ld_unit_zero (S := S2048x128) hz2, readCov_plane0, readCov_plane1]
  rw [canon_planes]
  rfl

/-- The numerator after a row block's last point. -/
theorem sout_C_2 (c : Dev nD) (i : grid0.Coords) (arg4 : Memref sig .tc .vmem S1024x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1024x128 .bf16) (harg9 : arg9.IsWhole) (arg10 : Memref sig .tc .vmem S2x1024x128 .f32) (harg10 : arg10.IsWhole) (arg11 : Memref sig .tc .vmem S2x1024x128 .f32) (harg11 : arg11.IsWhole) (arg12 : Memref sig .tc .vmem S2x1024x128 .f32) (harg12 : arg12.IsWhole) (hc0 : ¬cond0_0 i) (hc1 : cond0_1 i)
    (x0 : Vec F S1024x128 .bf16) (x1 : Vec F S2048x128 .bf16) (x2 : Vec F S2048x128 .bf16) (x3 : Vec F S4x64 .f32) (x4 : Vec F S1x128 .f32) (xs0 : Vec F S2x1024x128 .f32) (xs1 : Vec F S2x1024x128 .f32) (xs2 : Vec F S2x1024x128 .f32) :
    sout0_C_2 c i arg4 harg4 arg5 harg5 arg6 harg6 arg7 harg7 arg8 harg8 arg9 harg9 arg10 harg10 arg11 harg11 arg12 harg12 hc0 hc1 x0 x1 x2 x3 x4 xs0 xs1 xs2 = stepA x0 x1 x2 xs0 xs2 := by
  unfold sout0_C_2
  rw [View.read_writes_eq_canon _ _ _ (scover0_C_2 c i arg4 harg4 arg5 harg5 arg6 harg6 arg7 harg7 arg8 harg8 arg9 harg9 arg10 harg10 arg11 harg11 arg12 harg12 hc0 hc1 x0 x1 x2 x3 x4 xs0 xs1 xs2)]
  unfold kernelRun0_C
  dsimp only
  sl_unfold_words
  simp only [View.readAt_eq_ld, harg4.read_unread, harg5.read_unread, harg6.read_unread, harg10.read_unread, harg11.read_unread,
    harg12.read_unread, View.ld_unit_zero (S := S1024x128) hz2, View.ld_unit_zero (S := S2048x128) hz2, readCov_plane0, readCov_plane1]
  rw [canon_planes]
  rfl

/-- The output block a row block's last point leaves. -/
theorem out_C (c : Dev nD) (i : grid0.Coords) (arg4 : Memref sig .tc .vmem S1024x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S4x64 .f32) (harg7 : arg7.IsWhole) (arg8 : Memref sig .tc .vmem S1x128 .f32) (harg8 : arg8.IsWhole) (arg9 : Memref sig .tc .vmem S1024x128 .bf16) (harg9 : arg9.IsWhole) (arg10 : Memref sig .tc .vmem S2x1024x128 .f32) (harg10 : arg10.IsWhole) (arg11 : Memref sig .tc .vmem S2x1024x128 .f32) (harg11 : arg11.IsWhole) (arg12 : Memref sig .tc .vmem S2x1024x128 .f32) (harg12 : arg12.IsWhole) (hc0 : ¬cond0_0 i) (hc1 : cond0_1 i)
    (x0 : Vec F S1024x128 .bf16) (x1 : Vec F S2048x128 .bf16) (x2 : Vec F S2048x128 .bf16) (x3 : Vec F S4x64 .f32) (x4 : Vec F S1x128 .f32) (xs0 : Vec F S2x1024x128 .f32) (xs1 : Vec F S2x1024x128 .f32) (xs2 : Vec F S2x1024x128 .f32) :
    out0_C_5 c i arg4 harg4 arg5 harg5 arg6 harg6 arg7 harg7 arg8 harg8 arg9 harg9 arg10 harg10 arg11 harg11 arg12 harg12 hc0 hc1 x0 x1 x2 x3 x4 xs0 xs1 xs2 = outBlock x3 x4 (stepL x0 x1 xs0 xs1) (stepA x0 x1 x2 xs0 xs2) := by
  unfold out0_C_5
  rw [View.read_writes_eq_canon _ _ _ (cover0_C_5 c i arg4 harg4 arg5 harg5 arg6 harg6 arg7 harg7 arg8 harg8 arg9 harg9 arg10 harg10 arg11 harg11 arg12 harg12 hc0 hc1 x0 x1 x2 x3 x4 xs0 xs1 xs2)]
  unfold kernelRun0_C
  dsimp only
  sl_unfold_words
  rw [View.canon_unit_zero hz2]
  simp only [View.readAt_eq_ld, readCov_planes0, readCov_planes1, harg4.read_unread, harg5.read_unread, harg6.read_unread, harg7.read_unread, harg8.read_unread, harg10.read_unread, harg11.read_unread,
    harg12.read_unread, View.ld_unit_zero (S := S1024x128) hz2, View.ld_unit_zero (S := S2048x128) hz2, View.ld_unit_zero (S := S4x64) hz2, View.ld_unit_zero (S := S1x128) hz2]
  rfl

end Cert.KernelIdeal.DiffPoint

end
-- ==== Proof.Softmax.lean ====
/-
  The arithmetic of a softmax taken block by block, over the extended reals: the running maximum, the running
  denominator and the running numerator, and what they are after any number of blocks.
-/
module

public import Idealize.ShloMosaic.PureOps.Ideal.Laws

@[expose] public section

noncomputable section

namespace DiffAttn

open Idealize.ShloMosaic

/-- The weight `2 ^ (t - m)` of a score `t` under a maximum `m`, as a real number. -/
def wt (t m : EReal) : ℝ := (Ideal.exp2 (t - m)).toReal

/-- Below the maximum a weight is a real number, whatever the score and the maximum are. -/
theorem exp2_sub {t m : EReal} (h : t ≤ m) : Ideal.exp2 (t - m) = (wt t m : EReal) := by
  unfold wt
  induction t <;> induction m <;> simp_all [← EReal.coe_sub]

theorem wt_nonneg (t m : EReal) : 0 ≤ wt t m := by
  unfold wt
  generalize t - m = x
  induction x
  · simp
  · simpa using Real.rpow_nonneg (by norm_num : (0 : ℝ) ≤ 2) _
  · simp

/-- Raising the maximum from `a` to `b` multiplies every weight by the weight of `a` under `b`. -/
theorem wt_mul {t a b : EReal} (h1 : t ≤ a) (h2 : a ≤ b) : wt a b * wt t a = wt t b := by
  unfold wt
  induction t <;> induction a <;> induction b <;> simp_all [← EReal.coe_sub]
  rename_i x y z
  rw [← Real.rpow_add (by norm_num : (0 : ℝ) < 2)]
  congr 1
  ring

variable {K : ℕ}

/-- The largest of the scores of the first `n` blocks. -/
def top (t : ℕ → Fin K → EReal) : ℕ → EReal
  | 0 => ⊥
  | n + 1 => max (top t n) (Finset.univ.fold max ⊥ fun k => t n k)

/-- The running denominator: rescaled to the new maximum, then the new block's weights are added. -/
def den (t : ℕ → Fin K → EReal) : ℕ → EReal
  | 0 => 0
  | n + 1 => Ideal.exp2 (top t n - top t (n + 1)) * den t n + ∑ k, Ideal.exp2 (t n k - top t (n + 1))

/-- The running numerator against the values `v`. -/
def num (t v : ℕ → Fin K → EReal) : ℕ → EReal
  | 0 => 0
  | n + 1 => Ideal.exp2 (top t n - top t (n + 1)) * num t v n + ∑ k, Ideal.exp2 (t n k - top t (n + 1)) * v n k

theorem le_fold {ι : Type} [Fintype ι] (f : ι → EReal) (i : ι) : f i ≤ Finset.univ.fold max ⊥ f :=
  (Finset.le_fold_max (f i)).mpr (Or.inr ⟨i, Finset.mem_univ i, le_refl _⟩)

theorem top_mono (t : ℕ → Fin K → EReal) (n : ℕ) : top t n ≤ top t (n + 1) := le_max_left _ _

theorem le_top (t : ℕ → Fin K → EReal) {n j : ℕ} (h : j < n) (k : Fin K) : t j k ≤ top t n := by
  induction n with
  | zero => omega
  | succ n ih =>
    rcases Nat.lt_succ_iff_lt_or_eq.mp h with h | rfl
    · exact (ih h).trans (top_mono t n)
    · exact (le_fold (fun k => t j k) k).trans (le_max_right _ _)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- After `n` blocks the denominator is the sum of all their weights under the maximum so far. -/
theorem den_eq (t : ℕ → Fin K → EReal) (n : ℕ) :
    den t n = ((∑ j ∈ Finset.range n, ∑ k, wt (t j k) (top t n) : ℝ) : EReal) := by
  induction n with
  | zero => simp [den]
  | succ n ih =>
    rw [den, ih, exp2_sub (top_mono t n), Finset.sum_congr rfl fun k _ => exp2_sub (le_top t (Nat.lt_succ_self n) k),
      ← coe_sum, ← EReal.coe_mul, ← EReal.coe_add, Finset.sum_range_succ, Finset.mul_sum]
    congr 2
    refine Finset.sum_congr rfl fun j hj => ?_
    rw [Finset.mul_sum]
    exact Finset.sum_congr rfl fun k _ => wt_mul (le_top t (Finset.mem_range.mp hj) k) (top_mono t n)

/-- After `n` blocks the numerator is the weighted sum of their values, the values being real numbers. -/
theorem num_eq (t : ℕ → Fin K → EReal) (v : ℕ → Fin K → ℝ) (n : ℕ) :
    num t (fun j k => (v j k : EReal)) n
      = ((∑ j ∈ Finset.range n, ∑ k, wt (t j k) (top t n) * v j k : ℝ) : EReal) := by
  induction n with
  | zero => simp [num]
  | succ n ih =>
    have hs : ∑ k, Ideal.exp2 (t n k - top t (n + 1)) * (v n k : EReal)
        = ((∑ k, wt (t n k) (top t (n + 1)) * v n k : ℝ) : EReal) := by
      rw [coe_sum]
      refine Finset.sum_congr rfl fun k _ => ?_
      rw [exp2_sub (le_top t (Nat.lt_succ_self n) k), EReal.coe_mul]
    rw [num, ih, exp2_sub (top_mono t n), hs, ← EReal.coe_mul, ← EReal.coe_add, Finset.sum_range_succ, Finset.mul_sum]
    congr 2
    refine Finset.sum_congr rfl fun j hj => ?_
    rw [Finset.mul_sum]
    refine Finset.sum_congr rfl fun k _ => ?_
    rw [← mul_assoc, wt_mul (le_top t (Finset.mem_range.mp hj) k) (top_mono t n)]

/-! ## All keys at once -/

/-- Block `j` of a row over all the keys: its entry `k` is key `2048 j + k`. -/
def blk {α : Type} (f : Fin 8192 → α) (j : ℕ) (k : Fin 2048) : α := f (Fin.ofNat 8192 (2048 * j + k.val))

/-- A sum over the four blocks is the sum over all the keys. -/
theorem sum_blk (f : Fin 8192 → ℝ) : ∑ j ∈ Finset.range 4, ∑ k, blk f j k = ∑ x, f x := by
  rw [Finset.sum_range (n := 4) (fun j => ∑ k, blk f j k), ← Fintype.sum_prod_type' (fun (j : Fin 4) k => blk f j.val k)]
  refine Fintype.sum_equiv (finProdFinEquiv (m := 4) (n := 2048)) _ _ ?_
  rintro ⟨j, k⟩
  refine congrArg f (Fin.ext ?_)
  have h1 := j.isLt
  have h2 := k.isLt
  show (2048 * j.val + k.val) % 8192 = k.val + 2048 * j.val
  omega

theorem blk_div_mod {α : Type} (f : Fin 8192 → α) (x : Fin 8192) :
    blk f (x.val / 2048) ⟨x.val % 2048, Nat.mod_lt _ (by norm_num)⟩ = f x := by
  refine congrArg f (Fin.ext ?_)
  have := x.isLt
  show (2048 * (x.val / 2048) + x.val % 2048) % 8192 = x.val
  omega

/-- The maximum of the four blocks' maxima is the maximum over all the keys. -/
theorem top_blk (s : Fin 8192 → EReal) : top (blk s) 4 = Finset.univ.fold max ⊥ s := by
  refine le_antisymm ?_ ((Finset.fold_max_le _).mpr ⟨bot_le, fun x _ => ?_⟩)
  · generalize 4 = n
    induction n with
    | zero => exact bot_le
    | succ n ih =>
      exact max_le ih ((Finset.fold_max_le _).mpr ⟨bot_le, fun k _ => le_fold s _⟩)
  · rw [← blk_div_mod s x]
    exact le_top (blk s) (by have := x.isLt; omega) _

/-! ## Natural exponentials of unscaled scores -/

/-- Multiplication by a positive real number commutes with a maximum. -/
theorem mul_fold {ι : Type} [Fintype ι] {c : ℝ} (hc : 0 < c) (s : ι → EReal) :
    Finset.univ.fold max ⊥ (fun x => (c : EReal) * s x) = (c : EReal) * Finset.univ.fold max ⊥ s := by
  have hm : Monotone fun x : EReal => (c : EReal) * x := fun a b h => by
    exact mul_le_mul_of_nonneg_left h (by exact_mod_cast hc.le)
  have h := Finset.fold_hom (op := (max : EReal → EReal → EReal)) (op' := max) (b := ⊥) (s := Finset.univ) (f := s)
    (m := fun x : EReal => (c : EReal) * x) (fun x y => hm.map_max)
  rw [← h, EReal.coe_mul_bot_of_pos hc]

/-- `exp (s - m)` is the weight of `s / log 2` under `m / log 2`. -/
theorem exp_sub {s m : EReal} (h : s ≤ m) :
    Ideal.exp (s - m) = (wt (((Real.log 2)⁻¹ : ℝ) * s) (((Real.log 2)⁻¹ : ℝ) * m) : EReal) := by
  have hl : 0 < Real.log 2 := Real.log_pos (by norm_num)
  have hc : 0 < (Real.log 2)⁻¹ := inv_pos.mpr hl
  unfold wt
  induction s <;> induction m <;>
    simp_all [← EReal.coe_sub, ← EReal.coe_mul, EReal.coe_mul_bot_of_pos hc, EReal.coe_mul_top_of_pos hc]
  rename_i x y
  rw [Real.rpow_def_of_pos (by norm_num : (0 : ℝ) < 2)]
  congr 1
  field_simp

/-- A positive real factor leaves a sum of extended reals. -/
theorem mul_sum {ι : Type} (S : Finset ι) {c : ℝ} (hc : 0 ≤ c) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha,
      EReal.left_distrib_of_nonneg_of_ne_top (by exact_mod_cast hc) (EReal.coe_ne_top c), ih]

end DiffAttn

end
-- ==== Proof.MaxReduce.lean ====
/-
  The largest element along the last axis, from a reduction that starts below everything: stated at any sizes.
-/
module

public import Idealize.ShloMosaic.Lib.Pointwise

@[expose] public section

noncomputable section

namespace DiffAttn

open Idealize.ShloMosaic Idealize.ShloMosaic.TcCoe

theorem ninf_eq : Ideal.ofBits .f32 4286578688#32 = ⊥ := by simp [Ideal.ofBits, Ideal.ieee]

/-- A host maximum over the last of five axes. -/
theorem host_max {n0 n1 n2 n3 n4 : Nat} (x : FVec Ideal ⟨5, ![n0, n1, n2, n3, n4]⟩ .f32) {u : Shape} (init : FVec Ideal u .f32)
    (h : (⟨5, ![n0, n1, n2, n3, n4]⟩ : Shape).ReducesTo [4] ⟨4, ![n0, n1, n2, n3]⟩) (hu : 0 < u.numel)
    (hi : init (Shape.Idx.first hu) = ⊥) (a : Fin n0) (b : Fin n1) (c : Fin n2) (d : Fin n3) :
    Host.reduce (FloatOps.maximumf (F := Ideal) (φ := .f32)) x init h hu (ix4 a b c d) = Finset.univ.fold max ⊥ fun e : Fin n4 => x (ix5 a b c d e) := by
  pointwise
  rw [hi]

/-- A kernel maximum over the second of two axes. -/
theorem lane_max {n0 n1 : Nat} (x : FVec Ideal ⟨2, ![n0, n1]⟩ .f32)
    (h : (⟨2, ![n0, n1]⟩ : Shape).Reduces [1] ⟨1, ![n0]⟩) (r : Fin n0) :
    multiReduction .maximumf [1] ⟨1, ![n0]⟩ x 0xFF800000#32 h (.inl rfl) rfl (ix1 r) = Finset.univ.fold max ⊥ fun k : Fin n1 => x (ix2 r k) := by
  pointwise
  rw [ninf_eq]

end DiffAttn

end
-- ==== Proof.DiffStep.lean ====
/-
  The step of one grid point of the differential attention, read at an index over the extended reals: scores as sums
  over a head's lanes, and the three carried arrays as the running maximum, denominator and numerator of a softmax.
-/
module

public import proofs.«01_k».proof.Proof.DiffPoint
public import proofs.«01_k».proof.Proof.Softmax
public import proofs.«01_k».proof.Proof.MaxReduce

@[expose] public section

set_option maxRecDepth 16384

noncomputable section

namespace Cert.KernelIdeal.DiffPoint

open Idealize.ShloMosaic Idealize.ShloMosaic.TcCoe
open Cert.KernelIdeal Cert.KernelIdeal.Gen

/-- The lane mask is set on the first 64 lanes. -/
theorem mask_apply (r : Fin 1024) (i : Fin 128) :
    k0_pay8 (ix2 r i) = if i.val < 64 then 1#1 else 0#1 := by
  unfold k0_pay8
  pointwise
  revert i
  decide +kernel

/-- The score of query row `r` and key row `k` for one softmax: the product over that softmax's 64 lanes. -/
def sc (x0 : Vec Ideal S1024x128 .bf16) (x1 : Vec Ideal S2048x128 .bf16) (c : Fin 2) (r : Fin 1024) (k : Fin 2048) : EReal :=
  ∑ x : Fin 64, x0 (ix2 r ⟨64 * c.val + x.val, by omega⟩) * x1 (ix2 k ⟨64 * c.val + x.val, by omega⟩)

theorem score0_apply (x0 : Vec Ideal S1024x128 .bf16) (x1 : Vec Ideal S2048x128 .bf16) (r : Fin 1024) (k : Fin 2048) :
    k0_pay9 x0 x1 (ix2 r k) = sc x0 x1 0 r k := by
  unfold k0_pay9 k0_pay5 k0_pay6 sc
  pointwise [mask_apply]
  simp

theorem score1_apply (x0 : Vec Ideal S1024x128 .bf16) (x1 : Vec Ideal S2048x128 .bf16) (r : Fin 1024) (k : Fin 2048) :
    scores1 x0 x1 (ix2 r k) = sc x0 x1 1 r k := by
  unfold scores1 k0_pay18 k0_pay5 k0_pay6 sc
  pointwise [mask_apply]
  rw [show IntOp.xori 1#1 1#1 = 0#1 from rfl, show IntOp.xori 0#1 1#1 = 1#1 from rfl]
  simp [Scalar.select]

theorem plane0_apply (s : Vec Ideal S2x1024x128 .f32) (r : Fin 1024) (l : Fin 128) :
    plane0 s (ix3 0 r l) = s (ix3 0 r l) := by
  unfold plane0
  pointwise

theorem plane1_apply (s : Vec Ideal S2x1024x128 .f32) (r : Fin 1024) (l : Fin 128) :
    plane1 s (ix3 0 r l) = s (ix3 1 r l) := by
  unfold plane1
  pointwise

theorem ninf : Ideal.ofBits .f32 4286578688#32 = ⊥ := DiffAttn.ninf_eq

theorem max0_apply (x0 : Vec Ideal S1024x128 .bf16) (x1 : Vec Ideal S2048x128 .bf16) (s : Vec Ideal S1x1024x128 .f32)
   (r : Fin 1024) (l : Fin 128) :
    k0_pay12 (k0_pay10 s) (k0_pay11 x0 x1) (ix2 r l)
      = max (s (ix3 0 r l)) (Finset.univ.fold max ⊥ fun k => sc x0 x1 0 r k) := by
  have hr : k0_pay11 x0 x1 (ix1 r) = _ := DiffAttn.lane_max (k0_pay9 x0 x1) reduces_S1024x2048_S1024 r
  unfold k0_pay12 k0_pay10
  generalize k0_pay11 x0 x1 = m at hr ⊢
  pointwise
  rw [hr]
  simp only [score0_apply]

theorem max1_apply (x0 : Vec Ideal S1024x128 .bf16) (x1 : Vec Ideal S2048x128 .bf16) (s : Vec Ideal S1x1024x128 .f32)
   (r : Fin 1024) (l : Fin 128) :
    k0_pay20 (scores1 x0 x1) s (ix2 r l)
      = max (s (ix3 0 r l)) (Finset.univ.fold max ⊥ fun k => sc x0 x1 1 r k) := by
  have hr := DiffAttn.lane_max (scores1 x0 x1) reduces_S1024x2048_S1024 r
  unfold k0_pay20 k0_pay19
  generalize multiReduction .maximumf [1] S1024 (scores1 x0 x1) 0xFF800000#32 reduces_S1024x2048_S1024 (.inl rfl) rfl = m at hr ⊢
  pointwise
  rw [hr]
  simp only [score1_apply]

/-- The first softmax's weights under a maximum that is the same in every lane. -/
theorem weight0_apply (t : FVec Ideal S1024x2048 .f32) (v32 : FVec Ideal S1024x128 .f32) (v33 : FVec Ideal S1024 .f32) (M : Fin 1024 → EReal)
    (h : ∀ r l, k0_pay12 v32 v33 (ix2 r l) = M r) (r : Fin 1024) (k : Fin 2048) :
    k0_pay14 t v32 v33 (ix2 r k) = Ideal.exp2 (t (ix2 r k) - M r) := by
  unfold k0_pay14
  pointwise [h]
  simp only [dite_eq_ite, ite_self]
  rfl

theorem weight1_apply (t : FVec Ideal S1024x2048 .f32) (s : Vec Ideal S1x1024x128 .f32) (M : Fin 1024 → EReal)
    (h : ∀ r l, k0_pay20 t s (ix2 r l) = M r) (r : Fin 1024) (k : Fin 2048) :
    k0_pay22 t s (ix2 r k) = Ideal.exp2 (t (ix2 r k) - M r) := by
  unfold k0_pay22
  pointwise [h]
  simp only [dite_eq_ite, ite_self]
  rfl

end Cert.KernelIdeal.DiffPoint

end
-- ==== Proof.DiffUpdate.lean ====
/-
  One grid point of the differential attention as one step of the running softmax: what it leaves of the running
  maximum, the denominator and the numerator at each plane, row and lane.
-/
module

public import proofs.«01_k».proof.Proof.DiffStep

@[expose] public section

set_option maxRecDepth 16384

noncomputable section

namespace Cert.KernelIdeal.DiffPoint

open Idealize.ShloMosaic Idealize.ShloMosaic.TcCoe
open Cert.KernelIdeal Cert.KernelIdeal.Gen

theorem squeeze0_apply (s : Vec Ideal S1x1024x128 .f32) (r : Fin 1024) (l : Fin 128) :
    k0_pay10 s (ix2 r l) = s (ix3 0 r l) := by
  unfold k0_pay10
  pointwise

theorem squeeze1_apply (s : Vec Ideal S1x1024x128 .f32) (r : Fin 1024) (l : Fin 128) :
    k0_pay19 s (ix2 r l) = s (ix3 0 r l) := by
  unfold k0_pay19
  pointwise

/-- The first softmax's rescaling factor. -/
theorem alpha0_apply (v32 : FVec Ideal S1024x128 .f32) (v33 : FVec Ideal S1024 .f32) (r : Fin 1024) (l : Fin 128) :
    k0_pay13 v32 v33 (ix2 r l) = Ideal.exp2 (v32 (ix2 r l) - k0_pay12 v32 v33 (ix2 r l)) := by
  unfold k0_pay13
  pointwise
  rfl

theorem alpha1_apply (t : FVec Ideal S1024x2048 .f32) (s : Vec Ideal S1x1024x128 .f32) (r : Fin 1024) (l : Fin 128) :
    k0_pay21 t s (ix2 r l) = Ideal.exp2 (k0_pay19 s (ix2 r l) - k0_pay20 t s (ix2 r l)) := by
  unfold k0_pay21
  pointwise
  rfl

theorem keep0_apply (v32 : FVec Ideal S1024x128 .f32) (v33 : FVec Ideal S1024 .f32) (r : Fin 1024) (l : Fin 128) :
    k0_pay17 v32 v33 (ix3 0 r l) = k0_pay12 v32 v33 (ix2 r l) := by
  unfold k0_pay17
  pointwise

theorem keep1_apply (t : FVec Ideal S1024x2048 .f32) (s : Vec Ideal S1x1024x128 .f32) (r : Fin 1024) (l : Fin 128) :
    k0_pay25 t s (ix3 0 r l) = k0_pay20 t s (ix2 r l) := by
  unfold k0_pay25
  pointwise

theorem den0_apply (t : FVec Ideal S1024x2048 .f32) (v32 : FVec Ideal S1024x128 .f32) (v33 : FVec Ideal S1024 .f32)
    (s : Vec Ideal S1x1024x128 .f32) (r : Fin 1024) (l : Fin 128) :
    k0_pay15 t v32 v33 s (ix3 0 r l)
      = k0_pay13 v32 v33 (ix2 r l) * s (ix3 0 r l) + ∑ k : Fin 2048, k0_pay14 t v32 v33 (ix2 r k) := by
  unfold k0_pay15
  generalize k0_pay14 t v32 v33 = p
  generalize k0_pay13 v32 v33 = a
  pointwise

theorem den1_apply (t : FVec Ideal S1024x2048 .f32) (m s : Vec Ideal S1x1024x128 .f32) (r : Fin 1024) (l : Fin 128) :
    k0_pay23 t m s (ix3 0 r l)
      = k0_pay21 t m (ix2 r l) * s (ix3 0 r l) + ∑ k : Fin 2048, k0_pay22 t m (ix2 r k) := by
  unfold k0_pay23
  generalize k0_pay22 t m = p
  generalize k0_pay21 t m = a
  pointwise

theorem num0_apply (v : Vec Ideal S2048x128 .bf16) (t : FVec Ideal S1024x2048 .f32) (v32 : FVec Ideal S1024x128 .f32) (v33 : FVec Ideal S1024 .f32)
    (s : Vec Ideal S1x1024x128 .f32) (r : Fin 1024) (l : Fin 128) :
    k0_pay16 (k0_pay7 v) t v32 v33 s (ix3 0 r l)
      = k0_pay13 v32 v33 (ix2 r l) * s (ix3 0 r l) + ∑ k : Fin 2048, k0_pay14 t v32 v33 (ix2 r k) * v (ix2 k l) := by
  unfold k0_pay16 k0_pay7
  generalize k0_pay14 t v32 v33 = p
  generalize k0_pay13 v32 v33 = a
  pointwise

theorem num1_apply (v : Vec Ideal S2048x128 .bf16) (t : FVec Ideal S1024x2048 .f32) (m s : Vec Ideal S1x1024x128 .f32) (r : Fin 1024) (l : Fin 128) :
    k0_pay24 (k0_pay7 v) t m s (ix3 0 r l)
      = k0_pay21 t m (ix2 r l) * s (ix3 0 r l) + ∑ k : Fin 2048, k0_pay22 t m (ix2 r k) * v (ix2 k l) := by
  unfold k0_pay24 k0_pay7
  generalize k0_pay22 t m = p
  generalize k0_pay21 t m = a
  pointwise

theorem init0_apply (y : S2x1024x128.Idx) : (k0_pay2 (F := Ideal)) y = ⊥ := by
  unfold k0_pay2
  pointwise
  exact ninf

theorem init1_apply (y : S2x1024x128.Idx) : (k0_pay3 (F := Ideal)) y = 0 := by
  unfold k0_pay3
  pointwise

theorem init2_apply (y : S2x1024x128.Idx) : (k0_pay4 (F := Ideal)) y = 0 := by
  unfold k0_pay4
  pointwise

/-- The maximum a row has after a point. -/
def newM (x0 : Vec Ideal S1024x128 .bf16) (x1 : Vec Ideal S2048x128 .bf16) (M : Fin 2 → Fin 1024 → EReal) (c : Fin 2) (r : Fin 1024) : EReal :=
  max (M c r) (Finset.univ.fold max ⊥ fun k => sc x0 x1 c r k)

theorem planes_0 (p0 p1 : Vec Ideal S1x1024x128 .f32) (r : Fin 1024) (l : Fin 128) : planes p0 p1 (ix3 0 r l) = p0 (ix3 0 r l) := rfl
theorem planes_1 (p0 p1 : Vec Ideal S1x1024x128 .f32) (r : Fin 1024) (l : Fin 128) : planes p0 p1 (ix3 1 r l) = p1 (ix3 0 r l) := rfl

theorem tops0 {x0 : Vec Ideal S1024x128 .bf16} {x1 : Vec Ideal S2048x128 .bf16} {s0 : Vec Ideal S2x1024x128 .f32} {M : Fin 2 → Fin 1024 → EReal}
    (hM : ∀ c r l, s0 (ix3 c r l) = M c r) (r : Fin 1024) (l : Fin 128) :
    k0_pay12 (k0_pay10 (plane0 s0)) (k0_pay11 x0 x1) (ix2 r l) = newM x0 x1 M 0 r := by
  rw [max0_apply, plane0_apply, hM, newM]

theorem tops1 {x0 : Vec Ideal S1024x128 .bf16} {x1 : Vec Ideal S2048x128 .bf16} {s0 : Vec Ideal S2x1024x128 .f32} {M : Fin 2 → Fin 1024 → EReal}
    (hM : ∀ c r l, s0 (ix3 c r l) = M c r) (r : Fin 1024) (l : Fin 128) :
    k0_pay20 (scores1 x0 x1) (plane1 s0) (ix2 r l) = newM x0 x1 M 1 r := by
  rw [max1_apply, plane1_apply, hM, newM]

theorem stepM_apply {x0 : Vec Ideal S1024x128 .bf16} {x1 : Vec Ideal S2048x128 .bf16} {s0 : Vec Ideal S2x1024x128 .f32} {M : Fin 2 → Fin 1024 → EReal}
    (hM : ∀ c r l, s0 (ix3 c r l) = M c r) (c : Fin 2) (r : Fin 1024) (l : Fin 128) :
    stepM x0 x1 s0 (ix3 c r l) = newM x0 x1 M c r := by
  unfold stepM
  match c with
  | 0 => rw [planes_0, keep0_apply, tops0 hM]
  | 1 => rw [planes_1, keep1_apply, tops1 hM]

theorem stepL_apply {x0 : Vec Ideal S1024x128 .bf16} {x1 : Vec Ideal S2048x128 .bf16} {s0 s1 : Vec Ideal S2x1024x128 .f32} {M L : Fin 2 → Fin 1024 → EReal}
    (hM : ∀ c r l, s0 (ix3 c r l) = M c r) (hL : ∀ c r l, s1 (ix3 c r l) = L c r) (c : Fin 2) (r : Fin 1024) (l : Fin 128) :
    stepL x0 x1 s0 s1 (ix3 c r l) = Ideal.exp2 (M c r - newM x0 x1 M c r) * L c r
      + ∑ k : Fin 2048, Ideal.exp2 (sc x0 x1 c r k - newM x0 x1 M c r) := by
  unfold stepL
  match c with
  | 0 =>
    rw [planes_0, den0_apply, alpha0_apply, tops0 hM, squeeze0_apply, plane0_apply, plane0_apply, hM, hL]
    simp only [weight0_apply _ _ _ _ (tops0 hM), score0_apply]
  | 1 =>
    rw [planes_1, den1_apply, alpha1_apply, tops1 hM, squeeze1_apply, plane1_apply, plane1_apply, hM, hL]
    simp only [weight1_apply _ _ _ (tops1 hM), score1_apply]

theorem stepA_apply {x0 : Vec Ideal S1024x128 .bf16} {x1 x2 : Vec Ideal S2048x128 .bf16} {s0 s2 : Vec Ideal S2x1024x128 .f32} {M : Fin 2 → Fin 1024 → EReal}
    {A : Fin 2 → Fin 1024 → Fin 128 → EReal}
    (hM : ∀ c r l, s0 (ix3 c r l) = M c r) (hA : ∀ c r l, s2 (ix3 c r l) = A c r l) (c : Fin 2) (r : Fin 1024) (l : Fin 128) :
    stepA x0 x1 x2 s0 s2 (ix3 c r l) = Ideal.exp2 (M c r - newM x0 x1 M c r) * A c r l
      + ∑ k : Fin 2048, Ideal.exp2 (sc x0 x1 c r k - newM x0 x1 M c r) * x2 (ix2 k l) := by
  unfold stepA
  match c with
  | 0 =>
    rw [planes_0, num0_apply, alpha0_apply, tops0 hM, squeeze0_apply, plane0_apply, plane0_apply, hM, hA]
    simp only [weight0_apply _ _ _ _ (tops0 hM), score0_apply]
  | 1 =>
    rw [planes_1, num1_apply, alpha1_apply, tops1 hM, squeeze1_apply, plane1_apply, plane1_apply, hM, hA]
    simp only [weight1_apply _ _ _ (tops1 hM), score1_apply]

end Cert.KernelIdeal.DiffPoint

end
-- ==== Proof.DiffHost.lean ====
/-
  What the attention's windows read: the projection array's query, key and value columns, the four vectors of the second
  softmax's factor and the gain, each as an entry of an argument.
-/
module

public import proofs.«01_k».proof.Proof.Gen.KernelIdeal.Value
public import Idealize.ShloMosaic.Lib.Pointwise
public import Idealize.ShloMosaic.Lib.StableHlo.Run

@[expose] public section

set_option maxRecDepth 16384

noncomputable section

namespace Cert.KernelIdeal.DiffHost

open Idealize.ShloMosaic Idealize.ShloMosaic.TcCoe Idealize.SL.Sem
open Cert.KernelIdeal Cert.KernelIdeal.Gen

/-- The projection array: nothing in the first 1536 columns, then scaled queries, keys and values. -/
def proj (q k : FVec Ideal S2x8192x4x2x64 .f32) (v : FVec Ideal S2x8192x4x128 .f32) : FVec Ideal S16384x3072 .bf16 :=
  concatenate S16384x3072 1 [
    ⟨S16384x1536, broadcastInDim S16384x1536 ![] bcast_S_S16384x1536 (constant S_ .bf16 0x0000#16)⟩,
    ⟨S16384x512, truncf .bf16 (shapeCast S16384x512 (mulf q (broadcastInDim S2x8192x4x2x64 ![] bcast_S_S2x8192x4x2x64
      (Host.divf (constant S_ .f32 0x3E000000#32) (Host.log (constant S_ .f32 0x40000000#32))))) shapeCasts_S2x8192x4x2x64_S16384x512) bitsLt_bf16_f32⟩,
    ⟨S16384x512, truncf .bf16 (shapeCast S16384x512 k shapeCasts_S2x8192x4x2x64_S16384x512) bitsLt_bf16_f32⟩,
    ⟨S16384x512, truncf .bf16 (shapeCast S16384x512 v shapeCasts_S2x8192x4x128_S16384x512) bitsLt_bf16_f32⟩] concatenates_S16384x1536_S16384x512_S16384x512_S16384x512_S16384x3072_d1

/-- The four vectors, one a row. -/
def rows (a b c d : FVec Ideal S64 .f32) : FVec Ideal S4x64 .f32 :=
  concatenate S4x64 0 [⟨S1x64, broadcastInDim S1x64 ![1] bcast_S64_S1x64_1 a⟩, ⟨S1x64, broadcastInDim S1x64 ![1] bcast_S64_S1x64_1 b⟩,
    ⟨S1x64, broadcastInDim S1x64 ![1] bcast_S64_S1x64_1 c⟩, ⟨S1x64, broadcastInDim S1x64 ![1] bcast_S64_S1x64_1 d⟩] concatenates_S1x64_S1x64_S1x64_S1x64_S4x64_d0

variable (m : (ℓ : Loc nD τ sig) → Buf (Elt Ideal) ℓ) (c : Dev nD)

theorem V_proj : V m c main_v12 = proj (m ((c : Thread nD τ).loc main_arg0)) (m ((c : Thread nD τ).loc main_arg1)) (m ((c : Thread nD τ).loc main_arg2)) := by
  unfold_abbrev_sides
  after_results_simp
  rfl

theorem V_rows : V m c main_v17 = rows (m ((c : Thread nD τ).loc main_arg3)) (m ((c : Thread nD τ).loc main_arg4))
    (m ((c : Thread nD τ).loc main_arg5)) (m ((c : Thread nD τ).loc main_arg6)) := by
  unfold_abbrev_sides
  after_results_simp
  rfl

theorem V_gain : V m c main_v18 = shapeCast S1x128 (m ((c : Thread nD τ).loc main_arg7)) shapeCasts_S128_S1x128 := by
  unfold_abbrev_sides
  after_results_simp
  rfl

theorem proj_q (q k : FVec Ideal S2x8192x4x2x64 .f32) (v : FVec Ideal S2x8192x4x128 .f32) (b : Fin 2) (n : Fin 8192) (h : Fin 4) (s : Fin 2) (d : Fin 64) :
    proj q k v (ix2 ⟨8192 * b.val + n.val, by omega⟩ ⟨1536 + (128 * h.val + (64 * s.val + d.val)), by omega⟩)
      = q (ix5 b n h s d) * Ideal.div (Ideal.ofBits .f32 0x3E000000#32) (Ideal.log (Ideal.ofBits .f32 0x40000000#32)) := by
  unfold proj
  pointwise
  have hh := h.isLt
  have hs := s.isLt
  have hd := d.isLt
  rw [dif_pos (by omega)]

theorem proj_k (q k : FVec Ideal S2x8192x4x2x64 .f32) (v : FVec Ideal S2x8192x4x128 .f32) (b : Fin 2) (n : Fin 8192) (h : Fin 4) (s : Fin 2) (d : Fin 64) :
    proj q k v (ix2 ⟨8192 * b.val + n.val, by omega⟩ ⟨2048 + (128 * h.val + (64 * s.val + d.val)), by omega⟩) = k (ix5 b n h s d) := by
  unfold proj
  pointwise
  have hh := h.isLt
  have hs := s.isLt
  have hd := d.isLt
  rw [dif_neg (by omega), dif_neg (by omega), dif_pos (by omega)]
  have e1 : (2048 + (128 * h.val + (64 * s.val + d.val)) - 1536 - 512) / 128 = h.val := by omega
  have e2 : (2048 + (128 * h.val + (64 * s.val + d.val)) - 1536 - 512) / 64 % 2 = s.val := by omega
  have e3 : (2048 + (128 * h.val + (64 * s.val + d.val)) - 1536 - 512) % 64 = d.val := by omega
  simp only [e1, e2, e3, Fin.eta]

theorem proj_v (q k : FVec Ideal S2x8192x4x2x64 .f32) (v : FVec Ideal S2x8192x4x128 .f32) (b : Fin 2) (n : Fin 8192) (h : Fin 4) (e : Fin 128) :
    proj q k v (ix2 ⟨8192 * b.val + n.val, by omega⟩ ⟨2560 + (128 * h.val + e.val), by omega⟩) = v (ix4 b n h e) := by
  unfold proj
  pointwise
  have hh := h.isLt
  have he := e.isLt
  rw [dif_neg (by omega), dif_neg (by omega), dif_neg (by omega)]
  have e1 : (2560 + (128 * h.val + e.val) - 1536 - 512 - 512) / 128 = h.val := by omega
  have e2 : (2560 + (128 * h.val + e.val) - 1536 - 512 - 512) % 128 = e.val := by omega
  simp only [e1, e2, Fin.eta]

theorem rows_apply (a b c d : FVec Ideal S64 .f32) (x : Fin 64) :
    rows a b c d (ix2 0 x) = a (ix1 x) ∧ rows a b c d (ix2 1 x) = b (ix1 x)
      ∧ rows a b c d (ix2 2 x) = c (ix1 x) ∧ rows a b c d (ix2 3 x) = d (ix1 x) := by
  unfold rows
  refine ⟨?_, ?_, ?_, ?_⟩ <;> pointwise

theorem gain_apply (g : FVec Ideal S128 .f32) (e : Fin 128) : shapeCast S1x128 g shapeCasts_S128_S1x128 (ix2 0 e) = g (ix1 e) := by
  pointwise

theorem index0 : ∀ t : Fin grid0.N, win0_0.index t 0 = 8 * (t.val / 128) + t.val / 4 % 8 ∧ win0_0.index t 1 = 12 + t.val / 32 % 4 := by decide +kernel
theorem index1 : ∀ t : Fin grid0.N, win0_1.index t 0 = 4 * (t.val / 128) + t.val % 4 ∧ win0_1.index t 1 = 16 + t.val / 32 % 4 := by decide +kernel
theorem index2 : ∀ t : Fin grid0.N, win0_2.index t 0 = 4 * (t.val / 128) + t.val % 4 ∧ win0_2.index t 1 = 20 + t.val / 32 % 4 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel

theorem lt_N (t : Fin cfg0.N) : t.val < 256 := lt_of_lt_of_eq t.isLt (show cfg0.N = 256 from N_0)

/-- The query block at a point: 1024 rows of its batch, its head's 128 query columns. -/
theorem block0 (t : Fin cfg0.N) (r : Fin 1024) (l : Fin 128) :
    (iblk m c 0 t : Vec Ideal S1024x128 .bf16) (ix2 r l)
      = (V m c main_v12 : FVec Ideal S16384x3072 .bf16) (ix2 ⟨8192 * (t.val / 128) + (1024 * (t.val / 4 % 8) + r.val), by have := lt_N t; omega⟩
          ⟨1536 + (128 * (t.val / 32 % 4) + l.val), by omega⟩) := by
  have hi := index0 t
  unfold iblk
  rw [View.read_apply]
  show (V m c main_v12 : FVec Ideal S16384x3072 .bf16) _ = V m c main_v12 _
  congr 1
  funext a
  apply Fin.ext
  match a with
  | ⟨0, _⟩ => show win0_0.index t 0 * 1024 + 1 * r.val = 8192 * (t.val / 128) + (1024 * (t.val / 4 % 8) + r.val); rw [hi.1]; omega
  | ⟨1, _⟩ => show win0_0.index t 1 * 128 + 1 * l.val = 1536 + (128 * (t.val / 32 % 4) + l.val); rw [hi.2]; omega

/-- The key block at a point. -/
theorem block1 (t : Fin cfg0.N) (r : Fin 2048) (l : Fin 128) :
    (iblk m c 1 t : Vec Ideal S2048x128 .bf16) (ix2 r l)
      = (V m c main_v12 : FVec Ideal S16384x3072 .bf16) (ix2 ⟨8192 * (t.val / 128) + (2048 * (t.val % 4) + r.val), by have := lt_N t; omega⟩
          ⟨2048 + (128 * (t.val / 32 % 4) + l.val), by omega⟩) := by
  have hi := index1 t
  unfold iblk
  rw [View.read_apply]
  show (V m c main_v12 : FVec Ideal S16384x3072 .bf16) _ = V m c main_v12 _
  congr 1
  funext a
  apply Fin.ext
  match a with
  | ⟨0, _⟩ => show win0_1.index t 0 * 2048 + 1 * r.val = 8192 * (t.val / 128) + (2048 * (t.val % 4) + r.val); rw [hi.1]; omega
  | ⟨1, _⟩ => show win0_1.index t 1 * 128 + 1 * l.val = 2048 + (128 * (t.val / 32 % 4) + l.val); rw [hi.2]; omega

/-- The value block at a point. -/
theorem block2 (t : Fin cfg0.N) (r : Fin 2048) (l : Fin 128) :
    (iblk m c 2 t : Vec Ideal S2048x128 .bf16) (ix2 r l)
      = (V m c main_v12 : FVec Ideal S16384x3072 .bf16) (ix2 ⟨8192 * (t.val / 128) + (2048 * (t.val % 4) + r.val), by have := lt_N t; omega⟩
          ⟨2560 + (128 * (t.val / 32 % 4) + l.val), by omega⟩) := by
  have hi := index2 t
  unfold iblk
  rw [View.read_apply]
  show (V m c main_v12 : FVec Ideal S16384x3072 .bf16) _ = V m c main_v12 _
  congr 1
  funext a
  apply Fin.ext
  match a with
  | ⟨0, _⟩ => show win0_2.index t 0 * 2048 + 1 * r.val = 8192 * (t.val / 128) + (2048 * (t.val % 4) + r.val); rw [hi.1]; omega
  | ⟨1, _⟩ => show win0_2.index t 1 * 128 + 1 * l.val = 2560 + (128 * (t.val / 32 % 4) + l.val); rw [hi.2]; omega

theorem block3 (t : Fin cfg0.N) (r : Fin 4) (l : Fin 64) :
    (iblk m c 3 t : Vec Ideal S4x64 .f32) (ix2 r l) = (V m c main_v17 : FVec Ideal S4x64 .f32) (ix2 r l) := by
  have hi := index3 t
  unfold iblk
  rw [View.read_apply]
  show (V m c main_v17 : FVec Ideal S4x64 .f32) _ = V m c main_v17 _
  congr 1
  funext a
  apply Fin.ext
  match a with
  | ⟨0, _⟩ => show win0_3.index t 0 * 4 + 1 * r.val = r.val; rw [hi.1]; omega
  | ⟨1, _⟩ => show win0_3.index t 1 * 64 + 1 * l.val = l.val; rw [hi.2]; omega

theorem block4 (t : Fin cfg0.N) (l : Fin 128) :
    (iblk m c 4 t : Vec Ideal S1x128 .f32) (ix2 0 l) = (V m c main_v18 : FVec Ideal S1x128 .f32) (ix2 0 l) := by
  have hi := index4 t
  unfold iblk
  rw [View.read_apply]
  show (V m c main_v18 : FVec Ideal S1x128 .f32) _ = V m c main_v18 _
  congr 1
  funext a
  apply Fin.ext
  match a with
  | ⟨0, _⟩ => show win0_4.index t 0 * 1 + 1 * 0 = 0; rw [hi.1]
  | ⟨1, _⟩ => show win0_4.index t 1 * 128 + 1 * l.val = l.val; rw [hi.2]; omega

end Cert.KernelIdeal.DiffHost

end
-- ==== Proof.DiffCarry.lean ====
/-
  The three carried arrays after each point of the differential attention: the running maximum, denominator and
  numerator of the point's row block over the key blocks read so far.
-/
module

public import proofs.«01_k».proof.Proof.DiffUpdate
public import proofs.«01_k».proof.Proof.DiffHost

@[expose] public section

set_option maxRecDepth 16384

noncomputable section

namespace Cert.KernelIdeal.DiffCarry

open Idealize.ShloMosaic Idealize.ShloMosaic.TcCoe Idealize.SL.Sem
open Cert.KernelIdeal Cert.KernelIdeal.Gen Cert.KernelIdeal.DiffPoint Cert.KernelIdeal.DiffHost
open DiffAttn (top den num blk)

variable (m : (ℓ : Loc nD τ sig) → Buf (Elt Ideal) ℓ) (c : Dev nD)

/-- Row block `p` (batch, head, query block) starts at point `4 * p`. -/
abbrev pt (p : Fin 64) (j : Fin 4) : Fin cfg0.N := ⟨4 * p.val + j.val, by rw [show cfg0.N = 256 from N_0]; omega⟩

/-- The projection array the windows read. -/
def array : FVec Ideal S16384x3072 .bf16 := V m c main_v12

/-- The scores of row `r` of row block `p` in one softmax, against every key of its batch. -/
def rowScore (p : Fin 64) (s : Fin 2) (r : Fin 1024) (x : Fin 8192) : EReal :=
  ∑ d : Fin 64, array m c
      (ix2 ⟨8192 * (p.val / 32) + (1024 * (p.val % 8) + r.val), by omega⟩ ⟨1536 + (128 * (p.val / 8 % 4) + (64 * s.val + d.val)), by omega⟩)
    * array m c
      (ix2 ⟨8192 * (p.val / 32) + x.val, by omega⟩ ⟨2048 + (128 * (p.val / 8 % 4) + (64 * s.val + d.val)), by omega⟩)

/-- The values of lane `l` of row block `p`'s head, over every key of its batch. -/
def rowValue (p : Fin 64) (l : Fin 128) (x : Fin 8192) : EReal :=
  array m c
    (ix2 ⟨8192 * (p.val / 32) + x.val, by omega⟩ ⟨2560 + (128 * (p.val / 8 % 4) + l.val), by omega⟩)

/-- A point's scores are its key block of the row's scores. -/
theorem sc_eq (p : Fin 64) (j : Fin 4) (s : Fin 2) (r : Fin 1024) (k : Fin 2048) :
    sc (iblk m c 0 (pt p j)) (iblk m c 1 (pt p j)) s r k = blk (rowScore m c p s r) j.val k := by
  have hp := p.isLt
  have hj := j.isLt
  have hk := k.isLt
  unfold sc blk rowScore
  refine Finset.sum_congr rfl fun d _ => ?_
  refine congrArg₂ (fun a b : EReal => a * b) ((block0 m c (pt p j) _ _).trans ?_) ((block1 m c (pt p j) _ _).trans ?_)
  · refine congrArg₂ (fun a b => array m c (ix2 a b)) (Fin.ext ?_) (Fin.ext ?_)
    · show 8192 * ((4 * p.val + j.val) / 128) + (1024 * ((4 * p.val + j.val) / 4 % 8) + r.val) = 8192 * (p.val / 32) + (1024 * (p.val % 8) + r.val)
      omega
    · show 1536 + (128 * ((4 * p.val + j.val) / 32 % 4) + (64 * s.val + d.val)) = 1536 + (128 * (p.val / 8 % 4) + (64 * s.val + d.val))
      omega
  · refine congrArg₂ (fun a b => array m c (ix2 a b)) (Fin.ext ?_) (Fin.ext ?_)
    · show 8192 * ((4 * p.val + j.val) / 128) + (2048 * ((4 * p.val + j.val) % 4) + k.val) = 8192 * (p.val / 32) + (2048 * j.val + k.val) % 8192
      omega
    · show 2048 + (128 * ((4 * p.val + j.val) / 32 % 4) + (64 * s.val + d.val)) = 2048 + (128 * (p.val / 8 % 4) + (64 * s.val + d.val))
      omega

/-- A point's values are its key block of the lane's values. -/
theorem val_eq (p : Fin 64) (j : Fin 4) (l : Fin 128) (k : Fin 2048) :
    (iblk m c 2 (pt p j) : Vec Ideal S2048x128 .bf16) (ix2 k l) = blk (rowValue m c p l) j.val k := by
  have hp := p.isLt
  have hj := j.isLt
  have hk := k.isLt
  unfold blk rowValue
  refine (block2 m c (pt p j) _ _).trans (congrArg₂ (fun a b => array m c (ix2 a b)) (Fin.ext ?_) (Fin.ext ?_))
  · show 8192 * ((4 * p.val + j.val) / 128) + (2048 * ((4 * p.val + j.val) % 4) + k.val) = 8192 * (p.val / 32) + (2048 * j.val + k.val) % 8192
    omega
  · show 2560 + (128 * ((4 * p.val + j.val) / 32 % 4) + l.val) = 2560 + (128 * (p.val / 8 % 4) + l.val)
    omega

/-- What the carried arrays hold after `n` key blocks. -/
def Holds (p : Fin 64) (n : ℕ) (a0 a1 a2 : Vec Ideal S2x1024x128 .f32) : Prop :=
  (∀ s r l, a0 (ix3 s r l) = top (blk (rowScore m c p s r)) n)
    ∧ (∀ s r l, a1 (ix3 s r l) = den (blk (rowScore m c p s r)) n)
    ∧ ∀ s r l, a2 (ix3 s r l) = num (blk (rowScore m c p s r)) (blk (rowValue m c p l)) n

theorem holds_zero (p : Fin 64) : Holds m c p 0 (k0_pay2 (F := Ideal)) (k0_pay3 (F := Ideal)) (k0_pay4 (F := Ideal)) :=
  ⟨fun s r l => init0_apply _, fun s r l => init1_apply _, fun s r l => init2_apply _⟩

/-- One point adds its key block. -/
theorem holds_step (p : Fin 64) (j : Fin 4) {a0 a1 a2 : Vec Ideal S2x1024x128 .f32} (h : Holds m c p j.val a0 a1 a2) :
    Holds m c p (j.val + 1) (stepM (iblk m c 0 (pt p j)) (iblk m c 1 (pt p j)) a0)
      (stepL (iblk m c 0 (pt p j)) (iblk m c 1 (pt p j)) a0 a1)
      (stepA (iblk m c 0 (pt p j)) (iblk m c 1 (pt p j)) (iblk m c 2 (pt p j)) a0 a2) := by
  obtain ⟨h0, h1, h2⟩ := h
  have hM : ∀ s r, newM (iblk m c 0 (pt p j)) (iblk m c 1 (pt p j)) (fun s r => top (blk (rowScore m c p s r)) j.val) s r
      = top (blk (rowScore m c p s r)) (j.val + 1) := fun s r => by
    unfold newM
    simp only [sc_eq]
    rfl
  refine ⟨fun s r l => ?_, fun s r l => ?_, fun s r l => ?_⟩
  · rw [stepM_apply (M := fun s r => top (blk (rowScore m c p s r)) j.val) h0, hM]
  · rw [stepL_apply (M := fun s r => top (blk (rowScore m c p s r)) j.val) (L := fun s r => den (blk (rowScore m c p s r)) j.val) h0 h1, hM]
    simp only [sc_eq]
    rfl
  · rw [stepA_apply (M := fun s r => top (blk (rowScore m c p s r)) j.val)
      (A := fun s r l => num (blk (rowScore m c p s r)) (blk (rowValue m c p l)) j.val) h0 h2, hM]
    simp only [sc_eq, val_eq]
    rfl

/-- After point `j` of a row block the carried arrays hold the running softmax over `j + 1` key blocks. -/
theorem carried (p : Fin 64) : ∀ j : Fin 4, j.val < 3 →
    Holds m c p (j.val + 1) (outsAt0 m c (pt p j).val (pt p j).isLt).2.1 (outsAt0 m c (pt p j).val (pt p j).isLt).2.2.1
      (outsAt0 m c (pt p j).val (pt p j).isLt).2.2.2 := by
  intro j hj
  obtain ⟨j, h⟩ := j
  induction j with
  | zero =>
    have h0 : (pt p ⟨0, h⟩).val % 4 = 0 := by show (4 * p.val + 0) % 4 = 0; omega
    have h1 : ¬(pt p ⟨0, h⟩).val % 4 = 3 := by omega
    rw [outsAt0_A m c (pt p ⟨0, h⟩) h0 h1]
    dsimp only
    rw [sout_A_0, sout_A_1, sout_A_2]
    exact holds_step m c p ⟨0, h⟩ (holds_zero m c p)
  | succ j ih =>
    have hj' : j + 1 < 3 := hj
    have ih := ih (by omega) (by show j < 3; omega)
    have hp := p.isLt
    have h0 : ¬(pt p ⟨j + 1, h⟩).val % 4 = 0 := by show ¬(4 * p.val + (j + 1)) % 4 = 0; omega
    have h1 : ¬(pt p ⟨j + 1, h⟩).val % 4 = 3 := by show ¬(4 * p.val + (j + 1)) % 4 = 3; omega
    rw [outsAt0_B m c (pt p ⟨j + 1, h⟩) h0 h1]
    dsimp only
    rw [sout_B_0, sout_B_1, sout_B_2]
    exact holds_step m c p ⟨j + 1, h⟩ ih

/-- What a row block's last point writes: the output block of the whole softmax. -/
theorem flushed_last (p : Fin 64) : ∃ a1 a2 : Vec Ideal S2x1024x128 .f32,
    (dats m 0 c).flushed 5 (pt p 3) = (cfg0.win 5).cut (grid0.coords (pt p 3)) (outBlock (iblk m c 3 (pt p 3)) (iblk m c 4 (pt p 3)) a1 a2)
      ∧ (∀ s r l, a1 (ix3 s r l) = den (blk (rowScore m c p s r)) 4)
      ∧ ∀ s r l, a2 (ix3 s r l) = num (blk (rowScore m c p s r)) (blk (rowValue m c p l)) 4 := by
  have hp := p.isLt
  have h0 : ¬(pt p 3).val % 4 = 0 := by show ¬(4 * p.val + 3) % 4 = 0; omega
  have h1 : (pt p 3).val % 4 = 3 := by show (4 * p.val + 3) % 4 = 3; omega
  have hc := holds_step m c p 3 (carried m c p 2 (by decide))
  refine ⟨_, _, ?_, hc.2.1, hc.2.2⟩
  rw [Value.flushed5_C m c (pt p 3) h0 h1, out_C]
  rfl

end Cert.KernelIdeal.DiffCarry

end
-- ==== Proof.DiffRow.lean ====
/-
  One output row of the differential attention, over the extended reals: two softmaxes' difference against the values,
  normalised by its root mean square. Dividing the weighted sums at the end and dividing every weight before it is
  summed give the same row.
-/
module

public import proofs.«01_k».proof.Proof.Softmax

@[expose] public section

noncomputable section

namespace DiffAttn

open Idealize.ShloMosaic

/-- Entry `e` of a row divided by its root mean square. -/
def normed {N : ℕ} (a b : EReal) (o : Fin N → EReal) (e : Fin N) : EReal :=
  o e * Ideal.rsqrt (Ideal.div (∑ i, o i * o i) a + b)

/-- Nothing but the two infinities and zero. -/
def Corner (x : EReal) : Prop := x = ⊥ ∨ x = ⊤ ∨ x = 0

theorem Corner.sum {ι : Type} (s : Finset ι) (f : ι → EReal) (h : ∀ i, Corner (f i)) : Corner (∑ i ∈ s, f i) := by
  classical
  induction s using Finset.induction_on with
  | empty => simp [Corner]
  | insert a s ha ih =>
    rw [Finset.sum_insert ha]
    rcases h a with h | h | h <;> rcases ih with h' | h' | h' <;> simp [Corner, h, h']

/-- An infinity times a real number. -/
theorem Corner.mul {x : EReal} (h : Corner x) (r : ℝ) : Corner (x * (r : EReal)) := by
  rcases lt_trichotomy r 0 with hr | rfl | hr
  · rcases h with rfl | rfl | rfl
    · rw [mul_comm, EReal.coe_mul_bot_of_neg hr]; simp [Corner]
    · rw [mul_comm, EReal.coe_mul_top_of_neg hr]; simp [Corner]
    · simp [Corner]
  · simp [Corner]
  · rcases h with rfl | rfl | rfl
    · rw [mul_comm, EReal.coe_mul_bot_of_pos hr]; simp [Corner]
    · rw [mul_comm, EReal.coe_mul_top_of_pos hr]; simp [Corner]
    · simp [Corner]

/-- A row of infinities and zeros is normalised to zero. -/
theorem normed_corner {N : ℕ} {a b : ℝ} (ha : 0 < a) (o : Fin N → EReal) (h : ∀ i, Corner (o i)) (e : Fin N) :
    normed (a : EReal) (b : EReal) o e = 0 := by
  unfold normed
  by_cases h0 : o e = 0
  · simp [h0]
  · have hsq : ∀ i, o i * o i = ⊤ ∨ o i * o i = 0 := fun i => by
      rcases h i with h | h | h <;> simp [h]
    have he : o e * o e = ⊤ := by rcases h e with h | h | h <;> simp_all
    have hs : ∑ i, o i * o i = ⊤ := by
      refine top_le_iff.mp (he ▸ ?_)
      refine Finset.single_le_sum (f := fun i => o i * o i) (fun i _ => ?_) (Finset.mem_univ e)
      rcases hsq i with h | h <;> simp [h]
    rw [hs, Ideal.div_coe ha.ne', EReal.top_mul_coe_of_pos (by positivity), EReal.top_add_coe, Ideal.rsqrt_top, mul_zero]

theorem div_zero_zero : Ideal.div (0 : EReal) 0 = ⊥ := by simp [Ideal.div]

variable {N : ℕ} {ι : Type} [Fintype ι]

/-- The two ways of dividing give the same normalised row: `p`, `q` are the two softmaxes' weights, `P`, `Q` their
    sums (zero only when every weight is), `l` the difference's factor and `v` the values. -/
theorem normed_eq {a b : ℝ} (ha : 0 < a) (p q : ι → ℝ) (hp : ∀ x, 0 ≤ p x) (hq : ∀ x, 0 ≤ q x) (l : ℝ)
    (v : ι → Fin N → ℝ) (e : Fin N) :
    normed (a : EReal) (b : EReal)
        (fun e => Ideal.div ((∑ x, p x * v x e : ℝ) : EReal) ((∑ x, p x : ℝ) : EReal)
          - (l : EReal) * Ideal.div ((∑ x, q x * v x e : ℝ) : EReal) ((∑ x, q x : ℝ) : EReal)) e
      = normed (a : EReal) (b : EReal)
        (fun e => ∑ x, (Ideal.div (p x : EReal) ((∑ x, p x : ℝ) : EReal)
          - (l : EReal) * Ideal.div (q x : EReal) ((∑ x, q x : ℝ) : EReal)) * (v x e : EReal)) e := by
  by_cases hP : (∑ x, p x) = 0
  · have hp0 : ∀ x, p x = 0 := fun x => (Finset.sum_eq_zero_iff_of_nonneg fun i _ => hp i).mp hP x (Finset.mem_univ x)
    rw [normed_corner ha _ (fun i => ?_), normed_corner ha _ (fun i => Corner.sum _ _ fun x => ?_)]
    · refine Corner.mul (Or.inl ?_) _
      rw [hP, hp0 x, EReal.coe_zero, div_zero_zero, sub_eq_add_neg, EReal.bot_add]
    · refine Or.inl ?_
      simp only [hP, hp0, zero_mul, Finset.sum_const_zero, EReal.coe_zero, div_zero_zero]
      rw [sub_eq_add_neg, EReal.bot_add]
  by_cases hQ : (∑ x, q x) = 0
  · have hq0 : ∀ x, q x = 0 := fun x => (Finset.sum_eq_zero_iff_of_nonneg fun i _ => hq i).mp hQ x (Finset.mem_univ x)
    simp only [hQ, hq0, zero_mul, Finset.sum_const_zero, EReal.coe_zero, div_zero_zero, Ideal.div_coe hP]
    by_cases hl : l = 0
    · subst hl
      simp only [EReal.coe_zero, zero_mul, sub_zero, ← EReal.coe_mul, ← coe_sum]
      congr 1
      funext e
      rw [Finset.sum_mul]
      exact congrArg _ (Finset.sum_congr rfl fun x _ => by ring)
    · have hc : ∀ r : ℝ, Corner ((r : EReal) - (l : EReal) * ⊥) ∧ True := fun r => by
        rcases lt_or_gt_of_ne hl with h | h
        · rw [EReal.coe_mul_bot_of_neg h]; simp [Corner]
        · rw [EReal.coe_mul_bot_of_pos h]; simp [Corner]
      rw [normed_corner ha _ (fun i => ?_), normed_corner ha _ (fun i => Corner.sum _ _ fun x => ?_)]
      · rw [← EReal.coe_mul]; exact ((hc _).1).mul _
      · rw [← EReal.coe_mul]; exact (hc _).1
  · congr 1
    funext e
    simp only [Ideal.div_coe hP, Ideal.div_coe hQ, ← EReal.coe_mul, ← EReal.coe_sub, ← coe_sum]
    congr 1
    rw [Finset.sum_mul, Finset.sum_mul, Finset.mul_sum, ← Finset.sum_sub_distrib]
    exact Finset.sum_congr rfl fun x _ => by ring

end DiffAttn

end
-- ==== Proof.DiffOut.lean ====
/-
  The block that a row block's last point of the differential attention writes, element by element: the two quotients'
  difference, normalised over the head's lanes, times the gain and the constant.
-/
module

public import proofs.«01_k».proof.Proof.DiffStep
public import proofs.«01_k».proof.Proof.DiffRow

@[expose] public section

set_option maxRecDepth 16384

noncomputable section

namespace Cert.KernelIdeal.DiffOut

open Idealize.ShloMosaic Idealize.ShloMosaic.TcCoe Idealize.SL.Sem
open Cert.KernelIdeal Cert.KernelIdeal.Gen Cert.KernelIdeal.DiffPoint

/-- The difference's factor from the four parameter rows. -/
def factor (x3 : Vec Ideal S4x64 .f32) : EReal :=
  Ideal.exp (∑ d : Fin 64, x3 (ix2 0 d) * x3 (ix2 1 d)) - Ideal.exp (∑ d : Fin 64, x3 (ix2 2 d) * x3 (ix2 3 d))
    + Ideal.ofBits .f32 0x3E4CCCCD#32

/-- The normalised difference of the two quotients. -/
theorem normed_apply (x3 : Vec Ideal S4x64 .f32) (p q u w : Vec Ideal S1x1024x128 .f32) (r : Fin 1024) (e : Fin 128) :
    k0_pay1 x3 p q u w (ix2 r e)
      = DiffAttn.normed (Ideal.ofBits .f32 0x43000000#32) (Ideal.ofBits .f32 0x3727C5AC#32)
          (fun e => Ideal.div (p (ix3 0 r e)) (q (ix3 0 r e)) - factor x3 * Ideal.div (u (ix3 0 r e)) (w (ix3 0 r e))) e := by
  unfold k0_pay1 DiffAttn.normed factor
  pointwise

/-- The gain and the constant. -/
theorem gained_apply (o : FVec Ideal S1024x128 .f32) (x4 : Vec Ideal S1x128 .f32) (r : Fin 1024) (e : Fin 128) :
    k0_pay26 o x4 (ix2 r e) = o (ix2 r e) * x4 (ix2 0 e) * Ideal.ofBits .f32 0x3F4CCCCD#32 := by
  unfold k0_pay26
  pointwise

/-- The output block at a row and a lane. -/
theorem outBlock_apply (x3 : Vec Ideal S4x64 .f32) (x4 : Vec Ideal S1x128 .f32) (l a : Vec Ideal S2x1024x128 .f32) (r : Fin 1024) (e : Fin 128) :
    outBlock x3 x4 l a (ix2 r e)
      = DiffAttn.normed (Ideal.ofBits .f32 0x43000000#32) (Ideal.ofBits .f32 0x3727C5AC#32)
          (fun e => Ideal.div (a (ix3 0 r e)) (l (ix3 0 r e)) - factor x3 * Ideal.div (a (ix3 1 r e)) (l (ix3 1 r e))) e
        * x4 (ix2 0 e) * Ideal.ofBits .f32 0x3F4CCCCD#32 := by
  unfold outBlock
  rw [gained_apply, normed_apply]
  simp only [plane0_apply, plane1_apply]

end Cert.KernelIdeal.DiffOut

end
-- ==== Proof.DiffEq.lean ====
/-
  The running softmax in powers of two over four key blocks and the whole softmax in powers of e give the same
  normalised difference.
-/
module

public import proofs.«01_k».proof.Proof.Softmax
public import proofs.«01_k».proof.Proof.DiffRow

@[expose] public section

set_option maxRecDepth 16384

noncomputable section

namespace DiffAttn

open Idealize.ShloMosaic

/-- The factor between the exponents of the two bases. -/
def c2 : ℝ := (Real.log 2)⁻¹

theorem c2_pos : 0 < c2 := inv_pos.mpr (Real.log_pos (by norm_num))

/-- The weight of key `x` in the softmax of the scores `s`, before the division. -/
def weight (s : Fin 8192 → EReal) (x : Fin 8192) : ℝ :=
  wt ((c2 : EReal) * s x) ((c2 : EReal) * Finset.univ.fold max ⊥ s)

theorem weight_nonneg (s : Fin 8192 → EReal) (x : Fin 8192) : 0 ≤ weight s x := wt_nonneg _ _

/-- The whole softmax's exponential is the weight. -/
theorem exp_eq (s : Fin 8192 → EReal) (x : Fin 8192) : Ideal.exp (s x - Finset.univ.fold max ⊥ s) = (weight s x : EReal) :=
  exp_sub (le_fold s x)

theorem top_scaled (s : Fin 8192 → EReal) : top (blk fun x => (c2 : EReal) * s x) 4 = (c2 : EReal) * Finset.univ.fold max ⊥ s :=
  (top_blk _).trans (mul_fold c2_pos s)

/-- The running denominator after all blocks is the weights' sum. -/
theorem den_all (s : Fin 8192 → EReal) : den (blk fun x => (c2 : EReal) * s x) 4 = ((∑ x, weight s x : ℝ) : EReal) := by
  rw [den_eq, top_scaled]
  exact congrArg (fun y : ℝ => (y : EReal)) (sum_blk (weight s))

/-- The running numerator after all blocks is the weighted sum of the values. -/
theorem num_all (s : Fin 8192 → EReal) (v : Fin 8192 → ℝ) :
    num (blk fun x => (c2 : EReal) * s x) (blk fun x => (v x : EReal)) 4 = ((∑ x, weight s x * v x : ℝ) : EReal) := by
  refine (num_eq (blk fun x => (c2 : EReal) * s x) (blk v) 4).trans ?_
  rw [top_scaled]
  exact congrArg (fun y : ℝ => (y : EReal)) (sum_blk fun x => weight s x * v x)

/-- The running form's normalised difference is the whole softmaxes'. -/
theorem rows_eq {a b : ℝ} (ha : 0 < a) (s0 s1 : Fin 8192 → EReal) (l : ℝ) (v : Fin 8192 → Fin 128 → ℝ) (e : Fin 128) :
    normed (a : EReal) (b : EReal)
        (fun e => Ideal.div (num (blk fun x => (c2 : EReal) * s0 x) (blk fun x => (v x e : EReal)) 4) (den (blk fun x => (c2 : EReal) * s0 x) 4)
          - (l : EReal) * Ideal.div (num (blk fun x => (c2 : EReal) * s1 x) (blk fun x => (v x e : EReal)) 4) (den (blk fun x => (c2 : EReal) * s1 x) 4)) e
      = normed (a : EReal) (b : EReal)
        (fun e => ∑ x, (v x e : EReal) *
          (Ideal.div (Ideal.exp (s0 x - Finset.univ.fold max ⊥ s0)) (∑ x, Ideal.exp (s0 x - Finset.univ.fold max ⊥ s0))
            - (l : EReal) * Ideal.div (Ideal.exp (s1 x - Finset.univ.fold max ⊥ s1)) (∑ x, Ideal.exp (s1 x - Finset.univ.fold max ⊥ s1)))) e := by
  simp only [exp_eq, den_all, num_all, ← coe_sum, mul_comm (v _ _ : EReal)]
  exact normed_eq ha (weight s0) (weight s1) (weight_nonneg s0) (weight_nonneg s1) l v e

end DiffAttn

end
-- ==== Proof.DiffPre.lean ====
/-
  The constants of the differential attention as real numbers, and the precondition read: the values and the four
  parameter vectors are real.
-/
module

public import proofs.«01_k».proof.Defs
public import proofs.«01_k».proof.Proof.Gen.Pre_finite_values
public import Idealize.ShloMosaic.Lib.Pointwise
public import Idealize.ShloMosaic.Lib.ReduceAll

@[expose] public section

set_option maxRecDepth 16384

noncomputable section

namespace DiffAttn

open Idealize.ShloMosaic Idealize.ShloMosaic.TcCoe

theorem eighth_eq : Ideal.ofBits .f32 0x3E000000#32 = ((1 / 8 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem lanes_eq : Ideal.ofBits .f32 0x43000000#32 = ((128 : ℝ) : EReal) := by
  simp [Ideal.ofBits, Ideal.ieee, -EReal.coe_mul]; norm_num

theorem eps_real : ∃ r : ℝ, Ideal.ofBits .f32 0x3727C5AC#32 = (r : EReal) := by
  simp only [Ideal.ofBits, Ideal.ieee]
  exact ⟨_, rfl⟩

theorem init_real : ∃ r : ℝ, Ideal.ofBits .f32 0x3E4CCCCD#32 = (r : EReal) := by
  simp only [Ideal.ofBits, Ideal.ieee]
  exact ⟨_, rfl⟩

theorem inf_eq : Ideal.ofBits .f32 0x7F800000#32 = ⊤ := by simp [Ideal.ofBits, Ideal.ieee]

/-- An element whose magnitude compares below infinity is real. -/
theorem real_of_lt (x : EReal) (h : FloatOps.cmpf (F := Ideal) (φ := .f32) .olt (max x (-x)) ⊤ = 1#1) : ∃ r : ℝ, x = (r : EReal) := by
  induction x with
  | bot => simp [FloatOps.cmpf, Ideal.cmp] at h
  | top => simp [FloatOps.cmpf, Ideal.cmp] at h
  | coe r => exact ⟨r, rfl⟩

theorem andi_one (a b : BitVec 1) (h : IntOp.andi a b = 1#1) : a = 1#1 ∧ b = 1#1 := by
  revert a b; decide

end DiffAttn

namespace Cert.KernelIdeal.DiffPre

open Idealize.ShloMosaic Idealize.ShloMosaic.TcCoe
open Cert.Pre_finite_values

/-- What the precondition says of the values and the parameter vectors. -/
theorem real_of_pre (q k : FVec Ideal S2x8192x4x2x64 .f32) (v : FVec Ideal S2x8192x4x128 .f32) (a b c d : FVec Ideal S64 .f32) (g : FVec Ideal S128 .f32)
    (h : Cert.Pre_finite_values.fn (F := Ideal) q k v a b c d g = fun _ => 1#1) :
    (∀ i, ∃ r : ℝ, v i = (r : EReal)) ∧ (∀ i, ∃ r : ℝ, a i = (r : EReal)) ∧ (∀ i, ∃ r : ℝ, b i = (r : EReal))
      ∧ (∀ i, ∃ r : ℝ, c i = (r : EReal)) ∧ (∀ i, ∃ r : ℝ, d i = (r : EReal)) := by
  have h0 := congrFun h (fun a => a.elim0)
  dsimp only [fn] at h0
  obtain ⟨h0, hd⟩ := DiffAttn.andi_one _ _ h0
  obtain ⟨h0, hc⟩ := DiffAttn.andi_one _ _ h0
  obtain ⟨h0, hb⟩ := DiffAttn.andi_one _ _ h0
  obtain ⟨hv, ha⟩ := DiffAttn.andi_one _ _ h0
  refine ⟨fun i => ?_, fun i => ?_, fun i => ?_, fun i => ?_, fun i => ?_⟩
  · have e := Host.reduce_andi_all _ _ _ _ _ hv i
    exact DiffAttn.real_of_lt _ (DiffAttn.inf_eq ▸ e)
  · have e := Host.reduce_andi_all _ _ _ _ _ ha i
    exact DiffAttn.real_of_lt _ (DiffAttn.inf_eq ▸ e)
  · have e := Host.reduce_andi_all _ _ _ _ _ hb i
    exact DiffAttn.real_of_lt _ (DiffAttn.inf_eq ▸ e)
  · have e := Host.reduce_andi_all _ _ _ _ _ hc i
    exact DiffAttn.real_of_lt _ (DiffAttn.inf_eq ▸ e)
  · have e := Host.reduce_andi_all _ _ _ _ _ hd i
    exact DiffAttn.real_of_lt _ (DiffAttn.inf_eq ▸ e)

end Cert.KernelIdeal.DiffPre

end
-- ==== Proof.DiffRef.lean ====
/-
  The reference differential attention, read stage by stage at an index over the extended reals.
-/
module

public import proofs.«01_k».proof.Proof.Gen.ReferenceIdeal.Run
public import Idealize.ShloMosaic.Lib.Pointwise
public import proofs.«01_k».proof.Proof.DiffRow
public import proofs.«01_k».proof.Proof.MaxReduce

@[expose] public section

set_option maxRecDepth 16384

noncomputable section

namespace Cert.ReferenceIdeal.DiffRef

open Idealize.ShloMosaic Idealize.ShloMosaic.TcCoe Idealize.SL.Sem
open Cert.ReferenceIdeal Cert.ReferenceIdeal.Gen

/-- The scaled scores of every query against every key of its batch, per head and softmax. -/
def scores (q k : FVec Ideal S2x8192x4x2x64 .f32) : FVec Ideal S2x4x2x8192x8192 .f32 :=
  mulf (Host.dotGeneral dot_S2x8192x4x2x64_S2x8192x4x2x64_S2x4x2x8192x8192_4_4_1_1_023_023 none q k)
    (broadcastInDim S2x4x2x8192x8192 ![] bcast_S_S2x4x2x8192x8192 (constant S_ .f32 0x3E000000#32))

/-- The largest score of each row. -/
def tops (s : FVec Ideal S2x4x2x8192x8192 .f32) : FVec Ideal S2x4x2x8192 .f32 :=
  maximumf (broadcastInDim S2x4x2x8192 ![] bcast_S_S2x4x2x8192 (constant S_ .f32 0xFF800000#32))
    (Host.reduce FloatOps.maximumf s (constant S_ .f32 0xFF800000#32) reducesTo_S2x4x2x8192x8192_S2x4x2x8192_d4 h_S_)

/-- Each score's exponential under its row's largest. -/
def exps (s : FVec Ideal S2x4x2x8192x8192 .f32) : FVec Ideal S2x4x2x8192x8192 .f32 :=
  Host.exp (subf s (broadcastInDim S2x4x2x8192x8192 ![0, 1, 2, 3, 4] bcast_S2x4x2x8192x1_S2x4x2x8192x8192_0_1_2_3_4
    (broadcastInDim S2x4x2x8192x1 ![0, 1, 2, 3] bcast_S2x4x2x8192_S2x4x2x8192x1_0_1_2_3 (tops s))))

/-- Exponentials divided by their row's sum. -/
def probs (p : FVec Ideal S2x4x2x8192x8192 .f32) : FVec Ideal S2x4x2x8192x8192 .f32 :=
  Host.divf p (broadcastInDim S2x4x2x8192x8192 ![0, 1, 2, 3, 4] bcast_S2x4x2x8192x1_S2x4x2x8192x8192_0_1_2_3_4
    (broadcastInDim S2x4x2x8192x1 ![0, 1, 2, 3] bcast_S2x4x2x8192_S2x4x2x8192x1_0_1_2_3
      (Host.reduceAdd p (constant S_ .f32 0x00000000#32) reducesTo_S2x4x2x8192x8192_S2x4x2x8192_d4 h_S_)))

/-- The factor of the second softmax. -/
def lam (a b c d : FVec Ideal S64 .f32) : FVec Ideal S_ .f32 :=
  addf (subf (Host.exp (Host.reduceAdd (mulf a b) (constant S_ .f32 0x00000000#32) reducesTo_S64_S_d0 h_S_))
    (Host.exp (Host.reduceAdd (mulf c d) (constant S_ .f32 0x00000000#32) reducesTo_S64_S_d0 h_S_))) (constant S_ .f32 0x3E4CCCCD#32)

/-- The first softmax less the factor times the second. -/
def weights (p : FVec Ideal S2x4x2x8192x8192 .f32) (l : FVec Ideal S_ .f32) : FVec Ideal S2x4x8192x8192 .f32 :=
  subf (shapeCast _ (extractStridedSlice S2x4x1x8192x8192 ![0, 0, 0, 0, 0] p slices_S2x4x2x8192x8192_S2x4x1x8192x8192_0_0_0_0_0) shapeCasts_S2x4x1x8192x8192_S2x4x8192x8192)
    (mulf (broadcastInDim S2x4x8192x8192 ![] bcast_S_S2x4x8192x8192 l)
      (shapeCast _ (extractStridedSlice S2x4x1x8192x8192 ![0, 0, 1, 0, 0] p slices_S2x4x2x8192x8192_S2x4x1x8192x8192_0_0_1_0_0) shapeCasts_S2x4x1x8192x8192_S2x4x8192x8192))

/-- The weighted sums of the values. -/
def mixed (v : FVec Ideal S2x8192x4x128 .f32) (w : FVec Ideal S2x4x8192x8192 .f32) : FVec Ideal S2x8192x4x128 .f32 :=
  transpose S2x8192x4x128 [0, 3, 1, 2] (Host.dotGeneral dot_S2x8192x4x128_S2x4x8192x8192_S2x4x128x8192_1_3_3_2_02_01 none v w)
    transposes_S2x4x128x8192_S2x8192x4x128_0_3_1_2

/-- Each head's row over its root mean square. -/
def scaled (o : FVec Ideal S2x8192x4x128 .f32) : FVec Ideal S2x8192x4x128 .f32 :=
  mulf o (broadcastInDim S2x8192x4x128 ![0, 1, 2, 3] bcast_S2x8192x4x1_S2x8192x4x128_0_1_2_3 (Host.rsqrt (addf (Host.divf
    (broadcastInDim S2x8192x4x1 ![0, 1, 2] bcast_S2x8192x4_S2x8192x4x1_0_1_2 (Host.reduceAdd (mulf o o) (constant S_ .f32 0x00000000#32) reducesTo_S2x8192x4x128_S2x8192x4_d3 h_S_))
    (broadcastInDim S2x8192x4x1 ![] bcast_S_S2x8192x4x1 (constant S_ .f32 0x43000000#32)))
    (broadcastInDim S2x8192x4x1 ![] bcast_S_S2x8192x4x1 (constant S_ .f32 0x3727C5AC#32)))))

/-- The gain and the factor left of the initial one, the heads side by side. -/
def finish (o : FVec Ideal S2x8192x4x128 .f32) (g : FVec Ideal S128 .f32) : FVec Ideal S16384x512 .bf16 :=
  truncf .bf16 (shapeCast _ (mulf (mulf o (broadcastInDim S2x8192x4x128 ![0, 1, 2, 3] bcast_S1x1x1x128_S2x8192x4x128_0_1_2_3
    (broadcastInDim S1x1x1x128 ![3] bcast_S128_S1x1x1x128_3 g)))
    (broadcastInDim S2x8192x4x128 ![] bcast_S_S2x8192x4x128 (constant S_ .f32 0x3F4CCCCD#32))) shapeCasts_S2x8192x4x128_S16384x512) bitsLt_bf16_f32

/-- The reference's result, as its stages. -/
theorem res_eq (m : (ℓ : Loc nD τ sig) → Buf (Elt Ideal) ℓ) (c : Dev nD) :
    Value.res_main_v47 (F := Ideal) m c
      = finish (scaled (mixed (m ((c.tc : Thread nD τ).loc main_arg2))
          (weights (probs (exps (scores (m ((c.tc : Thread nD τ).loc main_arg0)) (m ((c.tc : Thread nD τ).loc main_arg1)))))
            (lam (m ((c.tc : Thread nD τ).loc main_arg3)) (m ((c.tc : Thread nD τ).loc main_arg4))
              (m ((c.tc : Thread nD τ).loc main_arg5)) (m ((c.tc : Thread nD τ).loc main_arg6))))))
        (m ((c.tc : Thread nD τ).loc main_arg7)) := by
  unfold Value.res_main_v47
  rfl

theorem scores_apply (q k : FVec Ideal S2x8192x4x2x64 .f32) (b : Fin 2) (h : Fin 4) (c : Fin 2) (n x : Fin 8192) :
    scores q k (ix5 b h c n x) = (∑ d : Fin 64, q (ix5 b n h c d) * k (ix5 b x h c d)) * Ideal.ofBits .f32 0x3E000000#32 := by
  unfold scores
  pointwise

theorem rowMax_apply (s : FVec Ideal S2x4x2x8192x8192 .f32) (b : Fin 2) (h : Fin 4) (c : Fin 2) (n : Fin 8192) :
    (Host.reduce (FloatOps.maximumf (F := Ideal) (φ := .f32)) s (constant (F := Ideal) S_ .f32 0xFF800000#32)
        reducesTo_S2x4x2x8192x8192_S2x4x2x8192_d4 h_S_) (ix4 b h c n)
      = Finset.univ.fold max ⊥ fun x : Fin 8192 => s (ix5 b h c n x) :=
  DiffAttn.host_max s (constant S_ .f32 0xFF800000#32) reducesTo_S2x4x2x8192x8192_S2x4x2x8192_d4 h_S_ DiffAttn.ninf_eq b h c n

theorem max_bot_apply (r : FVec Ideal S2x4x2x8192 .f32) (b : Fin 2) (h : Fin 4) (c : Fin 2) (n : Fin 8192) :
    (maximumf (broadcastInDim S2x4x2x8192 ![] bcast_S_S2x4x2x8192 (constant S_ .f32 0xFF800000#32)) r) (ix4 b h c n)
      = r (ix4 b h c n) := by
  pointwise
  rw [DiffAttn.ninf_eq]
  exact max_eq_right bot_le

theorem tops_apply (s : FVec Ideal S2x4x2x8192x8192 .f32) (b : Fin 2) (h : Fin 4) (c : Fin 2) (n : Fin 8192) :
    tops s (ix4 b h c n) = Finset.univ.fold max ⊥ fun x : Fin 8192 => s (ix5 b h c n x) :=
  (max_bot_apply _ b h c n).trans (rowMax_apply s b h c n)

theorem exps_apply (s : FVec Ideal S2x4x2x8192x8192 .f32) (b : Fin 2) (h : Fin 4) (c : Fin 2) (n x : Fin 8192) :
    exps s (ix5 b h c n x) = Ideal.exp (s (ix5 b h c n x) - Finset.univ.fold max ⊥ fun x : Fin 8192 => s (ix5 b h c n x)) := by
  unfold exps
  pointwise [tops_apply]

theorem probs_apply (p : FVec Ideal S2x4x2x8192x8192 .f32) (b : Fin 2) (h : Fin 4) (c : Fin 2) (n x : Fin 8192) :
    probs p (ix5 b h c n x) = Ideal.div (p (ix5 b h c n x)) (∑ x : Fin 8192, p (ix5 b h c n x)) := by
  unfold probs
  pointwise

theorem lam_apply (a b c d : FVec Ideal S64 .f32) (i : S_.Idx) :
    lam a b c d i = Ideal.exp (∑ x : Fin 64, a (ix1 x) * b (ix1 x)) - Ideal.exp (∑ x : Fin 64, c (ix1 x) * d (ix1 x))
      + Ideal.ofBits .f32 0x3E4CCCCD#32 := by
  unfold lam
  pointwise

theorem weights_apply (p : FVec Ideal S2x4x2x8192x8192 .f32) (l : FVec Ideal S_ .f32) (e : EReal) (he : ∀ i, l i = e)
    (b : Fin 2) (h : Fin 4) (n x : Fin 8192) :
    weights p l (ix4 b h n x) = p (ix5 b h 0 n x) - e * p (ix5 b h 1 n x) := by
  unfold weights
  pointwise [he]

theorem mixed_apply (v : FVec Ideal S2x8192x4x128 .f32) (w : FVec Ideal S2x4x8192x8192 .f32) (b : Fin 2) (n : Fin 8192) (h : Fin 4) (e : Fin 128) :
    mixed v w (ix4 b n h e) = ∑ x : Fin 8192, v (ix4 b x h e) * w (ix4 b h n x) := by
  unfold mixed
  pointwise

theorem scaled_apply (o : FVec Ideal S2x8192x4x128 .f32) (b : Fin 2) (n : Fin 8192) (h : Fin 4) (e : Fin 128) :
    scaled o (ix4 b n h e) = DiffAttn.normed (Ideal.ofBits .f32 0x43000000#32) (Ideal.ofBits .f32 0x3727C5AC#32) (fun e => o (ix4 b n h e)) e := by
  unfold scaled DiffAttn.normed
  pointwise

theorem finish_apply (o : FVec Ideal S2x8192x4x128 .f32) (g : FVec Ideal S128 .f32) (b : Fin 2) (n : Fin 8192) (h : Fin 4) (e : Fin 128) :
    finish o g (ix2 ⟨8192 * b.val + n.val, by omega⟩ ⟨128 * h.val + e.val, by omega⟩)
      = o (ix4 b n h e) * g (ix1 e) * Ideal.ofBits .f32 0x3F4CCCCD#32 := by
  unfold finish
  pointwise

end Cert.ReferenceIdeal.DiffRef

end
-- ==== Proof.DiffFinal.lean ====
/-
  The result array of the differential attention: every row block's last point writes its block of the reference's
  result, and the blocks tile the array.
-/
module

public import proofs.«01_k».proof.Proof.DiffCarry
public import proofs.«01_k».proof.Proof.DiffOut
public import proofs.«01_k».proof.Proof.DiffEq
public import proofs.«01_k».proof.Proof.DiffPre
public import proofs.«01_k».proof.Proof.DiffRef

@[expose] public section

set_option maxRecDepth 16384

noncomputable section

namespace Cert.KernelIdeal.DiffFinal

open Idealize.ShloMosaic Idealize.ShloMosaic.TcCoe Idealize.SL.Sem
open Cert.KernelIdeal Cert.KernelIdeal.Gen Cert.KernelIdeal.DiffPoint Cert.KernelIdeal.DiffHost Cert.KernelIdeal.DiffCarry Cert.KernelIdeal.DiffOut
open DiffAttn (top den num blk c2)
open Cert.ReferenceIdeal.DiffRef (scores exps probs lam weights mixed scaled finish)

section Reference

variable (q k : FVec Ideal S2x8192x4x2x64 .f32) (v : FVec Ideal S2x8192x4x128 .f32) (l1 l2 l3 l4 : FVec Ideal S64 .f32) (g : FVec Ideal S128 .f32)

/-- The reference's result as a function of its arguments. -/
def result : FVec Ideal S16384x512 .bf16 :=
  finish (scaled (mixed v (weights (probs (exps (scores q k))) (lam l1 l2 l3 l4)))) g

/-- One softmax's scores of one query against every key. -/
def keyScore (b : Fin 2) (h : Fin 4) (s : Fin 2) (n : Fin 8192) (x : Fin 8192) : EReal := scores q k (ix5 b h s n x)

/-- The difference's factor. -/
def lamOf : EReal :=
  Ideal.exp (∑ x : Fin 64, l1 (ix1 x) * l2 (ix1 x)) - Ideal.exp (∑ x : Fin 64, l3 (ix1 x) * l4 (ix1 x)) + Ideal.ofBits .f32 0x3E4CCCCD#32

/-- The reference's result at one query, head and lane. -/
theorem result_apply (b : Fin 2) (n : Fin 8192) (h : Fin 4) (e : Fin 128) :
    result q k v l1 l2 l3 l4 g (ix2 ⟨8192 * b.val + n.val, by omega⟩ ⟨128 * h.val + e.val, by omega⟩)
      = DiffAttn.normed (Ideal.ofBits .f32 0x43000000#32) (Ideal.ofBits .f32 0x3727C5AC#32)
          (fun e => ∑ x, v (ix4 b x h e) *
            (Ideal.div (Ideal.exp (keyScore q k b h 0 n x - Finset.univ.fold max ⊥ (keyScore q k b h 0 n)))
                (∑ x, Ideal.exp (keyScore q k b h 0 n x - Finset.univ.fold max ⊥ (keyScore q k b h 0 n)))
              - lamOf l1 l2 l3 l4 * Ideal.div (Ideal.exp (keyScore q k b h 1 n x - Finset.univ.fold max ⊥ (keyScore q k b h 1 n)))
                (∑ x, Ideal.exp (keyScore q k b h 1 n x - Finset.univ.fold max ⊥ (keyScore q k b h 1 n))))) e
        * g (ix1 e) * Ideal.ofBits .f32 0x3F4CCCCD#32 := by
  unfold result
  refine (Cert.ReferenceIdeal.DiffRef.finish_apply _ _ b n h e).trans ?_
  rw [Cert.ReferenceIdeal.DiffRef.scaled_apply]
  simp only [Cert.ReferenceIdeal.DiffRef.mixed_apply,
    Cert.ReferenceIdeal.DiffRef.weights_apply _ _ (lamOf l1 l2 l3 l4) (fun i => Cert.ReferenceIdeal.DiffRef.lam_apply l1 l2 l3 l4 i),
    Cert.ReferenceIdeal.DiffRef.probs_apply, Cert.ReferenceIdeal.DiffRef.exps_apply]
  rfl

/-- A score in the kernel's scaling is the reference's times the factor between the two bases. -/
theorem score_eq (b : Fin 2) (h : Fin 4) (s : Fin 2) (n x : Fin 8192) :
    (∑ d : Fin 64, q (ix5 b n h s d) * Ideal.div (Ideal.ofBits .f32 0x3E000000#32) (Ideal.log (Ideal.ofBits .f32 0x40000000#32)) * k (ix5 b x h s d))
      = (c2 : EReal) * keyScore q k b h s n x := by
  unfold keyScore
  rw [Cert.ReferenceIdeal.DiffRef.scores_apply, DiffAttn.eighth_eq, DiffAttn.two_eq]
  have hl : 0 < Real.log 2 := Real.log_pos (by norm_num)
  have hc : Ideal.div ((1 / 8 : ℝ) : EReal) (Ideal.log ((2 : ℝ) : EReal)) = ((c2 * (1 / 8) : ℝ) : EReal) := by
    rw [Ideal.log_coe, if_neg (by norm_num), Ideal.div_coe hl.ne', ← EReal.coe_mul]
    unfold c2
    congr 1
    field_simp
  rw [hc]
  have hp : (0 : ℝ) ≤ c2 * (1 / 8) := mul_nonneg DiffAttn.c2_pos.le (by norm_num)
  rw [Finset.sum_congr rfl fun d _ => (show q (ix5 b n h s d) * ((c2 * (1 / 8) : ℝ) : EReal) * k (ix5 b x h s d)
      = ((c2 * (1 / 8) : ℝ) : EReal) * (q (ix5 b n h s d) * k (ix5 b x h s d)) from by rw [mul_comm (q _), mul_assoc]),
    ← DiffAttn.mul_sum _ hp, EReal.coe_mul, mul_assoc, mul_comm (((1 / 8 : ℝ)) : EReal)]

end Reference

variable (m : (ℓ : Loc nD τ sig) → Buf (Elt Ideal) ℓ) (c : Dev nD)

abbrev argQ : FVec Ideal S2x8192x4x2x64 .f32 := m ((c : Thread nD τ).loc main_arg0)
abbrev argK : FVec Ideal S2x8192x4x2x64 .f32 := m ((c : Thread nD τ).loc main_arg1)
abbrev argV : FVec Ideal S2x8192x4x128 .f32 := m ((c : Thread nD τ).loc main_arg2)
abbrev arg3 : FVec Ideal S64 .f32 := m ((c : Thread nD τ).loc main_arg3)
abbrev arg4 : FVec Ideal S64 .f32 := m ((c : Thread nD τ).loc main_arg4)
abbrev arg5 : FVec Ideal S64 .f32 := m ((c : Thread nD τ).loc main_arg5)
abbrev arg6 : FVec Ideal S64 .f32 := m ((c : Thread nD τ).loc main_arg6)
abbrev argG : FVec Ideal S128 .f32 := m ((c : Thread nD τ).loc main_arg7)

/-- The batch, the head and the query of a row of a row block. -/
abbrev batch (p : Fin 64) : Fin 2 := ⟨p.val / 32, by omega⟩
abbrev head (p : Fin 64) : Fin 4 := ⟨p.val / 8 % 4, by omega⟩
abbrev query (p : Fin 64) (r : Fin 1024) : Fin 8192 := ⟨1024 * (p.val % 8) + r.val, by omega⟩

theorem array_eq : array m c = proj (argQ m c) (argK m c) (argV m c) := V_proj m c

/-- The scores a row block reads are the reference's, scaled. -/
theorem rowScore_eq (p : Fin 64) (s : Fin 2) (r : Fin 1024) :
    rowScore m c p s r = fun x => (c2 : EReal) * keyScore (argQ m c) (argK m c) (batch p) (head p) s (query p r) x := by
  funext x
  rw [← score_eq]
  unfold rowScore
  rw [array_eq]
  exact Finset.sum_congr rfl fun d _ => congrArg₂ (fun a b : EReal => a * b)
    (proj_q (argQ m c) (argK m c) (argV m c) (batch p) (query p r) (head p) s d)
    (proj_k (argQ m c) (argK m c) (argV m c) (batch p) x (head p) s d)

/-- The values a row block reads are the reference's. -/
theorem rowValue_eq (p : Fin 64) (l : Fin 128) : rowValue m c p l = fun x => argV m c (ix4 (batch p) x (head p) l) := by
  funext x
  unfold rowValue
  rw [array_eq]
  exact proj_v (argQ m c) (argK m c) (argV m c) (batch p) x (head p) l

/-- The factor a row block computes is the reference's. -/
theorem factor_eq (t : Fin cfg0.N) : factor (iblk m c 3 t) = lamOf (arg3 m c) (arg4 m c) (arg5 m c) (arg6 m c) := by
  have hr : ∀ (r : Fin 4) (x : Fin 64), (iblk m c 3 t : Vec Ideal S4x64 .f32) (ix2 r x)
      = rows (arg3 m c) (arg4 m c) (arg5 m c) (arg6 m c) (ix2 r x) := fun r x =>
    (block3 m c t r x).trans (congrFun (V_rows m c) _)
  have ha := rows_apply (arg3 m c) (arg4 m c) (arg5 m c) (arg6 m c)
  unfold factor lamOf
  simp only [hr, (ha _).1, (ha _).2.1, (ha _).2.2.1, (ha _).2.2.2]

theorem gain_eq (t : Fin cfg0.N) (e : Fin 128) : (iblk m c 4 t : Vec Ideal S1x128 .f32) (ix2 0 e) = argG m c (ix1 e) :=
  (block4 m c t e).trans ((congrFun (V_gain m c) _).trans (gain_apply (argG m c) e))

/-- The block a row block's last point writes is the reference's result there. -/
theorem block_eq (h : Cert.Pre_finite_values.fn (F := Ideal) (argQ m c) (argK m c) (argV m c) (arg3 m c) (arg4 m c) (arg5 m c) (arg6 m c) (argG m c) = fun _ => 1#1)
    (p : Fin 64) (a1 a2 : Vec Ideal S2x1024x128 .f32) (h1 : ∀ s r l, a1 (ix3 s r l) = den (blk (rowScore m c p s r)) 4)
    (h2 : ∀ s r l, a2 (ix3 s r l) = num (blk (rowScore m c p s r)) (blk (rowValue m c p l)) 4) (r : Fin 1024) (e : Fin 128) :
    outBlock (iblk m c 3 (pt p 3)) (iblk m c 4 (pt p 3)) a1 a2 (ix2 r e)
      = result (argQ m c) (argK m c) (argV m c) (arg3 m c) (arg4 m c) (arg5 m c) (arg6 m c) (argG m c)
          (ix2 ⟨8192 * (batch p).val + (query p r).val, by omega⟩ ⟨128 * (head p).val + e.val, by omega⟩) := by
  obtain ⟨hv, ha, hb, hc, hd⟩ := DiffPre.real_of_pre _ _ _ _ _ _ _ _ h
  choose v hv using hv
  choose f3 ha using ha
  choose f4 hb using hb
  choose f5 hc using hc
  choose f6 hd using hd
  obtain ⟨eps, heps⟩ := DiffAttn.eps_real
  obtain ⟨ini, hini⟩ := DiffAttn.init_real
  obtain ⟨l, hl⟩ : ∃ l : ℝ, lamOf (arg3 m c) (arg4 m c) (arg5 m c) (arg6 m c) = (l : EReal) := by
    unfold lamOf
    simp only [ha, hb, hc, hd, hini, ← EReal.coe_mul, ← DiffAttn.coe_sum, Ideal.exp_coe, ← EReal.coe_sub, ← EReal.coe_add]
    exact ⟨_, rfl⟩
  rw [outBlock_apply, result_apply, factor_eq, gain_eq, hl, heps, DiffAttn.lanes_eq]
  simp only [h1, h2, rowScore_eq, rowValue_eq, hv]
  rw [DiffAttn.rows_eq (by norm_num) (keyScore (argQ m c) (argK m c) (batch p) (head p) 0 (query p r))
    (keyScore (argQ m c) (argK m c) (batch p) (head p) 1 (query p r)) l (fun x e => v (ix4 (batch p) x (head p) e)) e]

theorem index5 : ∀ t : Fin grid0.N, win0_5.index t 0 = 8 * (t.val / 128) + t.val / 4 % 8 ∧ win0_5.index t 1 = t.val / 32 % 4 := by decide +kernel

/-- The result array after the run is the reference's result. -/
theorem final (h : Cert.Pre_finite_values.fn (F := Ideal) (argQ m c) (argK m c) (argV m c) (arg3 m c) (arg4 m c) (arg5 m c) (arg6 m c) (argG m c) = fun _ => 1#1) :
    (dats m 0 c).arrAt 5 cfg0.N
      = result (argQ m c) (argK m c) (argV m c) (arg3 m c) (arg4 m c) (arg5 m c) (arg6 m c) (argG m c) := by
  refine (dats m 0 c).arrAt_eq_of_covers 5 _ (by decide +kernel) fun t hf y => ?_
  have ht := lt_N t
  have hm : t.val % 4 = 3 := (flush0_5 t).mp hf
  obtain ⟨p, rfl⟩ : ∃ p : Fin 64, t = pt p 3 := ⟨⟨t.val / 4, by omega⟩, Fin.ext (by show t.val = 4 * (t.val / 4) + 3; omega)⟩
  have hp := p.isLt
  obtain ⟨a1, a2, hb, h1, h2⟩ := flushed_last m c p
  refine (congrFun hb y).trans ?_
  obtain ⟨r, e, rfl⟩ : ∃ (r : Fin 1024) (e : Fin 128), y = ix2 r e := ⟨y 0, y 1, eq_ix2 y⟩
  refine (block_eq m c h p a1 a2 h1 h2 r e).trans (congrArg _ ?_)
  have hi := index5 (pt p 3)
  funext a
  apply Fin.ext
  match a with
  | ⟨0, _⟩ =>
    show 8192 * (p.val / 32) + (1024 * (p.val % 8) + r.val) = win0_5.index (pt p 3) 0 * 1024 + 1 * r.val
    rw [hi.1]
    show _ = (8 * ((4 * p.val + 3) / 128) + (4 * p.val + 3) / 4 % 8) * 1024 + 1 * r.val
    omega
  | ⟨1, _⟩ =>
    show 128 * (p.val / 8 % 4) + e.val = win0_5.index (pt p 3) 1 * 128 + 1 * e.val
    rw [hi.2]
    show _ = (4 * p.val + 3) / 32 % 4 * 128 + 1 * e.val
    omega

end Cert.KernelIdeal.DiffFinal

end
-- ==== Proof.QueryFinal.lean ====
/-
  The query projection: a row block's tile of the kernel's two results is the reference's tile, and the tiles cover the
  arrays.
-/
module

public import proofs.«01_k».proof.Proof.Gen.QueryIdeal.Value
public import proofs.«01_k».proof.Proof.Gen.QueryReferenceIdeal.Run
public import Idealize.ShloMosaic.Lib.Pointwise
public import Idealize.ShloMosaic.Lib.Pipeline.ValueKit
public import Idealize.ShloMosaic.Lib.StableHlo.Run

@[expose] public section

set_option maxRecDepth 16384

noncomputable section

namespace Cert.QueryReferenceIdeal.QueryRef

open Idealize.ShloMosaic Idealize.ShloMosaic.TcCoe Idealize.SL.Sem
open Cert.QueryReferenceIdeal Cert.QueryReferenceIdeal.Gen

/-- The scaled and shifted rows. -/
def modulated (x : FVec Ideal S2x8192x1024 .f32) (sh sc : FVec Ideal S2x1024 .f32) : FVec Ideal S2x8192x1024 .f32 :=
  addf (mulf x (broadcastInDim S2x8192x1024 ![0, 1, 2] bcast_S2x1x1024_S2x8192x1024_0_1_2
      (addf (broadcastInDim S2x1x1024 ![] bcast_S_S2x1x1024 (constant S_ .f32 0x3F800000#32))
        (broadcastInDim S2x1x1024 ![0, 2] bcast_S2x1024_S2x1x1024_0_2 sc))))
    (broadcastInDim S2x8192x1024 ![0, 1, 2] bcast_S2x1x1024_S2x8192x1024_0_1_2
      (broadcastInDim S2x1x1024 ![0, 2] bcast_S2x1024_S2x1x1024_0_2 sh))

/-- The queries. -/
def queries (x : FVec Ideal S2x8192x1024 .f32) (sh sc : FVec Ideal S2x1024 .f32) (w : FVec Ideal S1024x2048 .f32) : FVec Ideal S16384x2048 .bf16 :=
  truncf .bf16 (shapeCast _ (Host.dotGeneral dot_S2x8192x1024_S1024x2048_S2x8192x2048_2_0_01_1_n_n none (modulated x sh sc) w)
    shapeCasts_S2x8192x2048_S16384x2048) bitsLt_bf16_f32

/-- The rows scaled for the experts. -/
def rows (x : FVec Ideal S2x8192x1024 .f32) (sh sc : FVec Ideal S2x1024 .f32) : FVec Ideal S16384x1024 .bf16 :=
  truncf .bf16 (shapeCast _ (mulf (modulated x sh sc) (broadcastInDim S2x8192x1024 ![] bcast_S_S2x8192x1024 (constant S_ .f32 0x3F3504F3#32)))
    shapeCasts_S2x8192x1024_S16384x1024) bitsLt_bf16_f32

theorem modulated_apply (x : FVec Ideal S2x8192x1024 .f32) (sh sc : FVec Ideal S2x1024 .f32) (b : Fin 2) (n : Fin 8192) (d : Fin 1024) :
    modulated x sh sc (ix3 b n d) = x (ix3 b n d) * (Ideal.ofBits .f32 0x3F800000#32 + sc (ix2 b d)) + sh (ix2 b d) := by
  unfold modulated
  pointwise

theorem queries_apply (x : FVec Ideal S2x8192x1024 .f32) (sh sc : FVec Ideal S2x1024 .f32) (w : FVec Ideal S1024x2048 .f32)
    (b : Fin 2) (n : Fin 8192) (e : Fin 2048) :
    queries x sh sc w (ix2 ⟨8192 * b.val + n.val, by omega⟩ e) = ∑ d : Fin 1024, modulated x sh sc (ix3 b n d) * w (ix2 d e) := by
  unfold queries
  pointwise

theorem rows_apply (x : FVec Ideal S2x8192x1024 .f32) (sh sc : FVec Ideal S2x1024 .f32) (b : Fin 2) (n : Fin 8192) (d : Fin 1024) :
    rows x sh sc (ix2 ⟨8192 * b.val + n.val, by omega⟩ d) = modulated x sh sc (ix3 b n d) * Ideal.ofBits .f32 0x3F3504F3#32 := by
  unfold rows
  pointwise

end Cert.QueryReferenceIdeal.QueryRef

namespace Cert.QueryIdeal.QueryFinal

open Idealize.ShloMosaic Idealize.ShloMosaic.TcCoe Idealize.SL.Sem
open Cert.QueryIdeal Cert.QueryIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- A row block's scaled and shifted rows. -/
def modRow (x : Vec Ideal S512x1024 .f32) (sh sc : Vec Ideal S1x1x1024 .f32) (r : Fin 512) (d : Fin 1024) : EReal :=
  x (ix2 r d) * (Ideal.ofBits .f32 0x3F800000#32 + sc (ix3 0 0 d)) + sh (ix3 0 0 d)

theorem pay1_apply (x : Vec Ideal S512x1024 .f32) (sh sc : Vec Ideal S1x1x1024 .f32) (r : Fin 512) (d : Fin 1024) :
    k0_pay1 x sc sh (ix2 r d) = modRow x sh sc r d := by
  unfold k0_pay1 modRow
  pointwise

theorem pay2_apply (x : Vec Ideal S512x1024 .f32) (sh sc : Vec Ideal S1x1x1024 .f32) (r : Fin 512) (d : Fin 1024) :
    k0_pay2 x sc sh (ix2 r d) = modRow x sh sc r d := pay1_apply x sh sc r d

theorem pay3_apply (x : Vec Ideal S512x1024 .f32) (sh sc : Vec Ideal S1x1x1024 .f32) (r : Fin 512) (d : Fin 1024) :
    k0_pay3 x sc sh (ix2 r d) = modRow x sh sc r d * Ideal.ofBits .f32 0x3F3504F3#32 := by
  unfold k0_pay3
  pointwise [pay1_apply]

/-- A product of a row block and 256 of the weights' columns. -/
theorem pay7_apply (h : FVec Ideal S512x1024 .bf16) (w : Vec Ideal S1024x256 .bf16) (r : Fin 512) (e : Fin 256) :
    k0_pay7 h w (ix2 r e) = ∑ d : Fin 1024, h (ix2 r d) * w (ix2 d e) := by
  unfold k0_pay7
  pointwise

/-- The queries of a row block. -/
def tile (x : Vec Ideal S512x1024 .f32) (sh sc : Vec Ideal S1x1x1024 .f32) (w : Vec Ideal S1024x2048 .bf16) : Vec Ideal S512x2048 .bf16 :=
  fun y => ∑ d : Fin 1024, modRow x sh sc (y 0) d * w (ix2 d (y 1))

/-- The product with the columns from `o` on is the tile's columns from `o` on. -/
theorem piece (x : Vec Ideal S512x1024 .f32) (sh sc : Vec Ideal S1x1x1024 .f32) (w : Vec Ideal S1024x2048 .bf16) (o : Nat)
    (hw : ∀ a, (![0, o] : Fin 2 → Nat) a + S1024x256.size a ≤ S1024x2048.size a)
    (ho : ∀ a, (![0, o] : Fin 2 → Nat) a + S512x256.size a ≤ S512x2048.size a)
    (y : S512x256.Idx) :
    k0_pay7 (k0_pay2 x sc sh) (View.ld w (Rect.unit (s := S1024x2048) ![0, o] S1024x256.size hw)) y
      = tile x sh sc w ((Rect.unit (s := S512x2048) ![0, o] S512x256.size ho).idx y) := by
  obtain ⟨r, e, rfl⟩ : ∃ (r : Fin 512) (e : Fin 256), y = ix2 r e := ⟨y 0, y 1, eq_ix2 y⟩
  rw [pay7_apply]
  unfold tile
  refine Finset.sum_congr rfl fun d _ => ?_
  rw [pay2_apply]
  refine congrArg₂ (fun a b : EReal => a * b) (congrArg (fun r => modRow x sh sc r d) (Fin.ext ?_)) (congrArg w (funext fun a => Fin.ext ?_))
  · show r.val = 0 + 1 * r.val
    omega
  · match a with
    | ⟨0, _⟩ => show 0 + 1 * d.val = d.val; omega
    | ⟨1, _⟩ => rfl

theorem out6_eq (x : Vec Ideal S512x1024 .f32) (sh sc : Vec Ideal S1x1x1024 .f32) (w : Vec Ideal S1024x2048 .bf16) (p q : Vec Ideal S512x128 .f32) :
    out0_6 x sh sc w p q = tile x sh sc w := by
  unfold_out out0_6
  simp only [View.ld_unit_zero (S := S512x1024) hz2, View.ld_unit_zero (S := S1x1x1024) hz3]
  funext y
  refine View.canon_apply_of_pieces (tile x sh sc w) _ ?_ y (cover0_6 _ _ _ _ _ _ _ _ y)
  intro pc hpc
  simp only [List.mem_cons, List.not_mem_nil, or_false] at hpc
  rcases hpc with rfl | rfl | rfl | rfl | rfl | rfl | rfl | rfl
  · exact fun y => piece x sh sc w 1792 inb_S1024x2048_S1024x256_0_1792 inb_S512x2048_S512x256_0_1792 y
  · exact fun y => piece x sh sc w 1536 inb_S1024x2048_S1024x256_0_1536 inb_S512x2048_S512x256_0_1536 y
  · exact fun y => piece x sh sc w 1280 inb_S1024x2048_S1024x256_0_1280 inb_S512x2048_S512x256_0_1280 y
  · exact fun y => piece x sh sc w 1024 inb_S1024x2048_S1024x256_0_1024 inb_S512x2048_S512x256_0_1024 y
  · exact fun y => piece x sh sc w 768 inb_S1024x2048_S1024x256_0_768 inb_S512x2048_S512x256_0_768 y
  · exact fun y => piece x sh sc w 512 inb_S1024x2048_S1024x256_0_512 inb_S512x2048_S512x256_0_512 y
  · exact fun y => piece x sh sc w 256 inb_S1024x2048_S1024x256_0_256 inb_S512x2048_S512x256_0_256 y
  · exact fun y => piece x sh sc w 0 inb_S1024x2048_S1024x256_0_0 inb_S512x2048_S512x256_0_0 y

theorem out7_apply (x : Vec Ideal S512x1024 .f32) (sh sc : Vec Ideal S1x1x1024 .f32) (w : Vec Ideal S1024x2048 .bf16) (p q : Vec Ideal S512x128 .f32)
    (r : Fin 512) (d : Fin 1024) :
    out0_7 x sh sc w p q (ix2 r d) = modRow x sh sc r d * Ideal.ofBits .f32 0x3F3504F3#32 := by
  unfold_out out0_7
  simp only [View.ld_unit_zero (S := S512x1024) hz2, View.ld_unit_zero (S := S1x1x1024) hz3, View.canon_unit_zero (S := S512x1024) hz2]
  exact pay3_apply x sh sc r d

variable (m : (ℓ : Loc nD τ sig) → Buf (Elt Ideal) ℓ) (c : Dev nD)

abbrev argX : FVec Ideal S2x8192x1024 .f32 := m ((c : Thread nD τ).loc main_arg0)
abbrev argShift : FVec Ideal S2x1024 .f32 := m ((c : Thread nD τ).loc main_arg1)
abbrev argScale : FVec Ideal S2x1024 .f32 := m ((c : Thread nD τ).loc main_arg2)
abbrev argW : FVec Ideal S1024x2048 .f32 := m ((c : Thread nD τ).loc main_arg3)

theorem V_x : V m c main_v22 = shapeCast S16384x1024 (argX m c) shapeCasts_S2x8192x1024_S16384x1024 := by
  unfold_abbrev_sides
  after_results_simp
  rfl

theorem V_shift : V m c main_v23 = shapeCast S2x1x1024 (argShift m c) shapeCasts_S2x1024_S2x1x1024 := by
  unfold_abbrev_sides
  after_results_simp
  rfl

theorem V_scale : V m c main_v24 = shapeCast S2x1x1024 (argScale m c) shapeCasts_S2x1024_S2x1x1024 := by
  unfold_abbrev_sides
  after_results_simp
  rfl

theorem V_w : V m c main_v25 = truncf .bf16 (argW m c) bitsLt_bf16_f32 := by
  unfold_abbrev_sides
  after_results_simp

theorem x_apply (x : FVec Ideal S2x8192x1024 .f32) (b : Fin 2) (n : Fin 8192) (d : Fin 1024) :
    shapeCast S16384x1024 x shapeCasts_S2x8192x1024_S16384x1024 (ix2 ⟨8192 * b.val + n.val, by omega⟩ d) = x (ix3 b n d) := by
  pointwise

theorem vec_apply (x : FVec Ideal S2x1024 .f32) (b : Fin 2) (d : Fin 1024) :
    shapeCast S2x1x1024 x shapeCasts_S2x1024_S2x1x1024 (ix3 b 0 d) = x (ix2 b d) := by
  pointwise

theorem index0 : ∀ t : Fin grid0.N, win0_0.index t 0 = t.val ∧ win0_0.index t 1 = 0 := by decide +kernel
theorem index1 : ∀ t : Fin grid0.N, win0_1.index t 0 = t.val / 16 ∧ win0_1.index t 1 = 0 ∧ win0_1.index t 2 = 0 := by decide +kernel
theorem index2 : ∀ t : Fin grid0.N, win0_2.index t 0 = t.val / 16 ∧ win0_2.index t 1 = 0 ∧ win0_2.index t 2 = 0 := by decide +kernel
theorem index3 : ∀ t : Fin grid0.N, win0_3.index t 0 = 0 ∧ win0_3.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel

theorem lt_N (t : Fin cfg0.N) : t.val < 32 := lt_of_lt_of_eq t.isLt (show cfg0.N = 32 from N_0)

/-- The batch and the token of a row of a row block. -/
abbrev batch (t : Fin cfg0.N) : Fin 2 := ⟨t.val / 16, by have := lt_N t; omega⟩
abbrev token (t : Fin cfg0.N) (r : Fin 512) : Fin 8192 := ⟨512 * (t.val % 16) + r.val, by omega⟩

theorem block0 (t : Fin cfg0.N) (r : Fin 512) (d : Fin 1024) :
    (iblk m c 0 t : Vec Ideal S512x1024 .f32) (ix2 r d) = argX m c (ix3 (batch t) (token t r) d) := by
  have hi := index0 t
  refine Eq.trans ?_ ((congrFun (V_x m c) (ix2 ⟨8192 * (batch t).val + (token t r).val, by omega⟩ d)).trans (x_apply (argX m c) (batch t) (token t r) d))
  unfold iblk
  rw [View.read_apply]
  show (V m c main_v22 : FVec Ideal S16384x1024 .f32) _ = V m c main_v22 _
  congr 1
  funext a
  apply Fin.ext
  match a with
  | ⟨0, _⟩ => show win0_0.index t 0 * 512 + 1 * r.val = 8192 * (t.val / 16) + (512 * (t.val % 16) + r.val); rw [hi.1]; omega
  | ⟨1, _⟩ => show win0_0.index t 1 * 1024 + 1 * d.val = d.val; rw [hi.2]; omega

theorem block1 (t : Fin cfg0.N) (d : Fin 1024) :
    (iblk m c 1 t : Vec Ideal S1x1x1024 .f32) (ix3 0 0 d) = argShift m c (ix2 (batch t) d) := by
  have hi := index1 t
  refine Eq.trans ?_ ((congrFun (V_shift m c) (ix3 (batch t) 0 d)).trans (vec_apply (argShift m c) (batch t) d))
  unfold iblk
  rw [View.read_apply]
  show (V m c main_v23 : FVec Ideal S2x1x1024 .f32) _ = V m c main_v23 _
  congr 1
  funext a
  apply Fin.ext
  match a with
  | ⟨0, _⟩ => show win0_1.index t 0 * 1 + 1 * 0 = t.val / 16; rw [hi.1]; omega
  | ⟨1, _⟩ => show win0_1.index t 1 * 1 + 1 * 0 = 0; rw [hi.2.1]
  | ⟨2, _⟩ => show win0_1.index t 2 * 1024 + 1 * d.val = d.val; rw [hi.2.2]; omega

theorem block2 (t : Fin cfg0.N) (d : Fin 1024) :
    (iblk m c 2 t : Vec Ideal S1x1x1024 .f32) (ix3 0 0 d) = argScale m c (ix2 (batch t) d) := by
  have hi := index2 t
  refine Eq.trans ?_ ((congrFun (V_scale m c) (ix3 (batch t) 0 d)).trans (vec_apply (argScale m c) (batch t) d))
  unfold iblk
  rw [View.read_apply]
  show (V m c main_v24 : FVec Ideal S2x1x1024 .f32) _ = V m c main_v24 _
  congr 1
  funext a
  apply Fin.ext
  match a with
  | ⟨0, _⟩ => show win0_2.index t 0 * 1 + 1 * 0 = t.val / 16; rw [hi.1]; omega
  | ⟨1, _⟩ => show win0_2.index t 1 * 1 + 1 * 0 = 0; rw [hi.2.1]
  | ⟨2, _⟩ => show win0_2.index t 2 * 1024 + 1 * d.val = d.val; rw [hi.2.2]; omega

theorem block3 (t : Fin cfg0.N) (d : Fin 1024) (e : Fin 2048) :
    (iblk m c 3 t : Vec Ideal S1024x2048 .bf16) (ix2 d e) = argW m c (ix2 d e) := by
  have hi := index3 t
  refine Eq.trans ?_ (congrFun (V_w m c) (ix2 d e))
  unfold iblk
  rw [View.read_apply]
  show (V m c main_v25 : FVec Ideal S1024x2048 .bf16) _ = V m c main_v25 _
  congr 1
  funext a
  apply Fin.ext
  match a with
  | ⟨0, _⟩ => show win0_3.index t 0 * 1024 + 1 * d.val = d.val; rw [hi.1]; omega
  | ⟨1, _⟩ => show win0_3.index t 1 * 2048 + 1 * e.val = e.val; rw [hi.2]; omega

/-- A row block's rows are the reference's. -/
theorem modRow_eq (t : Fin cfg0.N) (r : Fin 512) (d : Fin 1024) :
    modRow (iblk m c 0 t) (iblk m c 1 t) (iblk m c 2 t) r d
      = Cert.QueryReferenceIdeal.QueryRef.modulated (argX m c) (argShift m c) (argScale m c) (ix3 (batch t) (token t r) d) := by
  refine Eq.trans ?_ (Cert.QueryReferenceIdeal.QueryRef.modulated_apply (argX m c) (argShift m c) (argScale m c) (batch t) (token t r) d).symm
  unfold modRow
  rw [block0, block1, block2]

/-- The first result is the reference's queries. -/
theorem final6 : (dats m 0 c).arrAt 6 cfg0.N
    = Cert.QueryReferenceIdeal.QueryRef.queries (argX m c) (argShift m c) (argScale m c) (argW m c) := by
  refine (dats m 0 c).arrAt_eq_of_covers 6 _ (by decide +kernel) fun t hf y => ?_
  have hi := index6 t
  refine (congrFun (Value.flushed6 m c t) y).trans ?_
  obtain ⟨r, e, rfl⟩ : ∃ (r : Fin 512) (e : Fin 2048), y = ix2 r e := ⟨y 0, y 1, eq_ix2 y⟩
  refine (congrFun (out6_eq (iblk m c 0 t) (iblk m c 1 t) (iblk m c 2 t) (iblk m c 3 t) (iblk m c 4 t) (iblk m c 5 t)) (ix2 r e)).trans ?_
  refine Eq.trans (Finset.sum_congr rfl fun d _ => congrArg₂ (fun a b : EReal => a * b) (modRow_eq m c t r d) (block3 m c t d e)) ?_
  refine (Cert.QueryReferenceIdeal.QueryRef.queries_apply (argX m c) (argShift m c) (argScale m c) (argW m c) (batch t) (token t r) e).symm.trans ?_
  refine congrArg _ (funext fun a => Fin.ext ?_)
  match a with
  | ⟨0, _⟩ => show 8192 * (t.val / 16) + (512 * (t.val % 16) + r.val) = win0_6.index t 0 * 512 + 1 * r.val; rw [hi.1]; omega
  | ⟨1, _⟩ => show e.val = win0_6.index t 1 * 2048 + 1 * e.val; rw [hi.2]; omega

/-- The second result is the reference's scaled rows. -/
theorem final7 : (dats m 0 c).arrAt 7 cfg0.N
    = Cert.QueryReferenceIdeal.QueryRef.rows (argX m c) (argShift m c) (argScale m c) := by
  refine (dats m 0 c).arrAt_eq_of_covers 7 _ (by decide +kernel) fun t hf y => ?_
  have hi := index7 t
  refine (congrFun (Value.flushed7 m c t) y).trans ?_
  obtain ⟨r, d, rfl⟩ : ∃ (r : Fin 512) (d : Fin 1024), y = ix2 r d := ⟨y 0, y 1, eq_ix2 y⟩
  refine (out7_apply (iblk m c 0 t) (iblk m c 1 t) (iblk m c 2 t) (iblk m c 3 t) (iblk m c 4 t) (iblk m c 5 t) r d).trans ?_
  rw [modRow_eq]
  refine (Cert.QueryReferenceIdeal.QueryRef.rows_apply (argX m c) (argShift m c) (argScale m c) (batch t) (token t r) d).symm.trans ?_
  refine congrArg _ (funext fun a => Fin.ext ?_)
  match a with
  | ⟨0, _⟩ => show 8192 * (t.val / 16) + (512 * (t.val % 16) + r.val) = win0_7.index t 0 * 512 + 1 * r.val; rw [hi.1]; omega
  | ⟨1, _⟩ => show d.val = win0_7.index t 1 * 1024 + 1 * d.val; rw [hi.2]; omega

end Cert.QueryIdeal.QueryFinal

end
-- ==== Proof.Rotary.lean ====
/-
  The rotary turn of a row's groups of 64: entry `c` of the first half of a group is paired with entry `c + 32`. The
  kernel reads a group's pairs by two rotations of 256 entries and a choice by the lane.
-/
module

public import Idealize.ShloMosaic.Lib.Pointwise

@[expose] public section

set_option maxRecDepth 16384

noncomputable section

namespace Rotary

open Idealize.ShloMosaic

/-- A row turned by the angles' cosines and sines, group of 64 by group of 64. -/
def turned {N : Nat} (hN : N % 64 = 0) (P : Fin N → EReal) (cs sn : Fin 32 → EReal) (c : Fin N) : EReal :=
  if h : c.val % 64 < 32 then P c * cs ⟨c.val % 32, by omega⟩ - P ⟨c.val + 32, by omega⟩ * sn ⟨c.val % 32, by omega⟩
  else P ⟨c.val - 32, by omega⟩ * sn ⟨c.val % 32, by omega⟩ + P c * cs ⟨c.val % 32, by omega⟩

/-- The sines with the sign of a group's first half turned. -/
def signed (sn : Fin 32 → EReal) (e : Nat) : EReal := if e % 64 < 32 then -sn ⟨e % 32, by omega⟩ else sn ⟨e % 32, by omega⟩

/-- The choice between the two rotations: the lane modulo 64, its remainder made nonnegative, is less than 32. -/
def lanes (v : BitVec 32) : BitVec 1 :=
  IntOp.cmpi CmpIPredicate.slt
    (Scalar.select
      (IntOp.andi
        (IntOp.xori
          (IntOp.cmpi CmpIPredicate.slt
            (IntOp.remsi ArithUnit.vector v (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne
          (IntOp.remsi ArithUnit.vector v (Scalar.select (Scalar.cmpi CmpIPredicate.eq 64#32 0#32) 1#32 64#32)) 0#32))
      (IntOp.addi
        (IntOp.remsi ArithUnit.vector v (Scalar.select (Scalar.cmpi CmpIPredicate.eq 64#32 0#32) 1#32 64#32))
        (Scalar.select (Scalar.cmpi CmpIPredicate.eq 64#32 0#32) 1#32 64#32))
      (IntOp.remsi ArithUnit.vector v (Scalar.select (Scalar.cmpi CmpIPredicate.eq 64#32 0#32) 1#32 64#32)))
    32#32

theorem lanes_eq : ∀ e : Fin 256, lanes (BitVec.ofNat 32 e.val) = if e.val % 64 < 32 then 1#1 else 0#1 := by
  decide +kernel

/-- 256 entries of the kernel's turn: an entry times its cosine, and its partner times its signed sine. -/
def paired (a : Fin 256 → EReal) (cs sn : Fin 128 → EReal) (e : Fin 256) : EReal :=
  a e * cs ⟨e.val % 128, by omega⟩
    + Scalar.select (lanes (BitVec.ofNat 32 e.val)) (a ⟨(e.val + 256 - 224) % 256, by omega⟩) (a ⟨(e.val + 256 - 32) % 256, by omega⟩)
      * sn ⟨e.val % 128, by omega⟩

/-- The kernel's turn of 256 entries is the row's turn there. -/
theorem paired_eq {N : Nat} (hN : N % 64 = 0) (P : Fin N → EReal) (cs sn : Fin 32 → EReal) (o : Nat) (ho : o + 256 ≤ N) (h64 : o % 64 = 0)
    (e : Fin 256) :
    paired (fun e => P ⟨o + e.val, by omega⟩) (fun l => cs ⟨l.val % 32, by omega⟩) (fun l => signed sn l.val) e
      = turned hN P cs sn ⟨o + e.val, by omega⟩ := by
  have hc : (⟨e.val % 128 % 32, by omega⟩ : Fin 32) = ⟨(o + e.val) % 32, by omega⟩ := Fin.ext (by show e.val % 128 % 32 = (o + e.val) % 32; omega)
  unfold paired turned
  rw [lanes_eq]
  by_cases h : e.val % 64 < 32
  · have hp : (⟨o + (e.val + 256 - 224) % 256, by omega⟩ : Fin N) = ⟨o + e.val + 32, by omega⟩ :=
      Fin.ext (by show o + (e.val + 256 - 224) % 256 = o + e.val + 32; omega)
    rw [if_pos h, dif_pos (show (o + e.val) % 64 < 32 by omega)]
    show P ⟨o + e.val, _⟩ * cs ⟨e.val % 128 % 32, _⟩ + P ⟨o + (e.val + 256 - 224) % 256, _⟩ * signed sn (e.val % 128) = _
    unfold signed
    rw [if_pos (show e.val % 128 % 64 < 32 by omega), hc, hp, mul_neg, sub_eq_add_neg]
  · have hp : (⟨o + (e.val + 256 - 32) % 256, by omega⟩ : Fin N) = ⟨o + e.val - 32, by omega⟩ :=
      Fin.ext (by show o + (e.val + 256 - 32) % 256 = o + e.val - 32; omega)
    rw [if_neg h, dif_neg (show ¬(o + e.val) % 64 < 32 by omega)]
    show P ⟨o + e.val, _⟩ * cs ⟨e.val % 128 % 32, _⟩ + P ⟨o + (e.val + 256 - 32) % 256, _⟩ * signed sn (e.val % 128) = _
    unfold signed
    rw [if_neg (show ¬e.val % 128 % 64 < 32 by omega), hc, hp, add_comm]

/-- A turned stretch of a row, from a multiple of 64 on, is the turned row there. -/
theorem turned_shift {M N : Nat} (hM : M % 64 = 0) (hN : N % 64 = 0) (P : Fin N → EReal) (cs sn : Fin 32 → EReal) (o : Nat) (ho : o + M ≤ N)
    (h64 : o % 64 = 0) (e : Fin M) :
    turned hM (fun e => P ⟨o + e.val, by omega⟩) cs sn e = turned hN P cs sn ⟨o + e.val, by omega⟩ := by
  have hc : (⟨e.val % 32, by omega⟩ : Fin 32) = ⟨(o + e.val) % 32, by omega⟩ := Fin.ext (by show e.val % 32 = (o + e.val) % 32; omega)
  unfold turned
  rw [hc]
  by_cases h : e.val % 64 < 32
  · rw [dif_pos h, dif_pos (show (o + e.val) % 64 < 32 by omega)]
    rfl
  · have hp : (⟨o + (e.val - 32), by omega⟩ : Fin N) = ⟨o + e.val - 32, by omega⟩ := Fin.ext (by show o + (e.val - 32) = o + e.val - 32; omega)
    rw [dif_neg h, dif_neg (show ¬(o + e.val) % 64 < 32 by omega)]
    show P ⟨o + (e.val - 32), _⟩ * _ + _ = _
    rw [hp]

/-- A row read through a map of its places that keeps the groups, turned, is the turned row read through the map. -/
theorem turned_pull {M N : Nat} (hM : M % 64 = 0) (hN : N % 64 = 0) (f : Fin M → Fin N) (P : Fin N → EReal) (cs sn : Fin 32 → EReal) (c : Fin M)
    (h64 : (f c).val % 64 = c.val % 64) (hu : ∀ h : c.val % 64 < 32, (f ⟨c.val + 32, by omega⟩).val = (f c).val + 32)
    (hd : ¬c.val % 64 < 32 → (f ⟨c.val - 32, by omega⟩).val = (f c).val - 32) :
    turned hM (fun c => P (f c)) cs sn c = turned hN P cs sn (f c) := by
  have hc : (⟨c.val % 32, by omega⟩ : Fin 32) = ⟨(f c).val % 32, by omega⟩ := Fin.ext (by show c.val % 32 = (f c).val % 32; omega)
  unfold turned
  rw [hc]
  by_cases h : c.val % 64 < 32
  · rw [dif_pos h, dif_pos (show (f c).val % 64 < 32 by omega)]
    exact congrArg (fun k => P (f c) * cs ⟨(f c).val % 32, by omega⟩ - P k * sn ⟨(f c).val % 32, by omega⟩) (Fin.ext (hu h))
  · rw [dif_neg h, dif_neg (show ¬(f c).val % 64 < 32 by omega)]
    exact congrArg (fun k => P k * sn ⟨(f c).val % 32, by omega⟩ + P (f c) * cs ⟨(f c).val % 32, by omega⟩) (Fin.ext (hd h))

/-- The base-two score scale of the queries, as the reference states it. -/
theorem scale_eq : Ideal.div (Ideal.ofBits .f32 0x3E000000#32) (Ideal.log (Ideal.ofBits .f32 0x40000000#32)) = (((1 / 8) * (Real.log 2)⁻¹ : ℝ) : EReal) := by
  have h8 : Ideal.ofBits .f32 0x3E000000#32 = ((1 / 8 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have hl : 0 < Real.log 2 := Real.log_pos (by norm_num)
  rw [h8, h2, Ideal.log_coe, if_neg (by norm_num), Ideal.div_coe hl.ne', ← EReal.coe_mul, one_div (Real.log 2)]

end Rotary

end
-- ==== Proof.InputRef.lean ====
/-
  The even layer's input projection, as the reference states it.
-/
module

public import proofs.«01_k».proof.Proof.Gen.InputReferenceIdeal.Run
public import proofs.«01_k».proof.Proof.Rotary
public import Idealize.ShloMosaic.Lib.Pointwise
public import Idealize.ShloMosaic.Lib.StableHlo.Run

@[expose] public section

set_option maxRecDepth 16384

noncomputable section

namespace Cert.InputReferenceIdeal.InputRef

open Idealize.ShloMosaic Idealize.ShloMosaic.TcCoe Idealize.SL.Sem
open Cert.InputReferenceIdeal Cert.InputReferenceIdeal.Gen

/-- The scaled and shifted rows. -/
def modulated (x : FVec Ideal S2x8192x1024 .f32) (sh sc : FVec Ideal S2x1024 .f32) : FVec Ideal S2x8192x1024 .f32 :=
  addf (mulf x (broadcastInDim S2x8192x1024 ![0, 1, 2] bcast_S2x1x1024_S2x8192x1024_0_1_2
      (addf (broadcastInDim S2x1x1024 ![] bcast_S_S2x1x1024 (constant S_ .f32 0x3F800000#32))
        (broadcastInDim S2x1x1024 ![0, 2] bcast_S2x1024_S2x1x1024_0_2 sc))))
    (broadcastInDim S2x8192x1024 ![0, 1, 2] bcast_S2x1x1024_S2x8192x1024_0_1_2
      (broadcastInDim S2x1x1024 ![0, 2] bcast_S2x1024_S2x1x1024_0_2 sh))

/-- The product of the scaled and shifted rows with the weights. -/
def product (x : FVec Ideal S2x8192x1024 .f32) (sh sc : FVec Ideal S2x1024 .f32) (w : FVec Ideal S1024x3072 .f32) : FVec Ideal S2x8192x3072 .f32 :=
  Host.dotGeneral dot_S2x8192x1024_S1024x3072_S2x8192x3072_2_0_01_1_n_n none (modulated x sh sc) w

/-- The angles of the positions. -/
def angle : FVec Ideal S8192x32 .f32 :=
  mulf (broadcastInDim S8192x32 ![0, 1] bcast_S8192x1_S8192x32_0_1 (broadcastInDim S8192x1 ![0] bcast_S8192_S8192x1_0 (sitofp .f32 (iotaInDim S8192 32 0))))
    (broadcastInDim S8192x32 ![0, 1] bcast_S1x32_S8192x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (addf (broadcastInDim S32 ![] bcast_S_S32 (constant S_ .f32 0x00000000#32))
              (mulf (broadcastInDim S32 ![] bcast_S_S32 (constant S_ .f32 0x40000000#32)) (sitofp .f32 (iotaInDim S32 32 0))))
            (broadcastInDim S32 ![] bcast_S_S32 (constant S_ .f32 0x42800000#32)))))))

def cosRow (n : Fin 8192) (l : Fin 32) : EReal := Ideal.cos (angle (ix2 n l))
def sinRow (n : Fin 8192) (l : Fin 32) : EReal := Ideal.sin (angle (ix2 n l))

/-- Groups of 64 turned by the angles. -/
def turned (t : FVec Ideal S2x8192x512 .f32) : FVec Ideal S2x8192x512 .f32 :=
  shapeCast _ (concatenate S2x8192x8x64 3
    [⟨S2x8192x8x32, subf
        (mulf (extractStridedSlice S2x8192x8x32 ![0, 0, 0, 0] (shapeCast _ t shapeCasts_S2x8192x512_S2x8192x8x64) slices_S2x8192x8x64_S2x8192x8x32_0_0_0_0)
          (broadcastInDim S2x8192x8x32 ![0, 1, 2, 3] bcast_S1x8192x1x32_S2x8192x8x32_0_1_2_3 (broadcastInDim S1x8192x1x32 ![1, 3] bcast_S8192x32_S1x8192x1x32_1_3 (Host.cos angle))))
        (mulf (extractStridedSlice S2x8192x8x32 ![0, 0, 0, 32] (shapeCast _ t shapeCasts_S2x8192x512_S2x8192x8x64) slices_S2x8192x8x64_S2x8192x8x32_0_0_0_32)
          (broadcastInDim S2x8192x8x32 ![0, 1, 2, 3] bcast_S1x8192x1x32_S2x8192x8x32_0_1_2_3 (broadcastInDim S1x8192x1x32 ![1, 3] bcast_S8192x32_S1x8192x1x32_1_3 (Host.sin angle))))⟩,
      ⟨S2x8192x8x32, addf
        (mulf (extractStridedSlice S2x8192x8x32 ![0, 0, 0, 0] (shapeCast _ t shapeCasts_S2x8192x512_S2x8192x8x64) slices_S2x8192x8x64_S2x8192x8x32_0_0_0_0)
          (broadcastInDim S2x8192x8x32 ![0, 1, 2, 3] bcast_S1x8192x1x32_S2x8192x8x32_0_1_2_3 (broadcastInDim S1x8192x1x32 ![1, 3] bcast_S8192x32_S1x8192x1x32_1_3 (Host.sin angle))))
        (mulf (extractStridedSlice S2x8192x8x32 ![0, 0, 0, 32] (shapeCast _ t shapeCasts_S2x8192x512_S2x8192x8x64) slices_S2x8192x8x64_S2x8192x8x32_0_0_0_32)
          (broadcastInDim S2x8192x8x32 ![0, 1, 2, 3] bcast_S1x8192x1x32_S2x8192x8x32_0_1_2_3 (broadcastInDim S1x8192x1x32 ![1, 3] bcast_S8192x32_S1x8192x1x32_1_3 (Host.cos angle))))⟩]
    concatenates_S2x8192x8x32_S2x8192x8x32_S2x8192x8x64_d3) shapeCasts_S2x8192x8x64_S2x8192x512

theorem turned_apply (t : FVec Ideal S2x8192x512 .f32) (b : Fin 2) (n : Fin 8192) (e : Fin 512) :
    turned t (ix3 b n e) = Rotary.turned (N := 512) rfl (fun e => t (ix3 b n e)) (cosRow n) (sinRow n) e := by
  unfold turned Rotary.turned cosRow sinRow
  pointwise
  by_cases h : e.val % 64 < 32
  · have h1 : (⟨e.val % 64, h⟩ : Fin 32) = ⟨e.val % 32, by omega⟩ := Fin.ext (by show e.val % 64 = e.val % 32; omega)
    have h2 : (⟨e.val / 64 * 64 + (32 + e.val % 64), by omega⟩ : Fin 512) = ⟨e.val + 32, by omega⟩ :=
      Fin.ext (by show e.val / 64 * 64 + (32 + e.val % 64) = e.val + 32; omega)
    rw [dif_pos h, dif_pos h]
    exact congrArg₂ (fun a b : EReal => a - b)
      (congrArg (fun l => t (ix3 b n e) * Ideal.cos (angle (ix2 n l))) h1)
      (congrArg₂ (fun k l => t (ix3 b n k) * Ideal.sin (angle (ix2 n l))) h2 h1)
  · have h1 : (⟨e.val % 64 - 32, by omega⟩ : Fin 32) = ⟨e.val % 32, by omega⟩ := Fin.ext (by show e.val % 64 - 32 = e.val % 32; omega)
    have h2 : (⟨e.val / 64 * 64 + (e.val % 64 - 32), by omega⟩ : Fin 512) = ⟨e.val - 32, by omega⟩ :=
      Fin.ext (by show e.val / 64 * 64 + (e.val % 64 - 32) = e.val - 32; omega)
    have h3 : (⟨e.val / 64 * 64 + (32 + (e.val % 64 - 32)), by omega⟩ : Fin 512) = e :=
      Fin.ext (by show e.val / 64 * 64 + (32 + (e.val % 64 - 32)) = e.val; omega)
    rw [dif_neg h, dif_neg h]
    exact congrArg₂ (fun a b : EReal => a + b)
      (congrArg₂ (fun k l => t (ix3 b n k) * Ideal.sin (angle (ix2 n l))) h2 h1)
      (congrArg₂ (fun k l => t (ix3 b n k) * Ideal.cos (angle (ix2 n l))) h3 h1)

/-- The sections side by side. -/
def joined (t0 : FVec Ideal S2x8192x512 .f32) (t1 : FVec Ideal S2x8192x512 .f32) (t2 : FVec Ideal S2x8192x512 .f32) (t3 : FVec Ideal S2x8192x512 .f32) (t4 : FVec Ideal S2x8192x512 .f32) (t5 : FVec Ideal S2x8192x512 .f32) : FVec Ideal S16384x3072 .bf16 :=
  truncf .bf16 (shapeCast _ (concatenate S2x8192x3072 2
     [⟨S2x8192x512, t0⟩, ⟨S2x8192x512, t1⟩, ⟨S2x8192x512, t2⟩, ⟨S2x8192x512, t3⟩, ⟨S2x8192x512, t4⟩, ⟨S2x8192x512, t5⟩]
    concatenates_S2x8192x512_S2x8192x512_S2x8192x512_S2x8192x512_S2x8192x512_S2x8192x512_S2x8192x3072_d2) shapeCasts_S2x8192x3072_S16384x3072) bitsLt_bf16_f32

theorem joined_apply (t0 : FVec Ideal S2x8192x512 .f32) (t1 : FVec Ideal S2x8192x512 .f32) (t2 : FVec Ideal S2x8192x512 .f32) (t3 : FVec Ideal S2x8192x512 .f32) (t4 : FVec Ideal S2x8192x512 .f32) (t5 : FVec Ideal S2x8192x512 .f32)
    (b : Fin 2) (n : Fin 8192) (c : Fin 3072) :
    joined t0 t1 t2 t3 t4 t5 (ix2 ⟨8192 * b.val + n.val, by omega⟩ c)
      = if h : c.val < 512 then t0 (ix3 b n ⟨c.val, h⟩)
        else if h : c.val - 512 < 512 then t1 (ix3 b n ⟨c.val - 512, h⟩)
        else if h : c.val - 512 - 512 < 512 then t2 (ix3 b n ⟨c.val - 512 - 512, h⟩)
        else if h : c.val - 512 - 512 - 512 < 512 then t3 (ix3 b n ⟨c.val - 512 - 512 - 512, h⟩)
        else if h : c.val - 512 - 512 - 512 - 512 < 512 then t4 (ix3 b n ⟨c.val - 512 - 512 - 512 - 512, h⟩)
        else t5 (ix3 b n ⟨c.val - 512 - 512 - 512 - 512 - 512, by omega⟩) := by
  unfold joined
  pointwise

theorem slice0_apply (p : FVec Ideal S2x8192x3072 .f32) (b : Fin 2) (n : Fin 8192) (e : Fin 512) :
    extractStridedSlice S2x8192x512 ![0, 0, 0] p slices_S2x8192x3072_S2x8192x512_0_0_0 (ix3 b n e) = p (ix3 b n ⟨e.val, by omega⟩) := by
  pointwise

theorem slice512_apply (p : FVec Ideal S2x8192x3072 .f32) (b : Fin 2) (n : Fin 8192) (e : Fin 512) :
    extractStridedSlice S2x8192x512 ![0, 0, 512] p slices_S2x8192x3072_S2x8192x512_0_0_512 (ix3 b n e) = p (ix3 b n ⟨512 + e.val, by omega⟩) := by
  pointwise

theorem slice1024_apply (p : FVec Ideal S2x8192x3072 .f32) (b : Fin 2) (n : Fin 8192) (e : Fin 512) :
    extractStridedSlice S2x8192x512 ![0, 0, 1024] p slices_S2x8192x3072_S2x8192x512_0_0_1024 (ix3 b n e) = p (ix3 b n ⟨1024 + e.val, by omega⟩) := by
  pointwise

theorem slice1536_apply (p : FVec Ideal S2x8192x3072 .f32) (b : Fin 2) (n : Fin 8192) (e : Fin 512) :
    extractStridedSlice S2x8192x512 ![0, 0, 1536] p slices_S2x8192x3072_S2x8192x512_0_0_1536 (ix3 b n e) = p (ix3 b n ⟨1536 + e.val, by omega⟩) := by
  pointwise

theorem turn1536_apply (p : FVec Ideal S2x8192x3072 .f32) (b : Fin 2) (n : Fin 8192) (e : Fin 512) :
    turned (extractStridedSlice S2x8192x512 ![0, 0, 1536] p slices_S2x8192x3072_S2x8192x512_0_0_1536) (ix3 b n e)
      = Rotary.turned (N := 3072) rfl (fun c => p (ix3 b n c)) (cosRow n) (sinRow n) ⟨1536 + e.val, by omega⟩ := by
  refine (turned_apply _ b n e).trans (Eq.trans ?_ (Rotary.turned_shift (M := 512) rfl rfl (fun c => p (ix3 b n c)) (cosRow n) (sinRow n) 1536 (by omega) (by omega) e))
  refine congrArg (fun P => Rotary.turned (N := 512) rfl P (cosRow n) (sinRow n) e) (funext fun e => (slice1536_apply p b n e).trans ?_)
  refine congrArg (fun c => p (ix3 b n c)) (Fin.ext ?_)
  show 1536 + e.val = 1536 + e.val
  omega

theorem slice2048_apply (p : FVec Ideal S2x8192x3072 .f32) (b : Fin 2) (n : Fin 8192) (e : Fin 512) :
    extractStridedSlice S2x8192x512 ![0, 0, 2048] p slices_S2x8192x3072_S2x8192x512_0_0_2048 (ix3 b n e) = p (ix3 b n ⟨2048 + e.val, by omega⟩) := by
  pointwise

theorem turn2048_apply (p : FVec Ideal S2x8192x3072 .f32) (b : Fin 2) (n : Fin 8192) (e : Fin 512) :
    turned (extractStridedSlice S2x8192x512 ![0, 0, 2048] p slices_S2x8192x3072_S2x8192x512_0_0_2048) (ix3 b n e)
      = Rotary.turned (N := 3072) rfl (fun c => p (ix3 b n c)) (cosRow n) (sinRow n) ⟨2048 + e.val, by omega⟩ := by
  refine (turned_apply _ b n e).trans (Eq.trans ?_ (Rotary.turned_shift (M := 512) rfl rfl (fun c => p (ix3 b n c)) (cosRow n) (sinRow n) 2048 (by omega) (by omega) e))
  refine congrArg (fun P => Rotary.turned (N := 512) rfl P (cosRow n) (sinRow n) e) (funext fun e => (slice2048_apply p b n e).trans ?_)
  refine congrArg (fun c => p (ix3 b n c)) (Fin.ext ?_)
  show 2048 + e.val = 2048 + e.val
  omega

theorem slice2560_apply (p : FVec Ideal S2x8192x3072 .f32) (b : Fin 2) (n : Fin 8192) (e : Fin 512) :
    extractStridedSlice S2x8192x512 ![0, 0, 2560] p slices_S2x8192x3072_S2x8192x512_0_0_2560 (ix3 b n e) = p (ix3 b n ⟨2560 + e.val, by omega⟩) := by
  pointwise

theorem scaled_apply (t : FVec Ideal S2x8192x512 .f32) (b : Fin 2) (n : Fin 8192) (e : Fin 512) :
    mulf t (broadcastInDim S2x8192x512 ![] bcast_S_S2x8192x512 (constant S_ .f32 0x3E000000#32)) (ix3 b n e) = t (ix3 b n e) * Ideal.ofBits .f32 0x3E000000#32 := by
  pointwise

theorem scaledLog_apply (t : FVec Ideal S2x8192x512 .f32) (b : Fin 2) (n : Fin 8192) (e : Fin 512) :
    mulf t (broadcastInDim S2x8192x512 ![] bcast_S_S2x8192x512 (Host.divf (constant S_ .f32 0x3E000000#32) (Host.log (constant S_ .f32 0x40000000#32)))) (ix3 b n e)
      = t (ix3 b n e) * (((1 / 8) * (Real.log 2)⁻¹ : ℝ) : EReal) := by
  rw [← Rotary.scale_eq]
  pointwise

/-- The projected rows from the product. -/
def resultOf (p : FVec Ideal S2x8192x3072 .f32) : FVec Ideal S16384x3072 .bf16 :=
  joined (mulf (extractStridedSlice S2x8192x512 ![0, 0, 0] p slices_S2x8192x3072_S2x8192x512_0_0_0) (broadcastInDim S2x8192x512 ![] bcast_S_S2x8192x512 (constant S_ .f32 0x3E000000#32)))
    (extractStridedSlice S2x8192x512 ![0, 0, 512] p slices_S2x8192x3072_S2x8192x512_0_0_512)
    (extractStridedSlice S2x8192x512 ![0, 0, 1024] p slices_S2x8192x3072_S2x8192x512_0_0_1024)
    (mulf (turned (extractStridedSlice S2x8192x512 ![0, 0, 1536] p slices_S2x8192x3072_S2x8192x512_0_0_1536)) (broadcastInDim S2x8192x512 ![] bcast_S_S2x8192x512 (Host.divf (constant S_ .f32 0x3E000000#32) (Host.log (constant S_ .f32 0x40000000#32)))))
    (turned (extractStridedSlice S2x8192x512 ![0, 0, 2048] p slices_S2x8192x3072_S2x8192x512_0_0_2048))
    (extractStridedSlice S2x8192x512 ![0, 0, 2560] p slices_S2x8192x3072_S2x8192x512_0_0_2560)

/-- A row of the result from the row of the product. -/
def sections (P : Fin 3072 → EReal) (cs sn : Fin 32 → EReal) (c : Fin 3072) : EReal :=
  if c.val < 512 then P c * Ideal.ofBits .f32 0x3E000000#32
  else if c.val < 1536 then P c
  else if c.val < 2048 then Rotary.turned rfl P cs sn c * (((1 / 8) * (Real.log 2)⁻¹ : ℝ) : EReal)
  else if c.val < 2560 then Rotary.turned rfl P cs sn c
  else P c

theorem resultOf_apply (p : FVec Ideal S2x8192x3072 .f32) (b : Fin 2) (n : Fin 8192) (c : Fin 3072) :
    resultOf p (ix2 ⟨8192 * b.val + n.val, by omega⟩ c) = sections (fun c => p (ix3 b n c)) (cosRow n) (sinRow n) c := by
  unfold resultOf sections
  rw [joined_apply]
  by_cases h0 : c.val < 512
  · rw [dif_pos h0, if_pos (show c.val < 512 by omega)]
    rw [scaled_apply]
    exact congrArg (fun a : EReal => a * Ideal.ofBits .f32 0x3E000000#32) ((slice0_apply p b n ⟨c.val, by omega⟩).trans (congrArg (fun c => p (ix3 b n c)) (Fin.ext (show c.val = c.val from rfl))))
  rw [dif_neg h0, if_neg (show ¬c.val < 512 by omega)]
  by_cases h1 : c.val - 512 < 512
  · rw [dif_pos h1, if_pos (show c.val < 1536 by omega)]
    exact (slice512_apply p b n ⟨c.val - 512, by omega⟩).trans (congrArg (fun c => p (ix3 b n c)) (Fin.ext (show 512 + (c.val - 512) = c.val by omega)))
  rw [dif_neg h1]
  by_cases h2 : c.val - 512 - 512 < 512
  · rw [dif_pos h2, if_pos (show c.val < 1536 by omega)]
    exact (slice1024_apply p b n ⟨c.val - 512 - 512, by omega⟩).trans (congrArg (fun c => p (ix3 b n c)) (Fin.ext (show 1024 + (c.val - 512 - 512) = c.val by omega)))
  rw [dif_neg h2, if_neg (show ¬c.val < 1536 by omega)]
  by_cases h3 : c.val - 512 - 512 - 512 < 512
  · rw [dif_pos h3, if_pos (show c.val < 2048 by omega)]
    rw [scaledLog_apply]
    exact congrArg (fun a : EReal => a * (((1 / 8) * (Real.log 2)⁻¹ : ℝ) : EReal)) ((turn1536_apply p b n ⟨c.val - 512 - 512 - 512, by omega⟩).trans (congrArg (fun c => Rotary.turned (N := 3072) rfl (fun c => p (ix3 b n c)) (cosRow n) (sinRow n) c) (Fin.ext (show 1536 + (c.val - 512 - 512 - 512) = c.val by omega))))
  rw [dif_neg h3, if_neg (show ¬c.val < 2048 by omega)]
  by_cases h4 : c.val - 512 - 512 - 512 - 512 < 512
  · rw [dif_pos h4, if_pos (show c.val < 2560 by omega)]
    exact (turn2048_apply p b n ⟨c.val - 512 - 512 - 512 - 512, by omega⟩).trans (congrArg (fun c => Rotary.turned (N := 3072) rfl (fun c => p (ix3 b n c)) (cosRow n) (sinRow n) c) (Fin.ext (show 2048 + (c.val - 512 - 512 - 512 - 512) = c.val by omega)))
  rw [dif_neg h4, if_neg (show ¬c.val < 2560 by omega)]
  exact (slice2560_apply p b n ⟨c.val - 512 - 512 - 512 - 512 - 512, by omega⟩).trans (congrArg (fun c => p (ix3 b n c)) (Fin.ext (show 2560 + (c.val - 512 - 512 - 512 - 512 - 512) = c.val by omega)))

/-- The projected rows. -/
def result (x : FVec Ideal S2x8192x1024 .f32) (sh sc : FVec Ideal S2x1024 .f32) (w : FVec Ideal S1024x3072 .f32) : FVec Ideal S16384x3072 .bf16 :=
  resultOf (product x sh sc w)

theorem res_eq (m : (ℓ : Loc nD τ sig) → Buf (Elt Ideal) ℓ) (c : Dev nD) :
    Value.res_main_v96 m c = result (m ((c.tc : Thread nD τ).loc main_arg0)) (m ((c.tc : Thread nD τ).loc main_arg1))
      (m ((c.tc : Thread nD τ).loc main_arg2)) (m ((c.tc : Thread nD τ).loc main_arg3)) := by
  unfold Value.res_main_v96
  rfl

theorem modulated_apply (x : FVec Ideal S2x8192x1024 .f32) (sh sc : FVec Ideal S2x1024 .f32) (b : Fin 2) (n : Fin 8192) (d : Fin 1024) :
    modulated x sh sc (ix3 b n d) = x (ix3 b n d) * (Ideal.ofBits .f32 0x3F800000#32 + sc (ix2 b d)) + sh (ix2 b d) := by
  unfold modulated
  pointwise

theorem product_apply (x : FVec Ideal S2x8192x1024 .f32) (sh sc : FVec Ideal S2x1024 .f32) (w : FVec Ideal S1024x3072 .f32)
    (b : Fin 2) (n : Fin 8192) (c : Fin 3072) :
    product x sh sc w (ix3 b n c) = ∑ d : Fin 1024, modulated x sh sc (ix3 b n d) * w (ix2 d c) := by
  unfold product
  pointwise

end Cert.InputReferenceIdeal.InputRef

end
-- ==== Proof.InputFinal.lean ====
/-
  The even layer's input projection: a row block's tile of the kernel's result is the reference's tile, and the tiles cover
  the array.
-/
module

public import proofs.«01_k».proof.Proof.Gen.InputIdeal.Value
public import proofs.«01_k».proof.Proof.InputRef
public import Idealize.ShloMosaic.Lib.Pointwise
public import Idealize.ShloMosaic.Lib.Pipeline.ValueKit
public import Idealize.ShloMosaic.Lib.StableHlo.Run

@[expose] public section

set_option maxRecDepth 16384

noncomputable section

namespace Cert.InputIdeal.InputFinal

open Idealize.ShloMosaic Idealize.ShloMosaic.TcCoe Idealize.SL.Sem
open Cert.InputIdeal Cert.InputIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- A row block's scaled and shifted rows. -/
def modRow (x : Vec Ideal S512x1024 .f32) (sh sc : Vec Ideal S1x1x1024 .f32) (r : Fin 512) (d : Fin 1024) : EReal :=
  x (ix2 r d) * (Ideal.ofBits .f32 0x3F800000#32 + sc (ix3 0 0 d)) + sh (ix3 0 0 d)

/-- A row block's product with the weights. -/
def prodRow (x : Vec Ideal S512x1024 .f32) (sh sc : Vec Ideal S1x1x1024 .f32) (w : Vec Ideal S1024x3072 .bf16) (r : Fin 512) (c : Fin 3072) : EReal :=
  ∑ d : Fin 1024, modRow x sh sc r d * w (ix2 d c)

theorem pay4_apply (x : Vec Ideal S512x1024 .f32) (sh sc : Vec Ideal S1x1x1024 .f32) (r : Fin 512) (d : Fin 1024) :
    k0_pay4 x sc sh (ix2 r d) = modRow x sh sc r d := by
  unfold k0_pay4 modRow
  pointwise

/-- 256 of the weights' columns. -/
abbrev cols (w : Vec Ideal S1024x3072 .bf16) (o : Nat) (hw : ∀ a, (![0, o] : Fin 2 → Nat) a + S1024x256.size a ≤ S1024x3072.size a) :
    Vec Ideal S1024x256 .bf16 := View.ld w (Rect.unit (s := S1024x3072) ![0, o] S1024x256.size hw)

theorem cols_apply (w : Vec Ideal S1024x3072 .bf16) (o : Nat) (hw : ∀ a, (![0, o] : Fin 2 → Nat) a + S1024x256.size a ≤ S1024x3072.size a)
    (ho : o + 256 ≤ 3072) (d : Fin 1024) (e : Fin 256) : cols w o hw (ix2 d e) = w (ix2 d ⟨o + e.val, by omega⟩) := by
  refine congrArg w (funext fun a => Fin.ext ?_)
  match a with
  | ⟨0, _⟩ => show 0 + 1 * d.val = d.val; omega
  | ⟨1, _⟩ => show o + 1 * e.val = o + e.val; omega

theorem prod_apply (x : Vec Ideal S512x1024 .f32) (sh sc : Vec Ideal S1x1x1024 .f32) (w : Vec Ideal S1024x3072 .bf16) (o : Nat)
    (hw : ∀ a, (![0, o] : Fin 2 → Nat) a + S1024x256.size a ≤ S1024x3072.size a) (h : o + 256 ≤ 3072) (r : Fin 512) (e : Fin 256) :
    k0_pay11 (k0_pay4 x sc sh) (cols w o hw) (ix2 r e) = prodRow x sh sc w r ⟨o + e.val, by omega⟩ := by
  have hm : ∀ (h : FVec Ideal S512x1024 .bf16) (w : Vec Ideal S1024x256 .bf16),
      k0_pay11 h w (ix2 r e) = ∑ d : Fin 1024, h (ix2 r d) * w (ix2 d e) := fun h w => by
    unfold k0_pay11
    pointwise
  rw [hm]
  unfold prodRow
  refine Finset.sum_congr rfl fun d _ => ?_
  rw [pay4_apply, cols_apply w o hw h]

theorem table_apply (v : Vec Ideal S512x128 .f32) (r : Fin 512) (e : Fin 256) :
    k0_pay12 v (ix2 r e) = v (ix2 r ⟨e.val % 128, by omega⟩) := by
  unfold k0_pay12
  pointwise
  by_cases h : e.val < 128
  · rw [dif_pos h]
    exact congrArg (fun l => v (ix2 r l)) (Fin.ext (show e.val = e.val % 128 by omega))
  · rw [dif_neg h]
    exact congrArg (fun l => v (ix2 r l)) (Fin.ext (show e.val - 128 = e.val % 128 by omega))

/-- The kernel's turn of 256 columns. -/
abbrev turnPlain (a : FVec Ideal S512x256 .f32) (p q : Vec Ideal S512x128 .f32) : FVec Ideal S512x256 .bf16 :=
  k0_pay28 a (k0_pay12 p) (k0_pay12 q) (Scalar.select (Scalar.cmpi .eq 64#32 0#32) 1#32 64#32) k0_pay25 k0_pay26 k0_pay27

/-- The kernel's turn of 256 columns with the scale. -/
abbrev turnScaled (a : FVec Ideal S512x256 .f32) (p q : Vec Ideal S512x128 .f32) : FVec Ideal S512x256 .bf16 :=
  k0_pay15 a (k0_pay12 p) (k0_pay12 q) (Scalar.select (Scalar.cmpi .eq 64#32 0#32) 1#32 64#32) k0_pay14 0#32

theorem turnPlain_apply (a : FVec Ideal S512x256 .f32) (p q : Vec Ideal S512x128 .f32) (r : Fin 512) (e : Fin 256) :
    turnPlain a p q (ix2 r e) = Rotary.paired (fun e => a (ix2 r e)) (fun l => p (ix2 r l)) (fun l => q (ix2 r l)) e := by
  unfold turnPlain k0_pay28 k0_pay26 k0_pay27 k0_pay25
  pointwise [table_apply]
  rfl

theorem turnScaled_apply (a : FVec Ideal S512x256 .f32) (p q : Vec Ideal S512x128 .f32) (r : Fin 512) (e : Fin 256) :
    turnScaled a p q (ix2 r e)
      = Rotary.paired (fun e => a (ix2 r e)) (fun l => p (ix2 r l)) (fun l => q (ix2 r l)) e * (((1 / 8) * (Real.log 2)⁻¹ : ℝ) : EReal) := by
  unfold turnScaled k0_pay15 k0_pay14
  pointwise [table_apply]
  rw [IdealRules.named_const.ideal_named_scalar κ "scale" _ _ rfl]
  rfl

/-- A row block's tile. -/
def tile (x : Vec Ideal S512x1024 .f32) (sh sc : Vec Ideal S1x1x1024 .f32) (w : Vec Ideal S1024x3072 .bf16) (cs sn : Fin 512 → Fin 32 → EReal) : Vec Ideal S512x3072 .bf16 :=
  fun y => Cert.InputReferenceIdeal.InputRef.sections (prodRow x sh sc w (y 0)) (cs (y 0)) (sn (y 0)) (y 1)

/-- 256 columns that are the tile's, at their place in the block. -/
theorem piece (x : Vec Ideal S512x1024 .f32) (sh sc : Vec Ideal S1x1x1024 .f32) (w : Vec Ideal S1024x3072 .bf16) (cs sn : Fin 512 → Fin 32 → EReal) (o : Nat)
    (ho : ∀ a, (![0, o] : Fin 2 → Nat) a + S512x256.size a ≤ S512x3072.size a) (h : o + 256 ≤ 3072) (v : FVec Ideal S512x256 .bf16)
    (hv : ∀ r e, v (ix2 r e) = Cert.InputReferenceIdeal.InputRef.sections (prodRow x sh sc w r) (cs r) (sn r) ⟨o + e.val, by omega⟩) (y : S512x256.Idx) :
    v y = tile x sh sc w cs sn ((Rect.unit (s := S512x3072) ![0, o] S512x256.size ho).idx y) := by
  obtain ⟨r, e, rfl⟩ : ∃ (r : Fin 512) (e : Fin 256), y = ix2 r e := ⟨y 0, y 1, eq_ix2 y⟩
  refine (hv r e).trans ?_
  refine congrArg₂ (fun r c => Cert.InputReferenceIdeal.InputRef.sections (prodRow x sh sc w r) (cs r) (sn r) c) (Fin.ext ?_) (Fin.ext ?_)
  · show r.val = 0 + 1 * r.val
    omega
  · show o + e.val = o + 1 * e.val
    omega

theorem plain (x : Vec Ideal S512x1024 .f32) (sh sc : Vec Ideal S1x1x1024 .f32) (w : Vec Ideal S1024x3072 .bf16) (cs sn : Fin 512 → Fin 32 → EReal) (o : Nat)
    (hw : ∀ a, (![0, o] : Fin 2 → Nat) a + S1024x256.size a ≤ S1024x3072.size a)
    (ho : ∀ a, (![0, o] : Fin 2 → Nat) a + S512x256.size a ≤ S512x3072.size a)
    (h : o + 256 ≤ 3072) (hs : (512 ≤ o ∧ o + 256 ≤ 1536) ∨ 2560 ≤ o) (y : S512x256.Idx) :
    k0_pay2 (k0_pay4 x sc sh) (cols w o hw) y = tile x sh sc w cs sn ((Rect.unit (s := S512x3072) ![0, o] S512x256.size ho).idx y) := by
  refine piece x sh sc w cs sn o ho h _ (fun r e => (prod_apply x sh sc w o hw h r e).trans ?_) y
  unfold Cert.InputReferenceIdeal.InputRef.sections
  rw [if_neg (show ¬o + e.val < 512 by omega)]
  rcases hs with hs | hs
  · rw [if_pos (show o + e.val < 1536 by omega)]
  · rw [if_neg (show ¬o + e.val < 1536 by omega), if_neg (show ¬o + e.val < 2048 by omega), if_neg (show ¬o + e.val < 2560 by omega)]

theorem scaled (x : Vec Ideal S512x1024 .f32) (sh sc : Vec Ideal S1x1x1024 .f32) (w : Vec Ideal S1024x3072 .bf16) (cs sn : Fin 512 → Fin 32 → EReal) (o : Nat)
    (hw : ∀ a, (![0, o] : Fin 2 → Nat) a + S1024x256.size a ≤ S1024x3072.size a)
    (ho : ∀ a, (![0, o] : Fin 2 → Nat) a + S512x256.size a ≤ S512x3072.size a)
    (h : o + 256 ≤ 3072) (hs : o + 256 ≤ 512) (y : S512x256.Idx) :
    k0_pay5 x sc sh (cols w o hw) y = tile x sh sc w cs sn ((Rect.unit (s := S512x3072) ![0, o] S512x256.size ho).idx y) := by
  have hm : ∀ (w : Vec Ideal S1024x256 .bf16) (r : Fin 512) (e : Fin 256),
      k0_pay5 x sc sh w (ix2 r e) = k0_pay11 (k0_pay4 x sc sh) w (ix2 r e) * Ideal.ofBits .f32 0x3E000000#32 := fun w r e => by
    unfold k0_pay5 k0_pay11
    pointwise
  refine piece x sh sc w cs sn o ho h _ (fun r e => (hm _ r e).trans ?_) y
  rw [prod_apply x sh sc w o hw h]
  unfold Cert.InputReferenceIdeal.InputRef.sections
  rw [if_pos (show o + e.val < 512 by omega)]

theorem paired_prod (x : Vec Ideal S512x1024 .f32) (sh sc : Vec Ideal S1x1x1024 .f32) (w : Vec Ideal S1024x3072 .bf16)
    (p q : Vec Ideal S512x128 .f32) (cs sn : Fin 512 → Fin 32 → EReal)
    (hp : ∀ r l, p (ix2 r l) = cs r ⟨l.val % 32, by omega⟩) (hq : ∀ r l, q (ix2 r l) = Rotary.signed (sn r) l.val) (o : Nat)
    (hw : ∀ a, (![0, o] : Fin 2 → Nat) a + S1024x256.size a ≤ S1024x3072.size a) (h : o + 256 ≤ 3072) (h64 : o % 64 = 0) (r : Fin 512) (e : Fin 256) :
    Rotary.paired (fun e => k0_pay11 (k0_pay4 x sc sh) (cols w o hw) (ix2 r e)) (fun l => p (ix2 r l)) (fun l => q (ix2 r l)) e
      = Rotary.turned (N := 3072) rfl (prodRow x sh sc w r) (cs r) (sn r) ⟨o + e.val, by omega⟩ := by
  rw [show (fun e => k0_pay11 (k0_pay4 x sc sh) (cols w o hw) (ix2 r e)) = fun e : Fin 256 => prodRow x sh sc w r ⟨o + e.val, by omega⟩ from
      funext fun e => prod_apply x sh sc w o hw h r e,
    show (fun l => p (ix2 r l)) = fun l : Fin 128 => cs r ⟨l.val % 32, by omega⟩ from funext fun l => hp r l,
    show (fun l => q (ix2 r l)) = fun l : Fin 128 => Rotary.signed (sn r) l.val from funext fun l => hq r l]
  exact Rotary.paired_eq rfl (prodRow x sh sc w r) (cs r) (sn r) o h h64 e

theorem turnedPiece (x : Vec Ideal S512x1024 .f32) (sh sc : Vec Ideal S1x1x1024 .f32) (w : Vec Ideal S1024x3072 .bf16)
    (p q : Vec Ideal S512x128 .f32) (cs sn : Fin 512 → Fin 32 → EReal)
    (hp : ∀ r l, p (ix2 r l) = cs r ⟨l.val % 32, by omega⟩) (hq : ∀ r l, q (ix2 r l) = Rotary.signed (sn r) l.val) (o : Nat)
    (hw : ∀ a, (![0, o] : Fin 2 → Nat) a + S1024x256.size a ≤ S1024x3072.size a)
    (ho : ∀ a, (![0, o] : Fin 2 → Nat) a + S512x256.size a ≤ S512x3072.size a)
    (h : o + 256 ≤ 3072) (h64 : o % 64 = 0) (hs : 2048 ≤ o ∧ o + 256 ≤ 2560) (y : S512x256.Idx) :
    turnPlain (k0_pay11 (k0_pay4 x sc sh) (cols w o hw)) p q y
      = tile x sh sc w cs sn ((Rect.unit (s := S512x3072) ![0, o] S512x256.size ho).idx y) := by
  refine piece x sh sc w cs sn o ho h _ (fun r e => (turnPlain_apply _ p q r e).trans ?_) y
  rw [paired_prod x sh sc w p q cs sn hp hq o hw h h64]
  unfold Cert.InputReferenceIdeal.InputRef.sections
  rw [if_neg (show ¬o + e.val < 512 by omega), if_neg (show ¬o + e.val < 1536 by omega), if_neg (show ¬o + e.val < 2048 by omega), if_pos (show o + e.val < 2560 by omega)]

theorem turnedScaledPiece (x : Vec Ideal S512x1024 .f32) (sh sc : Vec Ideal S1x1x1024 .f32) (w : Vec Ideal S1024x3072 .bf16)
    (p q : Vec Ideal S512x128 .f32) (cs sn : Fin 512 → Fin 32 → EReal)
    (hp : ∀ r l, p (ix2 r l) = cs r ⟨l.val % 32, by omega⟩) (hq : ∀ r l, q (ix2 r l) = Rotary.signed (sn r) l.val) (o : Nat)
    (hw : ∀ a, (![0, o] : Fin 2 → Nat) a + S1024x256.size a ≤ S1024x3072.size a)
    (ho : ∀ a, (![0, o] : Fin 2 → Nat) a + S512x256.size a ≤ S512x3072.size a)
    (h : o + 256 ≤ 3072) (h64 : o % 64 = 0) (hs : 1536 ≤ o ∧ o + 256 ≤ 2048) (y : S512x256.Idx) :
    turnScaled (k0_pay11 (k0_pay4 x sc sh) (cols w o hw)) p q y
      = tile x sh sc w cs sn ((Rect.unit (s := S512x3072) ![0, o] S512x256.size ho).idx y) := by
  refine piece x sh sc w cs sn o ho h _ (fun r e => (turnScaled_apply _ p q r e).trans ?_) y
  rw [paired_prod x sh sc w p q cs sn hp hq o hw h h64]
  unfold Cert.InputReferenceIdeal.InputRef.sections
  rw [if_neg (show ¬o + e.val < 512 by omega), if_neg (show ¬o + e.val < 1536 by omega), if_pos (show o + e.val < 2048 by omega)]

theorem out6_eq (x : Vec Ideal S512x1024 .f32) (sh sc : Vec Ideal S1x1x1024 .f32) (w : Vec Ideal S1024x3072 .bf16)
    (p q : Vec Ideal S512x128 .f32) (cs sn : Fin 512 → Fin 32 → EReal)
    (hp : ∀ r l, p (ix2 r l) = cs r ⟨l.val % 32, by omega⟩) (hq : ∀ r l, q (ix2 r l) = Rotary.signed (sn r) l.val) :
    out0_6 x sh sc w p q = tile x sh sc w cs sn := by
  unfold_out out0_6
  simp only [View.ld_unit_zero (S := S512x1024) hz2, View.ld_unit_zero (S := S1x1x1024) hz3, View.ld_unit_zero (S := S512x128) hz2]
  funext y
  refine View.canon_apply_of_pieces (tile x sh sc w cs sn) _ ?_ y (cover0_6 _ _ _ _ _ _ _ _ _ _ _ _ y)
  intro pc hpc
  simp only [List.mem_cons, List.not_mem_nil, or_false] at hpc
  rcases hpc with rfl | rfl | rfl | rfl | rfl | rfl | rfl | rfl | rfl | rfl | rfl | rfl
  · exact fun y => plain x sh sc w cs sn 2816 inb_S1024x3072_S1024x256_0_2816 inb_S512x3072_S512x256_0_2816 (by omega) (by omega) y
  · exact fun y => plain x sh sc w cs sn 2560 inb_S1024x3072_S1024x256_0_2560 inb_S512x3072_S512x256_0_2560 (by omega) (by omega) y
  · exact fun y => turnedPiece x sh sc w p q cs sn hp hq 2304 inb_S1024x3072_S1024x256_0_2304 inb_S512x3072_S512x256_0_2304 (by omega) (by omega) (by omega) y
  · exact fun y => turnedPiece x sh sc w p q cs sn hp hq 2048 inb_S1024x3072_S1024x256_0_2048 inb_S512x3072_S512x256_0_2048 (by omega) (by omega) (by omega) y
  · exact fun y => turnedScaledPiece x sh sc w p q cs sn hp hq 1792 inb_S1024x3072_S1024x256_0_1792 inb_S512x3072_S512x256_0_1792 (by omega) (by omega) (by omega) y
  · exact fun y => turnedScaledPiece x sh sc w p q cs sn hp hq 1536 inb_S1024x3072_S1024x256_0_1536 inb_S512x3072_S512x256_0_1536 (by omega) (by omega) (by omega) y
  · exact fun y => plain x sh sc w cs sn 1280 inb_S1024x3072_S1024x256_0_1280 inb_S512x3072_S512x256_0_1280 (by omega) (by omega) y
  · exact fun y => plain x sh sc w cs sn 1024 inb_S1024x3072_S1024x256_0_1024 inb_S512x3072_S512x256_0_1024 (by omega) (by omega) y
  · exact fun y => plain x sh sc w cs sn 768 inb_S1024x3072_S1024x256_0_768 inb_S512x3072_S512x256_0_768 (by omega) (by omega) y
  · exact fun y => plain x sh sc w cs sn 512 inb_S1024x3072_S1024x256_0_512 inb_S512x3072_S512x256_0_512 (by omega) (by omega) y
  · exact fun y => scaled x sh sc w cs sn 256 inb_S1024x3072_S1024x256_0_256 inb_S512x3072_S512x256_0_256 (by omega) (by omega) y
  · exact fun y => scaled x sh sc w cs sn 0 inb_S1024x3072_S1024x256_0_0 inb_S512x3072_S512x256_0_0 (by omega) (by omega) y

/-- The kernel's table of cosines, four copies side by side. -/
def cosTable : FVec Ideal S8192x128 .f32 :=
  concatenate S8192x128 1 [⟨S8192x32, Host.cos Cert.InputReferenceIdeal.InputRef.angle⟩, ⟨S8192x32, Host.cos Cert.InputReferenceIdeal.InputRef.angle⟩, ⟨S8192x32, Host.cos Cert.InputReferenceIdeal.InputRef.angle⟩,
    ⟨S8192x32, Host.cos Cert.InputReferenceIdeal.InputRef.angle⟩] concatenates_S8192x32_S8192x32_S8192x32_S8192x32_S8192x128_d1

/-- The kernel's table of signed sines. -/
def sinTable : FVec Ideal S8192x128 .f32 :=
  concatenate S8192x128 1 [⟨S8192x32, Host.negf (Host.sin Cert.InputReferenceIdeal.InputRef.angle)⟩, ⟨S8192x32, Host.sin Cert.InputReferenceIdeal.InputRef.angle⟩,
    ⟨S8192x32, Host.negf (Host.sin Cert.InputReferenceIdeal.InputRef.angle)⟩, ⟨S8192x32, Host.sin Cert.InputReferenceIdeal.InputRef.angle⟩]
    concatenates_S8192x32_S8192x32_S8192x32_S8192x32_S8192x128_d1

theorem four_apply (t0 t1 t2 t3 : FVec Ideal S8192x32 .f32) (n : Fin 8192) (l : Fin 128) :
    concatenate S8192x128 1 [⟨S8192x32, t0⟩, ⟨S8192x32, t1⟩, ⟨S8192x32, t2⟩, ⟨S8192x32, t3⟩]
      concatenates_S8192x32_S8192x32_S8192x32_S8192x32_S8192x128_d1 (ix2 n l)
      = if h : l.val < 32 then t0 (ix2 n ⟨l.val, h⟩)
        else if h : l.val - 32 < 32 then t1 (ix2 n ⟨l.val - 32, h⟩)
        else if h : l.val - 32 - 32 < 32 then t2 (ix2 n ⟨l.val - 32 - 32, h⟩)
        else t3 (ix2 n ⟨l.val - 32 - 32 - 32, by omega⟩) := by
  pointwise

theorem cosTable_apply (n : Fin 8192) (l : Fin 128) : cosTable (ix2 n l) = Cert.InputReferenceIdeal.InputRef.cosRow n ⟨l.val % 32, by omega⟩ := by
  unfold cosTable
  rw [four_apply]
  by_cases h0 : l.val < 32
  · rw [dif_pos h0]
    exact congrArg (Cert.InputReferenceIdeal.InputRef.cosRow n) (Fin.ext (show l.val = l.val % 32 by omega))
  rw [dif_neg h0]
  by_cases h1 : l.val - 32 < 32
  · rw [dif_pos h1]
    exact congrArg (Cert.InputReferenceIdeal.InputRef.cosRow n) (Fin.ext (show l.val - 32 = l.val % 32 by omega))
  rw [dif_neg h1]
  by_cases h2 : l.val - 32 - 32 < 32
  · rw [dif_pos h2]
    exact congrArg (Cert.InputReferenceIdeal.InputRef.cosRow n) (Fin.ext (show l.val - 32 - 32 = l.val % 32 by omega))
  rw [dif_neg h2]
  exact congrArg (Cert.InputReferenceIdeal.InputRef.cosRow n) (Fin.ext (show l.val - 32 - 32 - 32 = l.val % 32 by omega))

theorem sinTable_apply (n : Fin 8192) (l : Fin 128) : sinTable (ix2 n l) = Rotary.signed (Cert.InputReferenceIdeal.InputRef.sinRow n) l.val := by
  unfold sinTable Rotary.signed
  rw [four_apply]
  by_cases h0 : l.val < 32
  · rw [dif_pos h0, if_pos (show l.val % 64 < 32 by omega)]
    exact congrArg (fun k => -Cert.InputReferenceIdeal.InputRef.sinRow n k) (Fin.ext (show l.val = l.val % 32 by omega))
  rw [dif_neg h0]
  by_cases h1 : l.val - 32 < 32
  · rw [dif_pos h1, if_neg (show ¬l.val % 64 < 32 by omega)]
    exact congrArg (Cert.InputReferenceIdeal.InputRef.sinRow n) (Fin.ext (show l.val - 32 = l.val % 32 by omega))
  rw [dif_neg h1]
  by_cases h2 : l.val - 32 - 32 < 32
  · rw [dif_pos h2, if_pos (show l.val % 64 < 32 by omega)]
    exact congrArg (fun k => -Cert.InputReferenceIdeal.InputRef.sinRow n k) (Fin.ext (show l.val - 32 - 32 = l.val % 32 by omega))
  rw [dif_neg h2, if_neg (show ¬l.val % 64 < 32 by omega)]
  exact congrArg (Cert.InputReferenceIdeal.InputRef.sinRow n) (Fin.ext (show l.val - 32 - 32 - 32 = l.val % 32 by omega))

variable (m : (ℓ : Loc nD τ sig) → Buf (Elt Ideal) ℓ) (c : Dev nD)

abbrev argX : FVec Ideal S2x8192x1024 .f32 := m ((c : Thread nD τ).loc main_arg0)
abbrev argShift : FVec Ideal S2x1024 .f32 := m ((c : Thread nD τ).loc main_arg1)
abbrev argScale : FVec Ideal S2x1024 .f32 := m ((c : Thread nD τ).loc main_arg2)
abbrev argW : FVec Ideal S1024x3072 .f32 := m ((c : Thread nD τ).loc main_arg3)

theorem V_x : V m c main_v22 = shapeCast S16384x1024 (argX m c) shapeCasts_S2x8192x1024_S16384x1024 := by
  unfold_abbrev_sides
  after_results_simp
  rfl

theorem V_shift : V m c main_v23 = shapeCast S2x1x1024 (argShift m c) shapeCasts_S2x1024_S2x1x1024 := by
  unfold_abbrev_sides
  after_results_simp
  rfl

theorem V_scale : V m c main_v24 = shapeCast S2x1x1024 (argScale m c) shapeCasts_S2x1024_S2x1x1024 := by
  unfold_abbrev_sides
  after_results_simp
  rfl

theorem V_w : V m c main_v25 = truncf .bf16 (argW m c) bitsLt_bf16_f32 := by
  unfold_abbrev_sides
  after_results_simp

theorem V_cos : V m c main_v19 = cosTable := by
  unfold_abbrev_sides
  after_results_simp
  rfl

theorem V_sin : V m c main_v21 = sinTable := by
  unfold_abbrev_sides
  after_results_simp
  rfl

theorem x_apply (x : FVec Ideal S2x8192x1024 .f32) (b : Fin 2) (n : Fin 8192) (d : Fin 1024) :
    shapeCast S16384x1024 x shapeCasts_S2x8192x1024_S16384x1024 (ix2 ⟨8192 * b.val + n.val, by omega⟩ d) = x (ix3 b n d) := by
  pointwise

theorem vec_apply (x : FVec Ideal S2x1024 .f32) (b : Fin 2) (d : Fin 1024) :
    shapeCast S2x1x1024 x shapeCasts_S2x1024_S2x1x1024 (ix3 b 0 d) = x (ix2 b d) := by
  pointwise

theorem index0 : ∀ t : Fin grid0.N, win0_0.index t 0 = t.val ∧ win0_0.index t 1 = 0 := by decide +kernel
theorem index1 : ∀ t : Fin grid0.N, win0_1.index t 0 = t.val / 16 ∧ win0_1.index t 1 = 0 ∧ win0_1.index t 2 = 0 := by decide +kernel
theorem index2 : ∀ t : Fin grid0.N, win0_2.index t 0 = t.val / 16 ∧ win0_2.index t 1 = 0 ∧ win0_2.index t 2 = 0 := by decide +kernel
theorem index3 : ∀ t : Fin grid0.N, win0_3.index t 0 = 0 ∧ win0_3.index t 1 = 0 := by decide +kernel
theorem index4 : ∀ t : Fin grid0.N, win0_4.index t 0 = t.val % 16 ∧ win0_4.index t 1 = 0 := by decide +kernel
theorem index5 : ∀ t : Fin grid0.N, win0_5.index t 0 = t.val % 16 ∧ win0_5.index t 1 = 0 := by decide +kernel
theorem index6 : ∀ t : Fin grid0.N, win0_6.index t 0 = t.val ∧ win0_6.index t 1 = 0 := by decide +kernel

theorem lt_N (t : Fin cfg0.N) : t.val < 32 := lt_of_lt_of_eq t.isLt (show cfg0.N = 32 from N_0)

/-- The batch and the token of a row of a row block. -/
abbrev batch (t : Fin cfg0.N) : Fin 2 := ⟨t.val / 16, by have := lt_N t; omega⟩
abbrev token (t : Fin cfg0.N) (r : Fin 512) : Fin 8192 := ⟨512 * (t.val % 16) + r.val, by omega⟩

theorem block0 (t : Fin cfg0.N) (r : Fin 512) (d : Fin 1024) :
    (iblk m c 0 t : Vec Ideal S512x1024 .f32) (ix2 r d) = argX m c (ix3 (batch t) (token t r) d) := by
  have hi := index0 t
  refine Eq.trans ?_ ((congrFun (V_x m c) (ix2 ⟨8192 * (batch t).val + (token t r).val, by omega⟩ d)).trans (x_apply (argX m c) (batch t) (token t r) d))
  unfold iblk
  rw [View.read_apply]
  show (V m c main_v22 : FVec Ideal S16384x1024 .f32) _ = V m c main_v22 _
  congr 1
  funext a
  apply Fin.ext
  match a with
  | ⟨0, _⟩ => show win0_0.index t 0 * 512 + 1 * r.val = 8192 * (t.val / 16) + (512 * (t.val % 16) + r.val); rw [hi.1]; omega
  | ⟨1, _⟩ => show win0_0.index t 1 * 1024 + 1 * d.val = d.val; rw [hi.2]; omega

theorem block1 (t : Fin cfg0.N) (d : Fin 1024) :
    (iblk m c 1 t : Vec Ideal S1x1x1024 .f32) (ix3 0 0 d) = argShift m c (ix2 (batch t) d) := by
  have hi := index1 t
  refine Eq.trans ?_ ((congrFun (V_shift m c) (ix3 (batch t) 0 d)).trans (vec_apply (argShift m c) (batch t) d))
  unfold iblk
  rw [View.read_apply]
  show (V m c main_v23 : FVec Ideal S2x1x1024 .f32) _ = V m c main_v23 _
  congr 1
  funext a
  apply Fin.ext
  match a with
  | ⟨0, _⟩ => show win0_1.index t 0 * 1 + 1 * 0 = t.val / 16; rw [hi.1]; omega
  | ⟨1, _⟩ => show win0_1.index t 1 * 1 + 1 * 0 = 0; rw [hi.2.1]
  | ⟨2, _⟩ => show win0_1.index t 2 * 1024 + 1 * d.val = d.val; rw [hi.2.2]; omega

theorem block2 (t : Fin cfg0.N) (d : Fin 1024) :
    (iblk m c 2 t : Vec Ideal S1x1x1024 .f32) (ix3 0 0 d) = argScale m c (ix2 (batch t) d) := by
  have hi := index2 t
  refine Eq.trans ?_ ((congrFun (V_scale m c) (ix3 (batch t) 0 d)).trans (vec_apply (argScale m c) (batch t) d))
  unfold iblk
  rw [View.read_apply]
  show (V m c main_v24 : FVec Ideal S2x1x1024 .f32) _ = V m c main_v24 _
  congr 1
  funext a
  apply Fin.ext
  match a with
  | ⟨0, _⟩ => show win0_2.index t 0 * 1 + 1 * 0 = t.val / 16; rw [hi.1]; omega
  | ⟨1, _⟩ => show win0_2.index t 1 * 1 + 1 * 0 = 0; rw [hi.2.1]
  | ⟨2, _⟩ => show win0_2.index t 2 * 1024 + 1 * d.val = d.val; rw [hi.2.2]; omega

theorem block3 (t : Fin cfg0.N) (d : Fin 1024) (e : Fin 3072) :
    (iblk m c 3 t : Vec Ideal S1024x3072 .bf16) (ix2 d e) = argW m c (ix2 d e) := by
  have hi := index3 t
  refine Eq.trans ?_ (congrFun (V_w m c) (ix2 d e))
  unfold iblk
  rw [View.read_apply]
  show (V m c main_v25 : FVec Ideal S1024x3072 .bf16) _ = V m c main_v25 _
  congr 1
  funext a
  apply Fin.ext
  match a with
  | ⟨0, _⟩ => show win0_3.index t 0 * 1024 + 1 * d.val = d.val; rw [hi.1]; omega
  | ⟨1, _⟩ => show win0_3.index t 1 * 3072 + 1 * e.val = e.val; rw [hi.2]; omega

theorem block4 (t : Fin cfg0.N) (r : Fin 512) (l : Fin 128) :
    (iblk m c 4 t : Vec Ideal S512x128 .f32) (ix2 r l) = Cert.InputReferenceIdeal.InputRef.cosRow (token t r) ⟨l.val % 32, by omega⟩ := by
  have hi := index4 t
  refine Eq.trans ?_ ((congrFun (V_cos m c) (ix2 (token t r) l)).trans (cosTable_apply (token t r) l))
  unfold iblk
  rw [View.read_apply]
  show (V m c main_v19 : FVec Ideal S8192x128 .f32) _ = V m c main_v19 _
  congr 1
  funext a
  apply Fin.ext
  match a with
  | ⟨0, _⟩ => show win0_4.index t 0 * 512 + 1 * r.val = 512 * (t.val % 16) + r.val; rw [hi.1]; omega
  | ⟨1, _⟩ => show win0_4.index t 1 * 128 + 1 * l.val = l.val; rw [hi.2]; omega

theorem block5 (t : Fin cfg0.N) (r : Fin 512) (l : Fin 128) :
    (iblk m c 5 t : Vec Ideal S512x128 .f32) (ix2 r l) = Rotary.signed (Cert.InputReferenceIdeal.InputRef.sinRow (token t r)) l.val := by
  have hi := index5 t
  refine Eq.trans ?_ ((congrFun (V_sin m c) (ix2 (token t r) l)).trans (sinTable_apply (token t r) l))
  unfold iblk
  rw [View.read_apply]
  show (V m c main_v21 : FVec Ideal S8192x128 .f32) _ = V m c main_v21 _
  congr 1
  funext a
  apply Fin.ext
  match a with
  | ⟨0, _⟩ => show win0_5.index t 0 * 512 + 1 * r.val = 512 * (t.val % 16) + r.val; rw [hi.1]; omega
  | ⟨1, _⟩ => show win0_5.index t 1 * 128 + 1 * l.val = l.val; rw [hi.2]; omega

/-- A row block's rows are the reference's. -/
theorem modRow_eq (t : Fin cfg0.N) (r : Fin 512) (d : Fin 1024) :
    modRow (iblk m c 0 t) (iblk m c 1 t) (iblk m c 2 t) r d
      = Cert.InputReferenceIdeal.InputRef.modulated (argX m c) (argShift m c) (argScale m c) (ix3 (batch t) (token t r) d) := by
  refine Eq.trans ?_ (Cert.InputReferenceIdeal.InputRef.modulated_apply (argX m c) (argShift m c) (argScale m c) (batch t) (token t r) d).symm
  unfold modRow
  rw [block0, block1, block2]

/-- A row block's product is the reference's. -/
theorem prodRow_eq (t : Fin cfg0.N) (r : Fin 512) (e : Fin 3072) :
    prodRow (iblk m c 0 t) (iblk m c 1 t) (iblk m c 2 t) (iblk m c 3 t) r e
      = Cert.InputReferenceIdeal.InputRef.product (argX m c) (argShift m c) (argScale m c) (argW m c) (ix3 (batch t) (token t r) e) := by
  refine Eq.trans (Finset.sum_congr rfl fun d _ => congrArg₂ (fun a b : EReal => a * b) (modRow_eq m c t r d) (block3 m c t d e)) ?_
  exact (Cert.InputReferenceIdeal.InputRef.product_apply (argX m c) (argShift m c) (argScale m c) (argW m c) (batch t) (token t r) e).symm

/-- The result is the reference's. -/
theorem final : (dats m 0 c).arrAt 6 cfg0.N
    = Cert.InputReferenceIdeal.InputRef.result (argX m c) (argShift m c) (argScale m c) (argW m c) := by
  refine (dats m 0 c).arrAt_eq_of_covers 6 _ (by decide +kernel) fun t hf y => ?_
  have hi := index6 t
  refine (congrFun (Value.flushed6 m c t) y).trans ?_
  obtain ⟨r, e, rfl⟩ : ∃ (r : Fin 512) (e : Fin 3072), y = ix2 r e := ⟨y 0, y 1, eq_ix2 y⟩
  refine (congrFun (out6_eq (iblk m c 0 t) (iblk m c 1 t) (iblk m c 2 t) (iblk m c 3 t) (iblk m c 4 t) (iblk m c 5 t)
    (fun r => Cert.InputReferenceIdeal.InputRef.cosRow (token t r)) (fun r => Cert.InputReferenceIdeal.InputRef.sinRow (token t r)) (block4 m c t) (block5 m c t)) (ix2 r e)).trans ?_
  refine Eq.trans (congrArg (fun P => Cert.InputReferenceIdeal.InputRef.sections P (Cert.InputReferenceIdeal.InputRef.cosRow (token t r)) (Cert.InputReferenceIdeal.InputRef.sinRow (token t r)) e)
    (funext fun e => prodRow_eq m c t r e)) ?_
  refine (Cert.InputReferenceIdeal.InputRef.resultOf_apply _ (batch t) (token t r) e).symm.trans ?_
  refine congrArg (Cert.InputReferenceIdeal.InputRef.resultOf _) (funext fun a => Fin.ext ?_)
  match a with
  | ⟨0, _⟩ => show 8192 * (t.val / 16) + (512 * (t.val % 16) + r.val) = win0_6.index t 0 * 512 + 1 * r.val; rw [hi.1]; omega
  | ⟨1, _⟩ => show e.val = win0_6.index t 1 * 3072 + 1 * e.val; rw [hi.2]; omega

end Cert.InputIdeal.InputFinal

end
-- ==== Proof.OutputFinal.lean ====
/-
  The even layers' output projection with its residual sum and norm: a row block's tile of the kernel's result is the
  reference's tile, and the tiles cover the array. The kernel adds the products of the two halves of a row; the reference
  takes the product of the joined row.
-/
module

public import proofs.«01_k».proof.Proof.Gen.OutputIdeal.Value
public import proofs.«01_k».proof.Proof.Gen.OutputReferenceIdeal.Run
public import Idealize.ShloMosaic.Lib.Pointwise
public import Idealize.ShloMosaic.Lib.Pipeline.ValueKit
public import Idealize.ShloMosaic.Lib.StableHlo.Run

@[expose] public section

set_option maxRecDepth 16384

noncomputable section

namespace OutputNorm

open Idealize.ShloMosaic

/-- The mean of a row. -/
def mean (z : Fin 1024 → EReal) : EReal := Ideal.div (∑ i, z i) (Ideal.ofBits .f32 0x44800000#32)

/-- A row less its mean. -/
def centred (z : Fin 1024 → EReal) (d : Fin 1024) : EReal := z d - mean z

/-- A row's norm: centred, over the root of the mean square, with a gain and a bias. -/
def norm (z g b : Fin 1024 → EReal) (d : Fin 1024) : EReal :=
  centred z d * Ideal.rsqrt (Ideal.div (∑ i, centred z i * centred z i) (Ideal.ofBits .f32 0x44800000#32)
    + Ideal.ofBits .f32 0x3727C5AC#32) * g d + b d

end OutputNorm

namespace Cert.OutputReferenceIdeal.OutputRef

open Idealize.ShloMosaic Idealize.ShloMosaic.TcCoe Idealize.SL.Sem
open Cert.OutputReferenceIdeal Cert.OutputReferenceIdeal.Gen

/-- The residual sum. -/
def residual (oa ob : FVec Ideal S2x8192x512 .f32) (w : FVec Ideal S1024x1024 .f32) (x : FVec Ideal S2x8192x1024 .f32) (gate : FVec Ideal S2x1024 .f32) :
    FVec Ideal S2x8192x1024 .f32 :=
  addf (mulf (broadcastInDim S2x8192x1024 ![] bcast_S_S2x8192x1024 (constant S_ .f32 0x3FD744FD#32)) x)
    (mulf (broadcastInDim S2x8192x1024 ![0, 1, 2] bcast_S2x1x1024_S2x8192x1024_0_1_2 (broadcastInDim S2x1x1024 ![0, 2] bcast_S2x1024_S2x1x1024_0_2 gate))
      (Host.dotGeneral dot_S2x8192x1024_S1024x1024_S2x8192x1024_2_0_01_1_n_n none
        (concatenate S2x8192x1024 2 [⟨S2x8192x512, oa⟩, ⟨S2x8192x512, ob⟩] concatenates_S2x8192x512_S2x8192x512_S2x8192x1024_d2) w))

/-- Every row less its mean. -/
def centred (z : FVec Ideal S2x8192x1024 .f32) : FVec Ideal S2x8192x1024 .f32 :=
  subf z (broadcastInDim S2x8192x1024 ![0, 1, 2] bcast_S2x8192x1_S2x8192x1024_0_1_2 (Host.divf
    (broadcastInDim S2x8192x1 ![0, 1] bcast_S2x8192_S2x8192x1_0_1 (Host.reduceAdd z (constant S_ .f32 0x00000000#32) reducesTo_S2x8192x1024_S2x8192_d2 h_S_))
    (broadcastInDim S2x8192x1 ![] bcast_S_S2x8192x1 (constant S_ .f32 0x44800000#32))))

/-- Every centred row over its root mean square, with the gain and the bias. -/
def normed (z : FVec Ideal S2x8192x1024 .f32) (g b : FVec Ideal S1024 .f32) : FVec Ideal S16384x1024 .f32 :=
  shapeCast _ (addf (mulf (mulf z (broadcastInDim S2x8192x1024 ![0, 1, 2] bcast_S2x8192x1_S2x8192x1024_0_1_2 (Host.rsqrt (addf (Host.divf
    (broadcastInDim S2x8192x1 ![0, 1] bcast_S2x8192_S2x8192x1_0_1 (Host.reduceAdd (mulf z z) (constant S_ .f32 0x00000000#32) reducesTo_S2x8192x1024_S2x8192_d2 h_S_))
    (broadcastInDim S2x8192x1 ![] bcast_S_S2x8192x1 (constant S_ .f32 0x44800000#32)))
    (broadcastInDim S2x8192x1 ![] bcast_S_S2x8192x1 (constant S_ .f32 0x3727C5AC#32))))))
    (broadcastInDim S2x8192x1024 ![0, 1, 2] bcast_S1x1x1024_S2x8192x1024_0_1_2 (broadcastInDim S1x1x1024 ![2] bcast_S1024_S1x1x1024_2 g)))
    (broadcastInDim S2x8192x1024 ![0, 1, 2] bcast_S1x1x1024_S2x8192x1024_0_1_2 (broadcastInDim S1x1x1024 ![2] bcast_S1024_S1x1x1024_2 b)))
    shapeCasts_S2x8192x1024_S16384x1024

/-- The reference's result. -/
def result (oa ob : FVec Ideal S2x8192x512 .f32) (w : FVec Ideal S1024x1024 .f32) (x : FVec Ideal S2x8192x1024 .f32) (gate : FVec Ideal S2x1024 .f32)
    (g b : FVec Ideal S1024 .f32) : FVec Ideal S16384x1024 .f32 := normed (centred (residual oa ob w x gate)) g b

theorem res_eq (m : (ℓ : Loc nD τ sig) → Buf (Elt Ideal) ℓ) (c : Dev nD) :
    Value.res_main_v32 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := rfl

theorem residual_apply (oa ob : FVec Ideal S2x8192x512 .f32) (w : FVec Ideal S1024x1024 .f32) (x : FVec Ideal S2x8192x1024 .f32) (gate : FVec Ideal S2x1024 .f32)
    (b : Fin 2) (n : Fin 8192) (d : Fin 1024) :
    residual oa ob w x gate (ix3 b n d)
      = Ideal.ofBits .f32 0x3FD744FD#32 * x (ix3 b n d) + gate (ix2 b d) * (∑ k : Fin 512, oa (ix3 b n k) * w (ix2 ⟨k.val, by omega⟩ d)
          + ∑ k : Fin 512, ob (ix3 b n k) * w (ix2 ⟨512 + k.val, by omega⟩ d)) := by
  unfold residual
  pointwise

theorem centred_apply (z : FVec Ideal S2x8192x1024 .f32) (b : Fin 2) (n : Fin 8192) (d : Fin 1024) :
    centred z (ix3 b n d) = OutputNorm.centred (fun d => z (ix3 b n d)) d := by
  unfold centred OutputNorm.centred OutputNorm.mean
  pointwise

theorem normed_apply (z : FVec Ideal S2x8192x1024 .f32) (g b : FVec Ideal S1024 .f32) (a : Fin 2) (n : Fin 8192) (d : Fin 1024) :
    normed z g b (ix2 ⟨8192 * a.val + n.val, by omega⟩ d)
      = z (ix3 a n d) * Ideal.rsqrt (Ideal.div (∑ i : Fin 1024, z (ix3 a n i) * z (ix3 a n i)) (Ideal.ofBits .f32 0x44800000#32)
          + Ideal.ofBits .f32 0x3727C5AC#32) * g (ix1 d) + b (ix1 d) := by
  unfold normed
  pointwise

theorem result_apply (oa ob : FVec Ideal S2x8192x512 .f32) (w : FVec Ideal S1024x1024 .f32) (x : FVec Ideal S2x8192x1024 .f32) (gate : FVec Ideal S2x1024 .f32)
    (g b : FVec Ideal S1024 .f32) (a : Fin 2) (n : Fin 8192) (d : Fin 1024) :
    result oa ob w x gate g b (ix2 ⟨8192 * a.val + n.val, by omega⟩ d)
      = OutputNorm.norm (fun d => residual oa ob w x gate (ix3 a n d)) (fun d => g (ix1 d)) (fun d => b (ix1 d)) d := by
  unfold result OutputNorm.norm
  rw [normed_apply]
  simp only [centred_apply]

end Cert.OutputReferenceIdeal.OutputRef

namespace Cert.OutputIdeal.OutputFinal

open Idealize.ShloMosaic Idealize.ShloMosaic.TcCoe Idealize.SL.Sem
open Cert.OutputIdeal Cert.OutputIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- A row block's residual sum, of the two halves of the weight. -/
def resHalves (x0 x1 : Vec Ideal S512x512 .bf16) (w0 w1 : Vec Ideal S512x1024 .bf16) (x : Vec Ideal S512x1024 .f32) (gate : Vec Ideal S1x1x1024 .f32)
    (r : Fin 512) (d : Fin 1024) : EReal :=
  Ideal.ofBits .f32 0x3FD744FD#32 * x (ix2 r d) + gate (ix3 0 0 d) * (∑ k : Fin 512, x0 (ix2 r k) * w0 (ix2 k d) + ∑ k : Fin 512, x1 (ix2 r k) * w1 (ix2 k d))

theorem pay4_apply (x0 x1 : Vec Ideal S512x512 .bf16) (w0 w1 : Vec Ideal S512x1024 .bf16) (x : Vec Ideal S512x1024 .f32) (gate : Vec Ideal S1x1x1024 .f32)
    (r : Fin 512) (d : Fin 1024) :
    k0_pay4 x0 w0 x1 w1 x gate (ix2 r d) = OutputNorm.centred (resHalves x0 x1 w0 w1 x gate r) d := by
  unfold k0_pay4 OutputNorm.centred OutputNorm.mean resHalves
  pointwise

theorem pay5_apply (x0 x1 : Vec Ideal S512x512 .bf16) (w0 w1 : Vec Ideal S512x1024 .bf16) (x : Vec Ideal S512x1024 .f32) (gate : Vec Ideal S1x1x1024 .f32)
    (r : Fin 512) :
    k0_pay5 x0 w0 x1 w1 x gate (ix2 r 0) = Ideal.div (∑ d : Fin 1024, k0_pay4 x0 w0 x1 w1 x gate (ix2 r d) * k0_pay4 x0 w0 x1 w1 x gate (ix2 r d))
      (Ideal.ofBits .f32 0x44800000#32) := by
  unfold k0_pay5
  pointwise

theorem pay1_apply (g b : FVec Ideal S1x1024 .f32) (z : FVec Ideal S512x1024 .f32) (v : FVec Ideal S512x1 .f32) (r : Fin 512) (d : Fin 1024) :
    k0_pay1 g b z v (ix2 r d) = z (ix2 r d) * Ideal.rsqrt (v (ix2 r 0) + Ideal.ofBits .f32 0x3727C5AC#32) * g (ix2 0 d) + b (ix2 0 d) := by
  unfold k0_pay1
  pointwise

theorem pay2_apply (g : Vec Ideal S1x1024 .f32) (d : Fin 1024) : k0_pay2 g (ix2 0 d) = g (ix2 0 d) := by
  unfold k0_pay2
  pointwise

theorem pay3_apply (g : Vec Ideal S1x1024 .f32) (d : Fin 1024) : k0_pay3 g (ix2 0 d) = g (ix2 0 d) := by
  unfold k0_pay3
  pointwise

theorem top_apply (w : Vec Ideal S1024x1024 .bf16) (k : Fin 512) (d : Fin 1024) :
    (View.ld w r0_1 : Vec Ideal S512x1024 .bf16) (ix2 k d) = w (ix2 ⟨k.val, by omega⟩ d) := by
  refine congrArg w (funext fun a => Fin.ext ?_)
  match a with
  | ⟨0, _⟩ => show 0 + 1 * k.val = k.val; omega
  | ⟨1, _⟩ => show 0 + 1 * d.val = d.val; omega

theorem bottom_apply (w : Vec Ideal S1024x1024 .bf16) (k : Fin 512) (d : Fin 1024) :
    (View.ld w r0_2 : Vec Ideal S512x1024 .bf16) (ix2 k d) = w (ix2 ⟨512 + k.val, by omega⟩ d) := by
  refine congrArg w (funext fun a => Fin.ext ?_)
  match a with
  | ⟨0, _⟩ => show 512 + 1 * k.val = 512 + k.val; omega
  | ⟨1, _⟩ => show 0 + 1 * d.val = d.val; omega

/-- A row block's residual sum. -/
def resRow (x0 x1 : Vec Ideal S512x512 .bf16) (w : Vec Ideal S1024x1024 .bf16) (x : Vec Ideal S512x1024 .f32) (gate : Vec Ideal S1x1x1024 .f32)
    (r : Fin 512) (d : Fin 1024) : EReal :=
  Ideal.ofBits .f32 0x3FD744FD#32 * x (ix2 r d) + gate (ix3 0 0 d) * (∑ k : Fin 512, x0 (ix2 r k) * w (ix2 ⟨k.val, by omega⟩ d)
    + ∑ k : Fin 512, x1 (ix2 r k) * w (ix2 ⟨512 + k.val, by omega⟩ d))

theorem resHalves_eq (x0 x1 : Vec Ideal S512x512 .bf16) (w : Vec Ideal S1024x1024 .bf16) (x : Vec Ideal S512x1024 .f32) (gate : Vec Ideal S1x1x1024 .f32)
    (r : Fin 512) : resHalves x0 x1 (View.ld w r0_1) (View.ld w r0_2) x gate r = resRow x0 x1 w x gate r := by
  funext d
  unfold resHalves resRow
  refine congrArg (fun s : EReal => Ideal.ofBits .f32 0x3FD744FD#32 * x (ix2 r d) + gate (ix3 0 0 d) * s) (congrArg₂ (fun a b : EReal => a + b)
    (Finset.sum_congr rfl fun k _ => ?_) (Finset.sum_congr rfl fun k _ => ?_))
  · exact congrArg (fun v : EReal => x0 (ix2 r k) * v) (top_apply w k d)
  · exact congrArg (fun v : EReal => x1 (ix2 r k) * v) (bottom_apply w k d)

/-- A row block's result. -/
theorem out7_apply (x0 x1 : Vec Ideal S512x512 .bf16) (w : Vec Ideal S1024x1024 .bf16) (x : Vec Ideal S512x1024 .f32) (gate : Vec Ideal S1x1x1024 .f32)
    (g b : Vec Ideal S1x1024 .f32) (r : Fin 512) (d : Fin 1024) :
    out0_7 x0 x1 w x gate g b (ix2 r d)
      = OutputNorm.norm (resRow x0 x1 w x gate r) (fun d => g (ix2 0 d)) (fun d => b (ix2 0 d)) d := by
  unfold out0_7
  simp only [View.ld_unit_zero (S := S512x1024) hz2, View.ld_unit_zero (S := S512x512) hz2, View.ld_unit_zero (S := S1x1024) hz2,
    View.ld_unit_zero (S := S1x1x1024) hz3, View.canon_unit_zero (S := S512x1024) hz2]
  refine (pay1_apply _ _ _ _ r d).trans ?_
  unfold OutputNorm.norm
  rw [pay5_apply, pay2_apply, pay3_apply]
  simp only [pay4_apply]
  rw [resHalves_eq]

variable (m : (ℓ : Loc nD τ sig) → Buf (Elt Ideal) ℓ) (c : Dev nD)

abbrev argA : FVec Ideal S2x8192x512 .f32 := m ((c : Thread nD τ).loc main_arg0)
abbrev argB : FVec Ideal S2x8192x512 .f32 := m ((c : Thread nD τ).loc main_arg1)
abbrev argW : FVec Ideal S1024x1024 .f32 := m ((c : Thread nD τ).loc main_arg2)
abbrev argX : FVec Ideal S2x8192x1024 .f32 := m ((c : Thread nD τ).loc main_arg3)
abbrev argGate : FVec Ideal S2x1024 .f32 := m ((c : Thread nD τ).loc main_arg4)
abbrev argGain : FVec Ideal S1024 .f32 := m ((c : Thread nD τ).loc main_arg5)
abbrev argBias : FVec Ideal S1024 .f32 := m ((c : Thread nD τ).loc main_arg6)

theorem V_a : V m c main_v1 = truncf .bf16 (shapeCast S16384x512 (argA m c) shapeCasts_S2x8192x512_S16384x512) bitsLt_bf16_f32 := by
  unfold_abbrev_sides
  after_results_simp
  rfl

theorem V_b : V m c main_v3 = truncf .bf16 (shapeCast S16384x512 (argB m c) shapeCasts_S2x8192x512_S16384x512) bitsLt_bf16_f32 := by
  unfold_abbrev_sides
  after_results_simp
  rfl

theorem V_w : V m c main_v4 = truncf .bf16 (argW m c) bitsLt_bf16_f32 := by
  unfold_abbrev_sides
  after_results_simp

theorem V_x : V m c main_v5 = shapeCast S16384x1024 (argX m c) shapeCasts_S2x8192x1024_S16384x1024 := by
  unfold_abbrev_sides
  after_results_simp
  rfl

theorem V_gate : V m c main_v6 = shapeCast S2x1x1024 (argGate m c) shapeCasts_S2x1024_S2x1x1024 := by
  unfold_abbrev_sides
  after_results_simp
  rfl

theorem V_gain : V m c main_v7 = shapeCast S1x1024 (argGain m c) shapeCasts_S1024_S1x1024 := by
  unfold_abbrev_sides
  after_results_simp
  rfl

theorem V_bias : V m c main_v8 = shapeCast S1x1024 (argBias m c) shapeCasts_S1024_S1x1024 := by
  unfold_abbrev_sides
  after_results_simp
  rfl

theorem o_apply (x : FVec Ideal S2x8192x512 .f32) (b : Fin 2) (n : Fin 8192) (d : Fin 512) :
    truncf .bf16 (shapeCast S16384x512 x shapeCasts_S2x8192x512_S16384x512) bitsLt_bf16_f32 (ix2 ⟨8192 * b.val + n.val, by omega⟩ d) = x (ix3 b n d) := by
  pointwise

theorem x_apply (x : FVec Ideal S2x8192x1024 .f32) (b : Fin 2) (n : Fin 8192) (d : Fin 1024) :
    shapeCast S16384x1024 x shapeCasts_S2x8192x1024_S16384x1024 (ix2 ⟨8192 * b.val + n.val, by omega⟩ d) = x (ix3 b n d) := by
  pointwise

theorem vec_apply (x : FVec Ideal S2x1024 .f32) (b : Fin 2) (d : Fin 1024) :
    shapeCast S2x1x1024 x shapeCasts_S2x1024_S2x1x1024 (ix3 b 0 d) = x (ix2 b d) := by
  pointwise

theorem gain_apply (x : FVec Ideal S1024 .f32) (d : Fin 1024) : shapeCast S1x1024 x shapeCasts_S1024_S1x1024 (ix2 0 d) = x (ix1 d) := by
  pointwise

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val / 16 ∧ win0_4.index t 1 = 0 ∧ win0_4.index t 2 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel
theorem index7 : ∀ t : Fin grid0.N, win0_7.index t 0 = t.val ∧ win0_7.index t 1 = 0 := by decide +kernel

theorem lt_N (t : Fin cfg0.N) : t.val < 32 := lt_of_lt_of_eq t.isLt (show cfg0.N = 32 from N_0)

/-- The batch and the token of a row of a row block. -/
abbrev batch (t : Fin cfg0.N) : Fin 2 := ⟨t.val / 16, by have := lt_N t; omega⟩
abbrev token (t : Fin cfg0.N) (r : Fin 512) : Fin 8192 := ⟨512 * (t.val % 16) + r.val, by omega⟩

theorem block0 (t : Fin cfg0.N) (r : Fin 512) (d : Fin 512) :
    (iblk m c 0 t : Vec Ideal S512x512 .bf16) (ix2 r d) = argA m c (ix3 (batch t) (token t r) d) := by
  have hi := index0 t
  refine Eq.trans ?_ ((congrFun (V_a m c) (ix2 ⟨8192 * (batch t).val + (token t r).val, by omega⟩ d)).trans (o_apply (argA m c) (batch t) (token t r) d))
  unfold iblk
  rw [View.read_apply]
  show (V m c main_v1 : FVec Ideal S16384x512 .bf16) _ = V m c main_v1 _
  congr 1
  funext a
  apply Fin.ext
  match a with
  | ⟨0, _⟩ => show win0_0.index t 0 * 512 + 1 * r.val = 8192 * (t.val / 16) + (512 * (t.val % 16) + r.val); rw [hi.1]; omega
  | ⟨1, _⟩ => show win0_0.index t 1 * 512 + 1 * d.val = d.val; rw [hi.2]; omega

theorem block1 (t : Fin cfg0.N) (r : Fin 512) (d : Fin 512) :
    (iblk m c 1 t : Vec Ideal S512x512 .bf16) (ix2 r d) = argB m c (ix3 (batch t) (token t r) d) := by
  have hi := index1 t
  refine Eq.trans ?_ ((congrFun (V_b m c) (ix2 ⟨8192 * (batch t).val + (token t r).val, by omega⟩ d)).trans (o_apply (argB m c) (batch t) (token t r) d))
  unfold iblk
  rw [View.read_apply]
  show (V m c main_v3 : FVec Ideal S16384x512 .bf16) _ = V m c main_v3 _
  congr 1
  funext a
  apply Fin.ext
  match a with
  | ⟨0, _⟩ => show win0_1.index t 0 * 512 + 1 * r.val = 8192 * (t.val / 16) + (512 * (t.val % 16) + r.val); rw [hi.1]; omega
  | ⟨1, _⟩ => show win0_1.index t 1 * 512 + 1 * d.val = d.val; rw [hi.2]; omega

theorem block2 (t : Fin cfg0.N) (d e : Fin 1024) :
    (iblk m c 2 t : Vec Ideal S1024x1024 .bf16) (ix2 d e) = argW m c (ix2 d e) := by
  have hi := index2 t
  refine Eq.trans ?_ (congrFun (V_w m c) (ix2 d e))
  unfold iblk
  rw [View.read_apply]
  show (V m c main_v4 : FVec Ideal S1024x1024 .bf16) _ = V m c main_v4 _
  congr 1
  funext a
  apply Fin.ext
  match a with
  | ⟨0, _⟩ => show win0_2.index t 0 * 1024 + 1 * d.val = d.val; rw [hi.1]; omega
  | ⟨1, _⟩ => show win0_2.index t 1 * 1024 + 1 * e.val = e.val; rw [hi.2]; omega

theorem block3 (t : Fin cfg0.N) (r : Fin 512) (d : Fin 1024) :
    (iblk m c 3 t : Vec Ideal S512x1024 .f32) (ix2 r d) = argX m c (ix3 (batch t) (token t r) d) := by
  have hi := index3 t
  refine Eq.trans ?_ ((congrFun (V_x m c) (ix2 ⟨8192 * (batch t).val + (token t r).val, by omega⟩ d)).trans (x_apply (argX m c) (batch t) (token t r) d))
  unfold iblk
  rw [View.read_apply]
  show (V m c main_v5 : FVec Ideal S16384x1024 .f32) _ = V m c main_v5 _
  congr 1
  funext a
  apply Fin.ext
  match a with
  | ⟨0, _⟩ => show win0_3.index t 0 * 512 + 1 * r.val = 8192 * (t.val / 16) + (512 * (t.val % 16) + r.val); rw [hi.1]; omega
  | ⟨1, _⟩ => show win0_3.index t 1 * 1024 + 1 * d.val = d.val; rw [hi.2]; omega

theorem block4 (t : Fin cfg0.N) (d : Fin 1024) :
    (iblk m c 4 t : Vec Ideal S1x1x1024 .f32) (ix3 0 0 d) = argGate m c (ix2 (batch t) d) := by
  have hi := index4 t
  refine Eq.trans ?_ ((congrFun (V_gate m c) (ix3 (batch t) 0 d)).trans (vec_apply (argGate m c) (batch t) d))
  unfold iblk
  rw [View.read_apply]
  show (V m c main_v6 : FVec Ideal S2x1x1024 .f32) _ = V m c main_v6 _
  congr 1
  funext a
  apply Fin.ext
  match a with
  | ⟨0, _⟩ => show win0_4.index t 0 * 1 + 1 * 0 = t.val / 16; rw [hi.1]; omega
  | ⟨1, _⟩ => show win0_4.index t 1 * 1 + 1 * 0 = 0; rw [hi.2.1]
  | ⟨2, _⟩ => show win0_4.index t 2 * 1024 + 1 * d.val = d.val; rw [hi.2.2]; omega

theorem block5 (t : Fin cfg0.N) (d : Fin 1024) : (iblk m c 5 t : Vec Ideal S1x1024 .f32) (ix2 0 d) = argGain m c (ix1 d) := by
  have hi := index5 t
  refine Eq.trans ?_ ((congrFun (V_gain m c) (ix2 0 d)).trans (gain_apply (argGain m c) d))
  unfold iblk
  rw [View.read_apply]
  show (V m c main_v7 : FVec Ideal S1x1024 .f32) _ = V m c main_v7 _
  congr 1
  funext a
  apply Fin.ext
  match a with
  | ⟨0, _⟩ => show win0_5.index t 0 * 1 + 1 * 0 = 0; rw [hi.1]
  | ⟨1, _⟩ => show win0_5.index t 1 * 1024 + 1 * d.val = d.val; rw [hi.2]; omega

theorem block6 (t : Fin cfg0.N) (d : Fin 1024) : (iblk m c 6 t : Vec Ideal S1x1024 .f32) (ix2 0 d) = argBias m c (ix1 d) := by
  have hi := index6 t
  refine Eq.trans ?_ ((congrFun (V_bias m c) (ix2 0 d)).trans (gain_apply (argBias m c) d))
  unfold iblk
  rw [View.read_apply]
  show (V m c main_v8 : FVec Ideal S1x1024 .f32) _ = V m c main_v8 _
  congr 1
  funext a
  apply Fin.ext
  match a with
  | ⟨0, _⟩ => show win0_6.index t 0 * 1 + 1 * 0 = 0; rw [hi.1]
  | ⟨1, _⟩ => show win0_6.index t 1 * 1024 + 1 * d.val = d.val; rw [hi.2]; omega

/-- A row block's residual sum is the reference's. -/
theorem resRow_eq (t : Fin cfg0.N) (r : Fin 512) :
    resRow (iblk m c 0 t) (iblk m c 1 t) (iblk m c 2 t) (iblk m c 3 t) (iblk m c 4 t) r
      = fun d => Cert.OutputReferenceIdeal.OutputRef.residual (argA m c) (argB m c) (argW m c) (argX m c) (argGate m c) (ix3 (batch t) (token t r) d) := by
  funext d
  refine Eq.trans ?_ (Cert.OutputReferenceIdeal.OutputRef.residual_apply (argA m c) (argB m c) (argW m c) (argX m c) (argGate m c) (batch t) (token t r) d).symm
  unfold resRow
  simp only [block0, block1, block2, block3, block4]

/-- The result array is the reference's result. -/
theorem final : (dats m 0 c).arrAt 7 cfg0.N
    = Cert.OutputReferenceIdeal.OutputRef.result (argA m c) (argB m c) (argW m c) (argX m c) (argGate m c) (argGain m c) (argBias m c) := by
  refine (dats m 0 c).arrAt_eq_of_covers 7 _ (by decide +kernel) fun t hf y => ?_
  have hi := index7 t
  refine (congrFun (Value.flushed7 m c t) y).trans ?_
  obtain ⟨r, d, rfl⟩ : ∃ (r : Fin 512) (d : Fin 1024), y = ix2 r d := ⟨y 0, y 1, eq_ix2 y⟩
  refine (out7_apply (iblk m c 0 t) (iblk m c 1 t) (iblk m c 2 t) (iblk m c 3 t) (iblk m c 4 t) (iblk m c 5 t) (iblk m c 6 t) r d).trans ?_
  rw [resRow_eq m c t r]
  simp only [block5, block6]
  refine (Cert.OutputReferenceIdeal.OutputRef.result_apply (argA m c) (argB m c) (argW m c) (argX m c) (argGate m c) (argGain m c) (argBias m c)
    (batch t) (token t r) d).symm.trans ?_
  refine congrArg _ (funext fun a => Fin.ext ?_)
  match a with
  | ⟨0, _⟩ => show 8192 * (t.val / 16) + (512 * (t.val % 16) + r.val) = win0_7.index t 0 * 512 + 1 * r.val; rw [hi.1]; omega
  | ⟨1, _⟩ => show d.val = win0_7.index t 1 * 1024 + 1 * d.val; rw [hi.2]; omega

end Cert.OutputIdeal.OutputFinal

end
-- ==== Proof.OddOutputFinal.lean ====
/-
  The odd layers' output projection with its residual sum and norm: a row block's tile of the kernel's result is the
  reference's tile, and the tiles cover the array.
-/
module

public import proofs.«01_k».proof.Proof.Gen.OddOutputIdeal.Value
public import proofs.«01_k».proof.Proof.Gen.OddOutputReferenceIdeal.Run
public import proofs.«01_k».proof.Proof.OutputFinal
public import Idealize.ShloMosaic.Lib.Pointwise
public import Idealize.ShloMosaic.Lib.Pipeline.ValueKit
public import Idealize.ShloMosaic.Lib.StableHlo.Run

@[expose] public section

set_option maxRecDepth 16384

noncomputable section

namespace Cert.OddOutputReferenceIdeal.OddOutputRef

open Idealize.ShloMosaic Idealize.ShloMosaic.TcCoe Idealize.SL.Sem
open Cert.OddOutputReferenceIdeal Cert.OddOutputReferenceIdeal.Gen

/-- The residual sum. -/
def residual (o : FVec Ideal S2x8192x1024 .f32) (w : FVec Ideal S1024x1024 .f32) (x : FVec Ideal S2x8192x1024 .f32) (gate : FVec Ideal S2x1024 .f32) :
    FVec Ideal S2x8192x1024 .f32 :=
  addf (mulf (broadcastInDim S2x8192x1024 ![] bcast_S_S2x8192x1024 (constant S_ .f32 0x3FD744FD#32)) x)
    (mulf (broadcastInDim S2x8192x1024 ![0, 1, 2] bcast_S2x1x1024_S2x8192x1024_0_1_2 (broadcastInDim S2x1x1024 ![0, 2] bcast_S2x1024_S2x1x1024_0_2 gate))
      (Host.dotGeneral dot_S2x8192x1024_S1024x1024_S2x8192x1024_2_0_01_1_n_n none o w))

/-- Every row less its mean. -/
def centred (z : FVec Ideal S2x8192x1024 .f32) : FVec Ideal S2x8192x1024 .f32 :=
  subf z (broadcastInDim S2x8192x1024 ![0, 1, 2] bcast_S2x8192x1_S2x8192x1024_0_1_2 (Host.divf
    (broadcastInDim S2x8192x1 ![0, 1] bcast_S2x8192_S2x8192x1_0_1 (Host.reduceAdd z (constant S_ .f32 0x00000000#32) reducesTo_S2x8192x1024_S2x8192_d2 h_S_))
    (broadcastInDim S2x8192x1 ![] bcast_S_S2x8192x1 (constant S_ .f32 0x44800000#32))))

/-- Every centred row over its root mean square, with the gain and the bias. -/
def normed (z : FVec Ideal S2x8192x1024 .f32) (g b : FVec Ideal S1024 .f32) : FVec Ideal S16384x1024 .f32 :=
  shapeCast _ (addf (mulf (mulf z (broadcastInDim S2x8192x1024 ![0, 1, 2] bcast_S2x8192x1_S2x8192x1024_0_1_2 (Host.rsqrt (addf (Host.divf
    (broadcastInDim S2x8192x1 ![0, 1] bcast_S2x8192_S2x8192x1_0_1 (Host.reduceAdd (mulf z z) (constant S_ .f32 0x00000000#32) reducesTo_S2x8192x1024_S2x8192_d2 h_S_))
    (broadcastInDim S2x8192x1 ![] bcast_S_S2x8192x1 (constant S_ .f32 0x44800000#32)))
    (broadcastInDim S2x8192x1 ![] bcast_S_S2x8192x1 (constant S_ .f32 0x3727C5AC#32))))))
    (broadcastInDim S2x8192x1024 ![0, 1, 2] bcast_S1x1x1024_S2x8192x1024_0_1_2 (broadcastInDim S1x1x1024 ![2] bcast_S1024_S1x1x1024_2 g)))
    (broadcastInDim S2x8192x1024 ![0, 1, 2] bcast_S1x1x1024_S2x8192x1024_0_1_2 (broadcastInDim S1x1x1024 ![2] bcast_S1024_S1x1x1024_2 b)))
    shapeCasts_S2x8192x1024_S16384x1024

/-- The reference's result. -/
def result (o : FVec Ideal S2x8192x1024 .f32) (w : FVec Ideal S1024x1024 .f32) (x : FVec Ideal S2x8192x1024 .f32) (gate : FVec Ideal S2x1024 .f32)
    (g b : FVec Ideal S1024 .f32) : FVec Ideal S16384x1024 .f32 := normed (centred (residual o w x gate)) g b

theorem res_eq (m : (ℓ : Loc nD τ sig) → Buf (Elt Ideal) ℓ) (c : Dev nD) :
    Value.res_main_v31 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

theorem residual_apply (o : FVec Ideal S2x8192x1024 .f32) (w : FVec Ideal S1024x1024 .f32) (x : FVec Ideal S2x8192x1024 .f32) (gate : FVec Ideal S2x1024 .f32)
    (b : Fin 2) (n : Fin 8192) (d : Fin 1024) :
    residual o w x gate (ix3 b n d)
      = Ideal.ofBits .f32 0x3FD744FD#32 * x (ix3 b n d) + gate (ix2 b d) * ∑ k : Fin 1024, o (ix3 b n k) * w (ix2 k d) := by
  unfold residual
  pointwise

theorem centred_apply (z : FVec Ideal S2x8192x1024 .f32) (b : Fin 2) (n : Fin 8192) (d : Fin 1024) :
    centred z (ix3 b n d) = OutputNorm.centred (fun d => z (ix3 b n d)) d := by
  unfold centred OutputNorm.centred OutputNorm.mean
  pointwise

theorem normed_apply (z : FVec Ideal S2x8192x1024 .f32) (g b : FVec Ideal S1024 .f32) (a : Fin 2) (n : Fin 8192) (d : Fin 1024) :
    normed z g b (ix2 ⟨8192 * a.val + n.val, by omega⟩ d)
      = z (ix3 a n d) * Ideal.rsqrt (Ideal.div (∑ i : Fin 1024, z (ix3 a n i) * z (ix3 a n i)) (Ideal.ofBits .f32 0x44800000#32)
          + Ideal.ofBits .f32 0x3727C5AC#32) * g (ix1 d) + b (ix1 d) := by
  unfold normed
  pointwise

theorem result_apply (o : FVec Ideal S2x8192x1024 .f32) (w : FVec Ideal S1024x1024 .f32) (x : FVec Ideal S2x8192x1024 .f32) (gate : FVec Ideal S2x1024 .f32)
    (g b : FVec Ideal S1024 .f32) (a : Fin 2) (n : Fin 8192) (d : Fin 1024) :
    result o w x gate g b (ix2 ⟨8192 * a.val + n.val, by omega⟩ d)
      = OutputNorm.norm (fun d => residual o w x gate (ix3 a n d)) (fun d => g (ix1 d)) (fun d => b (ix1 d)) d := by
  unfold result OutputNorm.norm
  rw [normed_apply]
  simp only [centred_apply]

end Cert.OddOutputReferenceIdeal.OddOutputRef

namespace Cert.OddOutputIdeal.OddOutputFinal

open Idealize.ShloMosaic Idealize.ShloMosaic.TcCoe Idealize.SL.Sem
open Cert.OddOutputIdeal Cert.OddOutputIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- A row block's residual sum. -/
def resRow (x0 : Vec Ideal S512x1024 .bf16) (w : Vec Ideal S1024x1024 .bf16) (x : Vec Ideal S512x1024 .f32) (gate : Vec Ideal S1x1x1024 .f32)
    (r : Fin 512) (d : Fin 1024) : EReal :=
  Ideal.ofBits .f32 0x3FD744FD#32 * x (ix2 r d) + gate (ix3 0 0 d) * ∑ k : Fin 1024, x0 (ix2 r k) * w (ix2 k d)

theorem pay1_apply (x0 : Vec Ideal S512x1024 .bf16) (w : Vec Ideal S1024x1024 .bf16) (x : Vec Ideal S512x1024 .f32) (gate : Vec Ideal S1x1x1024 .f32)
    (g b : Vec Ideal S1x1024 .f32) (r : Fin 512) (d : Fin 1024) :
    k0_pay1 x0 w x gate g b (ix2 r d) = OutputNorm.norm (resRow x0 w x gate r) (fun d => g (ix2 0 d)) (fun d => b (ix2 0 d)) d := by
  unfold k0_pay1 OutputNorm.norm OutputNorm.centred OutputNorm.mean resRow
  pointwise

/-- A row block's result. -/
theorem out6_apply (x0 : Vec Ideal S512x1024 .bf16) (w : Vec Ideal S1024x1024 .bf16) (x : Vec Ideal S512x1024 .f32) (gate : Vec Ideal S1x1x1024 .f32)
    (g b : Vec Ideal S1x1024 .f32) (r : Fin 512) (d : Fin 1024) :
    out0_6 x0 w x gate g b (ix2 r d) = OutputNorm.norm (resRow x0 w x gate r) (fun d => g (ix2 0 d)) (fun d => b (ix2 0 d)) d := by
  unfold out0_6
  simp only [View.ld_unit_zero (S := S512x1024) hz2, View.ld_unit_zero (S := S1024x1024) hz2, View.ld_unit_zero (S := S1x1024) hz2,
    View.ld_unit_zero (S := S1x1x1024) hz3, View.canon_unit_zero (S := S512x1024) hz2]
  exact pay1_apply x0 w x gate g b r d

variable (m : (ℓ : Loc nD τ sig) → Buf (Elt Ideal) ℓ) (c : Dev nD)

abbrev argA : FVec Ideal S2x8192x1024 .f32 := m ((c : Thread nD τ).loc main_arg0)
abbrev argW : FVec Ideal S1024x1024 .f32 := m ((c : Thread nD τ).loc main_arg1)
abbrev argX : FVec Ideal S2x8192x1024 .f32 := m ((c : Thread nD τ).loc main_arg2)
abbrev argGate : FVec Ideal S2x1024 .f32 := m ((c : Thread nD τ).loc main_arg3)
abbrev argGain : FVec Ideal S1024 .f32 := m ((c : Thread nD τ).loc main_arg4)
abbrev argBias : FVec Ideal S1024 .f32 := m ((c : Thread nD τ).loc main_arg5)

theorem V_a : V m c main_v1 = truncf .bf16 (shapeCast S16384x1024 (argA m c) shapeCasts_S2x8192x1024_S16384x1024) bitsLt_bf16_f32 := by
  unfold_abbrev_sides
  after_results_simp
  rfl

theorem V_w : V m c main_v2 = truncf .bf16 (argW m c) bitsLt_bf16_f32 := by
  unfold_abbrev_sides
  after_results_simp

theorem V_x : V m c main_v3 = shapeCast S16384x1024 (argX m c) shapeCasts_S2x8192x1024_S16384x1024 := by
  unfold_abbrev_sides
  after_results_simp
  rfl

theorem V_gate : V m c main_v4 = shapeCast S2x1x1024 (argGate m c) shapeCasts_S2x1024_S2x1x1024 := by
  unfold_abbrev_sides
  after_results_simp
  rfl

theorem V_gain : V m c main_v5 = shapeCast S1x1024 (argGain m c) shapeCasts_S1024_S1x1024 := by
  unfold_abbrev_sides
  after_results_simp
  rfl

theorem V_bias : V m c main_v6 = shapeCast S1x1024 (argBias m c) shapeCasts_S1024_S1x1024 := by
  unfold_abbrev_sides
  after_results_simp
  rfl

theorem o_apply (x : FVec Ideal S2x8192x1024 .f32) (b : Fin 2) (n : Fin 8192) (d : Fin 1024) :
    truncf .bf16 (shapeCast S16384x1024 x shapeCasts_S2x8192x1024_S16384x1024) bitsLt_bf16_f32 (ix2 ⟨8192 * b.val + n.val, by omega⟩ d) = x (ix3 b n d) := by
  pointwise

theorem x_apply (x : FVec Ideal S2x8192x1024 .f32) (b : Fin 2) (n : Fin 8192) (d : Fin 1024) :
    shapeCast S16384x1024 x shapeCasts_S2x8192x1024_S16384x1024 (ix2 ⟨8192 * b.val + n.val, by omega⟩ d) = x (ix3 b n d) := by
  pointwise

theorem vec_apply (x : FVec Ideal S2x1024 .f32) (b : Fin 2) (d : Fin 1024) :
    shapeCast S2x1x1024 x shapeCasts_S2x1024_S2x1x1024 (ix3 b 0 d) = x (ix2 b d) := by
  pointwise

theorem gain_apply (x : FVec Ideal S1024 .f32) (d : Fin 1024) : shapeCast S1x1024 x shapeCasts_S1024_S1x1024 (ix2 0 d) = x (ix1 d) := by
  pointwise

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val / 16 ∧ win0_3.index t 1 = 0 ∧ win0_3.index t 2 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val ∧ win0_6.index t 1 = 0 := by decide +kernel

theorem lt_N (t : Fin cfg0.N) : t.val < 32 := lt_of_lt_of_eq t.isLt (show cfg0.N = 32 from N_0)

/-- The batch and the token of a row of a row block. -/
abbrev batch (t : Fin cfg0.N) : Fin 2 := ⟨t.val / 16, by have := lt_N t; omega⟩
abbrev token (t : Fin cfg0.N) (r : Fin 512) : Fin 8192 := ⟨512 * (t.val % 16) + r.val, by omega⟩

theorem block0 (t : Fin cfg0.N) (r : Fin 512) (d : Fin 1024) :
    (iblk m c 0 t : Vec Ideal S512x1024 .bf16) (ix2 r d) = argA m c (ix3 (batch t) (token t r) d) := by
  have hi := index0 t
  refine Eq.trans ?_ ((congrFun (V_a m c) (ix2 ⟨8192 * (batch t).val + (token t r).val, by omega⟩ d)).trans (o_apply (argA m c) (batch t) (token t r) d))
  unfold iblk
  rw [View.read_apply]
  show (V m c main_v1 : FVec Ideal S16384x1024 .bf16) _ = V m c main_v1 _
  congr 1
  funext a
  apply Fin.ext
  match a with
  | ⟨0, _⟩ => show win0_0.index t 0 * 512 + 1 * r.val = 8192 * (t.val / 16) + (512 * (t.val % 16) + r.val); rw [hi.1]; omega
  | ⟨1, _⟩ => show win0_0.index t 1 * 1024 + 1 * d.val = d.val; rw [hi.2]; omega

theorem block1 (t : Fin cfg0.N) (d e : Fin 1024) :
    (iblk m c 1 t : Vec Ideal S1024x1024 .bf16) (ix2 d e) = argW m c (ix2 d e) := by
  have hi := index1 t
  refine Eq.trans ?_ (congrFun (V_w m c) (ix2 d e))
  unfold iblk
  rw [View.read_apply]
  show (V m c main_v2 : FVec Ideal S1024x1024 .bf16) _ = V m c main_v2 _
  congr 1
  funext a
  apply Fin.ext
  match a with
  | ⟨0, _⟩ => show win0_1.index t 0 * 1024 + 1 * d.val = d.val; rw [hi.1]; omega
  | ⟨1, _⟩ => show win0_1.index t 1 * 1024 + 1 * e.val = e.val; rw [hi.2]; omega

theorem block2 (t : Fin cfg0.N) (r : Fin 512) (d : Fin 1024) :
    (iblk m c 2 t : Vec Ideal S512x1024 .f32) (ix2 r d) = argX m c (ix3 (batch t) (token t r) d) := by
  have hi := index2 t
  refine Eq.trans ?_ ((congrFun (V_x m c) (ix2 ⟨8192 * (batch t).val + (token t r).val, by omega⟩ d)).trans (x_apply (argX m c) (batch t) (token t r) d))
  unfold iblk
  rw [View.read_apply]
  show (V m c main_v3 : FVec Ideal S16384x1024 .f32) _ = V m c main_v3 _
  congr 1
  funext a
  apply Fin.ext
  match a with
  | ⟨0, _⟩ => show win0_2.index t 0 * 512 + 1 * r.val = 8192 * (t.val / 16) + (512 * (t.val % 16) + r.val); rw [hi.1]; omega
  | ⟨1, _⟩ => show win0_2.index t 1 * 1024 + 1 * d.val = d.val; rw [hi.2]; omega

theorem block3 (t : Fin cfg0.N) (d : Fin 1024) :
    (iblk m c 3 t : Vec Ideal S1x1x1024 .f32) (ix3 0 0 d) = argGate m c (ix2 (batch t) d) := by
  have hi := index3 t
  refine Eq.trans ?_ ((congrFun (V_gate m c) (ix3 (batch t) 0 d)).trans (vec_apply (argGate m c) (batch t) d))
  unfold iblk
  rw [View.read_apply]
  show (V m c main_v4 : FVec Ideal S2x1x1024 .f32) _ = V m c main_v4 _
  congr 1
  funext a
  apply Fin.ext
  match a with
  | ⟨0, _⟩ => show win0_3.index t 0 * 1 + 1 * 0 = t.val / 16; rw [hi.1]; omega
  | ⟨1, _⟩ => show win0_3.index t 1 * 1 + 1 * 0 = 0; rw [hi.2.1]
  | ⟨2, _⟩ => show win0_3.index t 2 * 1024 + 1 * d.val = d.val; rw [hi.2.2]; omega

theorem block4 (t : Fin cfg0.N) (d : Fin 1024) : (iblk m c 4 t : Vec Ideal S1x1024 .f32) (ix2 0 d) = argGain m c (ix1 d) := by
  have hi := index4 t
  refine Eq.trans ?_ ((congrFun (V_gain m c) (ix2 0 d)).trans (gain_apply (argGain m c) d))
  unfold iblk
  rw [View.read_apply]
  show (V m c main_v5 : FVec Ideal S1x1024 .f32) _ = V m c main_v5 _
  congr 1
  funext a
  apply Fin.ext
  match a with
  | ⟨0, _⟩ => show win0_4.index t 0 * 1 + 1 * 0 = 0; rw [hi.1]
  | ⟨1, _⟩ => show win0_4.index t 1 * 1024 + 1 * d.val = d.val; rw [hi.2]; omega

theorem block5 (t : Fin cfg0.N) (d : Fin 1024) : (iblk m c 5 t : Vec Ideal S1x1024 .f32) (ix2 0 d) = argBias m c (ix1 d) := by
  have hi := index5 t
  refine Eq.trans ?_ ((congrFun (V_bias m c) (ix2 0 d)).trans (gain_apply (argBias m c) d))
  unfold iblk
  rw [View.read_apply]
  show (V m c main_v6 : FVec Ideal S1x1024 .f32) _ = V m c main_v6 _
  congr 1
  funext a
  apply Fin.ext
  match a with
  | ⟨0, _⟩ => show win0_5.index t 0 * 1 + 1 * 0 = 0; rw [hi.1]
  | ⟨1, _⟩ => show win0_5.index t 1 * 1024 + 1 * d.val = d.val; rw [hi.2]; omega

/-- A row block's residual sum is the reference's. -/
theorem resRow_eq (t : Fin cfg0.N) (r : Fin 512) :
    resRow (iblk m c 0 t) (iblk m c 1 t) (iblk m c 2 t) (iblk m c 3 t) r
      = fun d => Cert.OddOutputReferenceIdeal.OddOutputRef.residual (argA m c) (argW m c) (argX m c) (argGate m c) (ix3 (batch t) (token t r) d) := by
  funext d
  refine Eq.trans ?_ (Cert.OddOutputReferenceIdeal.OddOutputRef.residual_apply (argA m c) (argW m c) (argX m c) (argGate m c) (batch t) (token t r) d).symm
  unfold resRow
  simp only [block0, block1, block2, block3]

/-- The result array is the reference's result. -/
theorem final : (dats m 0 c).arrAt 6 cfg0.N
    = Cert.OddOutputReferenceIdeal.OddOutputRef.result (argA m c) (argW m c) (argX m c) (argGate m c) (argGain m c) (argBias m c) := by
  refine (dats m 0 c).arrAt_eq_of_covers 6 _ (by decide +kernel) fun t hf y => ?_
  have hi := index6 t
  refine (congrFun (Value.flushed6 m c t) y).trans ?_
  obtain ⟨r, d, rfl⟩ : ∃ (r : Fin 512) (d : Fin 1024), y = ix2 r d := ⟨y 0, y 1, eq_ix2 y⟩
  refine (out6_apply (iblk m c 0 t) (iblk m c 1 t) (iblk m c 2 t) (iblk m c 3 t) (iblk m c 4 t) (iblk m c 5 t) r d).trans ?_
  rw [resRow_eq m c t r]
  simp only [block4, block5]
  refine (Cert.OddOutputReferenceIdeal.OddOutputRef.result_apply (argA m c) (argW m c) (argX m c) (argGate m c) (argGain m c) (argBias m c)
    (batch t) (token t r) d).symm.trans ?_
  refine congrArg _ (funext fun a => Fin.ext ?_)
  match a with
  | ⟨0, _⟩ => show 8192 * (t.val / 16) + (512 * (t.val % 16) + r.val) = win0_6.index t 0 * 512 + 1 * r.val; rw [hi.1]; omega
  | ⟨1, _⟩ => show d.val = win0_6.index t 1 * 1024 + 1 * d.val; rw [hi.2]; omega

end Cert.OddOutputIdeal.OddOutputFinal

end
-- ==== Proof.OddInputRef.lean ====
/-
  The odd layer's input projection, as the reference states it.
-/
module

public import proofs.«01_k».proof.Proof.Gen.OddInputReferenceIdeal.Run
public import proofs.«01_k».proof.Proof.Rotary
public import Idealize.ShloMosaic.Lib.Pointwise
public import Idealize.ShloMosaic.Lib.StableHlo.Run

@[expose] public section

set_option maxRecDepth 16384

noncomputable section

namespace Cert.OddInputReferenceIdeal.OddInputRef

open Idealize.ShloMosaic Idealize.ShloMosaic.TcCoe Idealize.SL.Sem
open Cert.OddInputReferenceIdeal Cert.OddInputReferenceIdeal.Gen

/-- The scaled and shifted rows. -/
def modulated (x : FVec Ideal S2x8192x1024 .f32) (sh sc : FVec Ideal S2x1024 .f32) : FVec Ideal S2x8192x1024 .f32 :=
  addf (mulf x (broadcastInDim S2x8192x1024 ![0, 1, 2] bcast_S2x1x1024_S2x8192x1024_0_1_2
      (addf (broadcastInDim S2x1x1024 ![] bcast_S_S2x1x1024 (constant S_ .f32 0x3F800000#32))
        (broadcastInDim S2x1x1024 ![0, 2] bcast_S2x1024_S2x1x1024_0_2 sc))))
    (broadcastInDim S2x8192x1024 ![0, 1, 2] bcast_S2x1x1024_S2x8192x1024_0_1_2
      (broadcastInDim S2x1x1024 ![0, 2] bcast_S2x1024_S2x1x1024_0_2 sh))

/-- The product of the scaled and shifted rows with the weights. -/
def product (x : FVec Ideal S2x8192x1024 .f32) (sh sc : FVec Ideal S2x1024 .f32) (w : FVec Ideal S1024x1536 .f32) : FVec Ideal S2x8192x1536 .f32 :=
  Host.dotGeneral dot_S2x8192x1024_S1024x1536_S2x8192x1536_2_0_01_1_n_n none (modulated x sh sc) w

/-- The angles of the positions. -/
def angle : FVec Ideal S8192x32 .f32 :=
  mulf (broadcastInDim S8192x32 ![0, 1] bcast_S8192x1_S8192x32_0_1 (broadcastInDim S8192x1 ![0] bcast_S8192_S8192x1_0 (sitofp .f32 (iotaInDim S8192 32 0))))
    (broadcastInDim S8192x32 ![0, 1] bcast_S1x32_S8192x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (addf (broadcastInDim S32 ![] bcast_S_S32 (constant S_ .f32 0x00000000#32))
              (mulf (broadcastInDim S32 ![] bcast_S_S32 (constant S_ .f32 0x40000000#32)) (sitofp .f32 (iotaInDim S32 32 0))))
            (broadcastInDim S32 ![] bcast_S_S32 (constant S_ .f32 0x42800000#32)))))))

def cosRow (n : Fin 8192) (l : Fin 32) : EReal := Ideal.cos (angle (ix2 n l))
def sinRow (n : Fin 8192) (l : Fin 32) : EReal := Ideal.sin (angle (ix2 n l))

/-- Groups of 64 turned by the angles. -/
def turnedQ (t : FVec Ideal S2x8192x1024 .f32) : FVec Ideal S2x8192x1024 .f32 :=
  shapeCast _ (concatenate S2x8192x16x64 3
    [⟨S2x8192x16x32, subf
        (mulf (extractStridedSlice S2x8192x16x32 ![0, 0, 0, 0] (shapeCast _ t shapeCasts_S2x8192x1024_S2x8192x16x64) slices_S2x8192x16x64_S2x8192x16x32_0_0_0_0)
          (broadcastInDim S2x8192x16x32 ![0, 1, 2, 3] bcast_S1x8192x1x32_S2x8192x16x32_0_1_2_3 (broadcastInDim S1x8192x1x32 ![1, 3] bcast_S8192x32_S1x8192x1x32_1_3 (Host.cos angle))))
        (mulf (extractStridedSlice S2x8192x16x32 ![0, 0, 0, 32] (shapeCast _ t shapeCasts_S2x8192x1024_S2x8192x16x64) slices_S2x8192x16x64_S2x8192x16x32_0_0_0_32)
          (broadcastInDim S2x8192x16x32 ![0, 1, 2, 3] bcast_S1x8192x1x32_S2x8192x16x32_0_1_2_3 (broadcastInDim S1x8192x1x32 ![1, 3] bcast_S8192x32_S1x8192x1x32_1_3 (Host.sin angle))))⟩,
      ⟨S2x8192x16x32, addf
        (mulf (extractStridedSlice S2x8192x16x32 ![0, 0, 0, 0] (shapeCast _ t shapeCasts_S2x8192x1024_S2x8192x16x64) slices_S2x8192x16x64_S2x8192x16x32_0_0_0_0)
          (broadcastInDim S2x8192x16x32 ![0, 1, 2, 3] bcast_S1x8192x1x32_S2x8192x16x32_0_1_2_3 (broadcastInDim S1x8192x1x32 ![1, 3] bcast_S8192x32_S1x8192x1x32_1_3 (Host.sin angle))))
        (mulf (extractStridedSlice S2x8192x16x32 ![0, 0, 0, 32] (shapeCast _ t shapeCasts_S2x8192x1024_S2x8192x16x64) slices_S2x8192x16x64_S2x8192x16x32_0_0_0_32)
          (broadcastInDim S2x8192x16x32 ![0, 1, 2, 3] bcast_S1x8192x1x32_S2x8192x16x32_0_1_2_3 (broadcastInDim S1x8192x1x32 ![1, 3] bcast_S8192x32_S1x8192x1x32_1_3 (Host.cos angle))))⟩]
    concatenates_S2x8192x16x32_S2x8192x16x32_S2x8192x16x64_d3) shapeCasts_S2x8192x16x64_S2x8192x1024

theorem turnedQ_apply (t : FVec Ideal S2x8192x1024 .f32) (b : Fin 2) (n : Fin 8192) (e : Fin 1024) :
    turnedQ t (ix3 b n e) = Rotary.turned (N := 1024) rfl (fun e => t (ix3 b n e)) (cosRow n) (sinRow n) e := by
  unfold turnedQ Rotary.turned cosRow sinRow
  pointwise
  by_cases h : e.val % 64 < 32
  · have h1 : (⟨e.val % 64, h⟩ : Fin 32) = ⟨e.val % 32, by omega⟩ := Fin.ext (by show e.val % 64 = e.val % 32; omega)
    have h2 : (⟨e.val / 64 * 64 + (32 + e.val % 64), by omega⟩ : Fin 1024) = ⟨e.val + 32, by omega⟩ :=
      Fin.ext (by show e.val / 64 * 64 + (32 + e.val % 64) = e.val + 32; omega)
    rw [dif_pos h, dif_pos h]
    exact congrArg₂ (fun a b : EReal => a - b)
      (congrArg (fun l => t (ix3 b n e) * Ideal.cos (angle (ix2 n l))) h1)
      (congrArg₂ (fun k l => t (ix3 b n k) * Ideal.sin (angle (ix2 n l))) h2 h1)
  · have h1 : (⟨e.val % 64 - 32, by omega⟩ : Fin 32) = ⟨e.val % 32, by omega⟩ := Fin.ext (by show e.val % 64 - 32 = e.val % 32; omega)
    have h2 : (⟨e.val / 64 * 64 + (e.val % 64 - 32), by omega⟩ : Fin 1024) = ⟨e.val - 32, by omega⟩ :=
      Fin.ext (by show e.val / 64 * 64 + (e.val % 64 - 32) = e.val - 32; omega)
    have h3 : (⟨e.val / 64 * 64 + (32 + (e.val % 64 - 32)), by omega⟩ : Fin 1024) = e :=
      Fin.ext (by show e.val / 64 * 64 + (32 + (e.val % 64 - 32)) = e.val; omega)
    rw [dif_neg h, dif_neg h]
    exact congrArg₂ (fun a b : EReal => a + b)
      (congrArg₂ (fun k l => t (ix3 b n k) * Ideal.sin (angle (ix2 n l))) h2 h1)
      (congrArg₂ (fun k l => t (ix3 b n k) * Ideal.cos (angle (ix2 n l))) h3 h1)

/-- Groups of 64 turned by the angles. -/
def turned (t : FVec Ideal S2x8192x256 .f32) : FVec Ideal S2x8192x256 .f32 :=
  shapeCast _ (concatenate S2x8192x4x64 3
    [⟨S2x8192x4x32, subf
        (mulf (extractStridedSlice S2x8192x4x32 ![0, 0, 0, 0] (shapeCast _ t shapeCasts_S2x8192x256_S2x8192x4x64) slices_S2x8192x4x64_S2x8192x4x32_0_0_0_0)
          (broadcastInDim S2x8192x4x32 ![0, 1, 2, 3] bcast_S1x8192x1x32_S2x8192x4x32_0_1_2_3 (broadcastInDim S1x8192x1x32 ![1, 3] bcast_S8192x32_S1x8192x1x32_1_3 (Host.cos angle))))
        (mulf (extractStridedSlice S2x8192x4x32 ![0, 0, 0, 32] (shapeCast _ t shapeCasts_S2x8192x256_S2x8192x4x64) slices_S2x8192x4x64_S2x8192x4x32_0_0_0_32)
          (broadcastInDim S2x8192x4x32 ![0, 1, 2, 3] bcast_S1x8192x1x32_S2x8192x4x32_0_1_2_3 (broadcastInDim S1x8192x1x32 ![1, 3] bcast_S8192x32_S1x8192x1x32_1_3 (Host.sin angle))))⟩,
      ⟨S2x8192x4x32, addf
        (mulf (extractStridedSlice S2x8192x4x32 ![0, 0, 0, 0] (shapeCast _ t shapeCasts_S2x8192x256_S2x8192x4x64) slices_S2x8192x4x64_S2x8192x4x32_0_0_0_0)
          (broadcastInDim S2x8192x4x32 ![0, 1, 2, 3] bcast_S1x8192x1x32_S2x8192x4x32_0_1_2_3 (broadcastInDim S1x8192x1x32 ![1, 3] bcast_S8192x32_S1x8192x1x32_1_3 (Host.sin angle))))
        (mulf (extractStridedSlice S2x8192x4x32 ![0, 0, 0, 32] (shapeCast _ t shapeCasts_S2x8192x256_S2x8192x4x64) slices_S2x8192x4x64_S2x8192x4x32_0_0_0_32)
          (broadcastInDim S2x8192x4x32 ![0, 1, 2, 3] bcast_S1x8192x1x32_S2x8192x4x32_0_1_2_3 (broadcastInDim S1x8192x1x32 ![1, 3] bcast_S8192x32_S1x8192x1x32_1_3 (Host.cos angle))))⟩]
    concatenates_S2x8192x4x32_S2x8192x4x32_S2x8192x4x64_d3) shapeCasts_S2x8192x4x64_S2x8192x256

theorem turned_apply (t : FVec Ideal S2x8192x256 .f32) (b : Fin 2) (n : Fin 8192) (e : Fin 256) :
    turned t (ix3 b n e) = Rotary.turned (N := 256) rfl (fun e => t (ix3 b n e)) (cosRow n) (sinRow n) e := by
  unfold turned Rotary.turned cosRow sinRow
  pointwise
  by_cases h : e.val % 64 < 32
  · have h1 : (⟨e.val % 64, h⟩ : Fin 32) = ⟨e.val % 32, by omega⟩ := Fin.ext (by show e.val % 64 = e.val % 32; omega)
    have h2 : (⟨e.val / 64 * 64 + (32 + e.val % 64), by omega⟩ : Fin 256) = ⟨e.val + 32, by omega⟩ :=
      Fin.ext (by show e.val / 64 * 64 + (32 + e.val % 64) = e.val + 32; omega)
    rw [dif_pos h, dif_pos h]
    exact congrArg₂ (fun a b : EReal => a - b)
      (congrArg (fun l => t (ix3 b n e) * Ideal.cos (angle (ix2 n l))) h1)
      (congrArg₂ (fun k l => t (ix3 b n k) * Ideal.sin (angle (ix2 n l))) h2 h1)
  · have h1 : (⟨e.val % 64 - 32, by omega⟩ : Fin 32) = ⟨e.val % 32, by omega⟩ := Fin.ext (by show e.val % 64 - 32 = e.val % 32; omega)
    have h2 : (⟨e.val / 64 * 64 + (e.val % 64 - 32), by omega⟩ : Fin 256) = ⟨e.val - 32, by omega⟩ :=
      Fin.ext (by show e.val / 64 * 64 + (e.val % 64 - 32) = e.val - 32; omega)
    have h3 : (⟨e.val / 64 * 64 + (32 + (e.val % 64 - 32)), by omega⟩ : Fin 256) = e :=
      Fin.ext (by show e.val / 64 * 64 + (32 + (e.val % 64 - 32)) = e.val; omega)
    rw [dif_neg h, dif_neg h]
    exact congrArg₂ (fun a b : EReal => a + b)
      (congrArg₂ (fun k l => t (ix3 b n k) * Ideal.sin (angle (ix2 n l))) h2 h1)
      (congrArg₂ (fun k l => t (ix3 b n k) * Ideal.cos (angle (ix2 n l))) h3 h1)

/-- Each group of 64 twice. -/
def twice (t : FVec Ideal S2x8192x256 .f32) : FVec Ideal S2x8192x512 .f32 :=
  shapeCast _ (shapeCast _ (broadcastInDim S2x8192x4x2x64 ![0, 1, 2, 4] bcast_S2x8192x4x64_S2x8192x4x2x64_0_1_2_4
    (shapeCast _ t shapeCasts_S2x8192x256_S2x8192x4x64)) shapeCasts_S2x8192x4x2x64_S2x8192x8x64) shapeCasts_S2x8192x8x64_S2x8192x512

theorem twice_apply (t : FVec Ideal S2x8192x256 .f32) (b : Fin 2) (n : Fin 8192) (e : Fin 512) :
    twice t (ix3 b n e) = t (ix3 b n ⟨e.val / 128 * 64 + e.val % 64, by omega⟩) := by
  unfold twice
  pointwise

/-- The sections side by side. -/
def joined (t0 : FVec Ideal S2x8192x1024 .f32) (t1 : FVec Ideal S2x8192x512 .f32) (t2 : FVec Ideal S2x8192x512 .f32) : FVec Ideal S16384x2048 .bf16 :=
  truncf .bf16 (shapeCast _ (concatenate S2x8192x2048 2
     [⟨S2x8192x1024, t0⟩, ⟨S2x8192x512, t1⟩, ⟨S2x8192x512, t2⟩]
    concatenates_S2x8192x1024_S2x8192x512_S2x8192x512_S2x8192x2048_d2) shapeCasts_S2x8192x2048_S16384x2048) bitsLt_bf16_f32

theorem joined_apply (t0 : FVec Ideal S2x8192x1024 .f32) (t1 : FVec Ideal S2x8192x512 .f32) (t2 : FVec Ideal S2x8192x512 .f32)
    (b : Fin 2) (n : Fin 8192) (c : Fin 2048) :
    joined t0 t1 t2 (ix2 ⟨8192 * b.val + n.val, by omega⟩ c)
      = if h : c.val < 1024 then t0 (ix3 b n ⟨c.val, h⟩)
        else if h : c.val - 1024 < 512 then t1 (ix3 b n ⟨c.val - 1024, h⟩)
        else t2 (ix3 b n ⟨c.val - 1024 - 512, by omega⟩) := by
  unfold joined
  pointwise

theorem slice0_apply (p : FVec Ideal S2x8192x1536 .f32) (b : Fin 2) (n : Fin 8192) (e : Fin 1024) :
    extractStridedSlice S2x8192x1024 ![0, 0, 0] p slices_S2x8192x1536_S2x8192x1024_0_0_0 (ix3 b n e) = p (ix3 b n ⟨e.val, by omega⟩) := by
  pointwise

theorem turn0_apply (p : FVec Ideal S2x8192x1536 .f32) (b : Fin 2) (n : Fin 8192) (e : Fin 1024) :
    turnedQ (extractStridedSlice S2x8192x1024 ![0, 0, 0] p slices_S2x8192x1536_S2x8192x1024_0_0_0) (ix3 b n e)
      = Rotary.turned (N := 1536) rfl (fun c => p (ix3 b n c)) (cosRow n) (sinRow n) ⟨0 + e.val, by omega⟩ := by
  refine (turnedQ_apply _ b n e).trans (Eq.trans ?_ (Rotary.turned_shift (M := 1024) rfl rfl (fun c => p (ix3 b n c)) (cosRow n) (sinRow n) 0 (by omega) (by omega) e))
  refine congrArg (fun P => Rotary.turned (N := 1024) rfl P (cosRow n) (sinRow n) e) (funext fun e => (slice0_apply p b n e).trans ?_)
  refine congrArg (fun c => p (ix3 b n c)) (Fin.ext ?_)
  show e.val = 0 + e.val
  omega

theorem slice1024_apply (p : FVec Ideal S2x8192x1536 .f32) (b : Fin 2) (n : Fin 8192) (e : Fin 256) :
    extractStridedSlice S2x8192x256 ![0, 0, 1024] p slices_S2x8192x1536_S2x8192x256_0_0_1024 (ix3 b n e) = p (ix3 b n ⟨1024 + e.val, by omega⟩) := by
  pointwise

theorem turn1024_apply (p : FVec Ideal S2x8192x1536 .f32) (b : Fin 2) (n : Fin 8192) (e : Fin 256) :
    turned (extractStridedSlice S2x8192x256 ![0, 0, 1024] p slices_S2x8192x1536_S2x8192x256_0_0_1024) (ix3 b n e)
      = Rotary.turned (N := 1536) rfl (fun c => p (ix3 b n c)) (cosRow n) (sinRow n) ⟨1024 + e.val, by omega⟩ := by
  refine (turned_apply _ b n e).trans (Eq.trans ?_ (Rotary.turned_shift (M := 256) rfl rfl (fun c => p (ix3 b n c)) (cosRow n) (sinRow n) 1024 (by omega) (by omega) e))
  exact congrArg (fun P => Rotary.turned (N := 256) rfl P (cosRow n) (sinRow n) e) (funext fun e => slice1024_apply p b n e)

theorem slice1280_apply (p : FVec Ideal S2x8192x1536 .f32) (b : Fin 2) (n : Fin 8192) (e : Fin 256) :
    extractStridedSlice S2x8192x256 ![0, 0, 1280] p slices_S2x8192x1536_S2x8192x256_0_0_1280 (ix3 b n e) = p (ix3 b n ⟨1280 + e.val, by omega⟩) := by
  pointwise

theorem scaled_apply (t : FVec Ideal S2x8192x1024 .f32) (b : Fin 2) (n : Fin 8192) (e : Fin 1024) :
    mulf t (broadcastInDim S2x8192x1024 ![] bcast_S_S2x8192x1024 (constant S_ .f32 0x3E000000#32)) (ix3 b n e) = t (ix3 b n e) * Ideal.ofBits .f32 0x3E000000#32 := by
  pointwise

/-- The projected rows from the product. -/
def resultOf (p : FVec Ideal S2x8192x1536 .f32) : FVec Ideal S16384x2048 .bf16 :=
  joined (mulf (turnedQ (extractStridedSlice S2x8192x1024 ![0, 0, 0] p slices_S2x8192x1536_S2x8192x1024_0_0_0)) (broadcastInDim S2x8192x1024 ![] bcast_S_S2x8192x1024 (constant S_ .f32 0x3E000000#32)))
    (twice (turned (extractStridedSlice S2x8192x256 ![0, 0, 1024] p slices_S2x8192x1536_S2x8192x256_0_0_1024)))
    (twice (extractStridedSlice S2x8192x256 ![0, 0, 1280] p slices_S2x8192x1536_S2x8192x256_0_0_1280))

/-- The column of the product that a column of the result comes from: each key head and each value head stands twice. -/
def col (c : Fin 2048) : Fin 1536 :=
  if h : c.val < 1024 then ⟨c.val, by omega⟩
  else if h : c.val < 1536 then ⟨1024 + ((c.val - 1024) / 128 * 64 + (c.val - 1024) % 64), by omega⟩
  else ⟨1280 + ((c.val - 1536) / 128 * 64 + (c.val - 1536) % 64), by omega⟩

theorem col_val (c : Fin 2048) : (col c).val = if c.val < 1024 then c.val
    else if c.val < 1536 then 1024 + ((c.val - 1024) / 128 * 64 + (c.val - 1024) % 64)
    else 1280 + ((c.val - 1536) / 128 * 64 + (c.val - 1536) % 64) := by
  unfold col
  split_ifs <;> rfl

/-- A row of the result from the row of the product with the heads repeated. -/
def sections (P : Fin 2048 → EReal) (cs sn : Fin 32 → EReal) (c : Fin 2048) : EReal :=
  if c.val < 1024 then Rotary.turned rfl P cs sn c * Ideal.ofBits .f32 0x3E000000#32
  else if c.val < 1536 then Rotary.turned rfl P cs sn c
  else P c

/-- Turning the repeated heads is repeating the turned heads. -/
theorem turned_col (P : Fin 1536 → EReal) (cs sn : Fin 32 → EReal) (c : Fin 2048) (hc : c.val < 1536) :
    Rotary.turned (N := 2048) rfl (fun c => P (col c)) cs sn c = Rotary.turned (N := 1536) rfl P cs sn (col c) := by
  refine Rotary.turned_pull rfl rfl col P cs sn c ?_ (fun h => ?_) (fun h => ?_)
  · rw [col_val]
    split_ifs <;> omega
  · simp only [col_val]
    split_ifs <;> omega
  · simp only [col_val]
    split_ifs <;> omega

theorem resultOf_apply (p : FVec Ideal S2x8192x1536 .f32) (b : Fin 2) (n : Fin 8192) (c : Fin 2048) :
    resultOf p (ix2 ⟨8192 * b.val + n.val, by omega⟩ c) = sections (fun c => p (ix3 b n (col c))) (cosRow n) (sinRow n) c := by
  unfold resultOf sections
  rw [joined_apply]
  by_cases h0 : c.val < 1024
  · rw [dif_pos h0, if_pos h0, scaled_apply, turned_col (fun c => p (ix3 b n c)) _ _ c (by omega)]
    refine congrArg (fun a : EReal => a * Ideal.ofBits .f32 0x3E000000#32) ((turn0_apply p b n ⟨c.val, h0⟩).trans ?_)
    refine congrArg (fun c => Rotary.turned (N := 1536) rfl (fun c => p (ix3 b n c)) (cosRow n) (sinRow n) c) (Fin.ext ?_)
    rw [col_val, if_pos h0]
    exact Nat.zero_add _
  rw [dif_neg h0, if_neg h0]
  by_cases h1 : c.val < 1536
  · rw [dif_pos (show c.val - 1024 < 512 by omega), if_pos h1, twice_apply, turned_col (fun c => p (ix3 b n c)) _ _ c h1]
    refine (turn1024_apply p b n _).trans ?_
    refine congrArg (fun c => Rotary.turned (N := 1536) rfl (fun c => p (ix3 b n c)) (cosRow n) (sinRow n) c) (Fin.ext ?_)
    rw [col_val, if_neg h0, if_pos h1]
  rw [dif_neg (show ¬c.val - 1024 < 512 by omega), if_neg h1, twice_apply]
  refine (slice1280_apply p b n _).trans (congrArg (fun c => p (ix3 b n c)) (Fin.ext ?_))
  rw [col_val, if_neg h0, if_neg h1]
  show 1280 + ((c.val - 1024 - 512) / 128 * 64 + (c.val - 1024 - 512) % 64) = _
  omega

/-- The projected rows. -/
def result (x : FVec Ideal S2x8192x1024 .f32) (sh sc : FVec Ideal S2x1024 .f32) (w : FVec Ideal S1024x1536 .f32) : FVec Ideal S16384x2048 .bf16 :=
  resultOf (product x sh sc w)

theorem res_eq (m : (ℓ : Loc nD τ sig) → Buf (Elt Ideal) ℓ) (c : Dev nD) :
    Value.res_main_v96 m c = result (m ((c.tc : Thread nD τ).loc main_arg0)) (m ((c.tc : Thread nD τ).loc main_arg1))
      (m ((c.tc : Thread nD τ).loc main_arg2)) (m ((c.tc : Thread nD τ).loc main_arg3)) := by
  unfold Value.res_main_v96
  rfl

theorem modulated_apply (x : FVec Ideal S2x8192x1024 .f32) (sh sc : FVec Ideal S2x1024 .f32) (b : Fin 2) (n : Fin 8192) (d : Fin 1024) :
    modulated x sh sc (ix3 b n d) = x (ix3 b n d) * (Ideal.ofBits .f32 0x3F800000#32 + sc (ix2 b d)) + sh (ix2 b d) := by
  unfold modulated
  pointwise

theorem product_apply (x : FVec Ideal S2x8192x1024 .f32) (sh sc : FVec Ideal S2x1024 .f32) (w : FVec Ideal S1024x1536 .f32)
    (b : Fin 2) (n : Fin 8192) (c : Fin 1536) :
    product x sh sc w (ix3 b n c) = ∑ d : Fin 1024, modulated x sh sc (ix3 b n d) * w (ix2 d c) := by
  unfold product
  pointwise

end Cert.OddInputReferenceIdeal.OddInputRef

end
-- ==== Proof.OddInputFinal.lean ====
/-
  The odd layer's input projection: a row block's tile of the kernel's result is the reference's tile, and the tiles cover
  the array.
-/
module

public import proofs.«01_k».proof.Proof.Gen.OddInputIdeal.Value
public import proofs.«01_k».proof.Proof.OddInputRef
public import Idealize.ShloMosaic.Lib.Pointwise
public import Idealize.ShloMosaic.Lib.Pipeline.ValueKit
public import Idealize.ShloMosaic.Lib.StableHlo.Run

@[expose] public section

set_option maxRecDepth 16384

noncomputable section

namespace Cert.OddInputIdeal.OddInputFinal

open Idealize.ShloMosaic Idealize.ShloMosaic.TcCoe Idealize.SL.Sem
open Cert.OddInputIdeal Cert.OddInputIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- A row block's scaled and shifted rows. -/
def modRow (x : Vec Ideal S512x1024 .f32) (sh sc : Vec Ideal S1x1x1024 .f32) (r : Fin 512) (d : Fin 1024) : EReal :=
  x (ix2 r d) * (Ideal.ofBits .f32 0x3F800000#32 + sc (ix3 0 0 d)) + sh (ix3 0 0 d)

/-- A row block's product with the weights. -/
def prodRow (x : Vec Ideal S512x1024 .f32) (sh sc : Vec Ideal S1x1x1024 .f32) (w : Vec Ideal S1024x2048 .bf16) (r : Fin 512) (c : Fin 2048) : EReal :=
  ∑ d : Fin 1024, modRow x sh sc r d * w (ix2 d c)

theorem pay4_apply (x : Vec Ideal S512x1024 .f32) (sh sc : Vec Ideal S1x1x1024 .f32) (r : Fin 512) (d : Fin 1024) :
    k0_pay4 x sc sh (ix2 r d) = modRow x sh sc r d := by
  unfold k0_pay4 modRow
  pointwise

/-- 256 of the weights' columns. -/
abbrev cols (w : Vec Ideal S1024x2048 .bf16) (o : Nat) (hw : ∀ a, (![0, o] : Fin 2 → Nat) a + S1024x256.size a ≤ S1024x2048.size a) :
    Vec Ideal S1024x256 .bf16 := View.ld w (Rect.unit (s := S1024x2048) ![0, o] S1024x256.size hw)

theorem cols_apply (w : Vec Ideal S1024x2048 .bf16) (o : Nat) (hw : ∀ a, (![0, o] : Fin 2 → Nat) a + S1024x256.size a ≤ S1024x2048.size a)
    (ho : o + 256 ≤ 2048) (d : Fin 1024) (e : Fin 256) : cols w o hw (ix2 d e) = w (ix2 d ⟨o + e.val, by omega⟩) := by
  refine congrArg w (funext fun a => Fin.ext ?_)
  match a with
  | ⟨0, _⟩ => show 0 + 1 * d.val = d.val; omega
  | ⟨1, _⟩ => show o + 1 * e.val = o + e.val; omega

theorem prod_apply (x : Vec Ideal S512x1024 .f32) (sh sc : Vec Ideal S1x1x1024 .f32) (w : Vec Ideal S1024x2048 .bf16) (o : Nat)
    (hw : ∀ a, (![0, o] : Fin 2 → Nat) a + S1024x256.size a ≤ S1024x2048.size a) (h : o + 256 ≤ 2048) (r : Fin 512) (e : Fin 256) :
    k0_pay12 (k0_pay4 x sc sh) (cols w o hw) (ix2 r e) = prodRow x sh sc w r ⟨o + e.val, by omega⟩ := by
  have hm : ∀ (h : FVec Ideal S512x1024 .bf16) (w : Vec Ideal S1024x256 .bf16),
      k0_pay12 h w (ix2 r e) = ∑ d : Fin 1024, h (ix2 r d) * w (ix2 d e) := fun h w => by
    unfold k0_pay12
    pointwise
  rw [hm]
  unfold prodRow
  refine Finset.sum_congr rfl fun d _ => ?_
  rw [pay4_apply, cols_apply w o hw h]

theorem table_apply (v : Vec Ideal S512x128 .f32) (r : Fin 512) (e : Fin 256) :
    k0_pay13 v (ix2 r e) = v (ix2 r ⟨e.val % 128, by omega⟩) := by
  unfold k0_pay13
  pointwise
  by_cases h : e.val < 128
  · rw [dif_pos h]
    exact congrArg (fun l => v (ix2 r l)) (Fin.ext (show e.val = e.val % 128 by omega))
  · rw [dif_neg h]
    exact congrArg (fun l => v (ix2 r l)) (Fin.ext (show e.val - 128 = e.val % 128 by omega))

/-- The kernel's turn of 256 columns. -/
abbrev turnPlain (a : FVec Ideal S512x256 .f32) (p q : Vec Ideal S512x128 .f32) : FVec Ideal S512x256 .bf16 :=
  k0_pay33 a (k0_pay13 p) (k0_pay13 q) k0_pay31 (dynamicRotate 1 224#32 none a rotates_S512x256_d1) 32#32

/-- The kernel's turn of 256 columns with the scale. -/
abbrev turnScaled (a : FVec Ideal S512x256 .f32) (p q : Vec Ideal S512x128 .f32) : FVec Ideal S512x256 .bf16 :=
  k0_pay16 a (k0_pay13 p) (k0_pay13 q) k0_pay15

theorem turnPlain_apply (a : FVec Ideal S512x256 .f32) (p q : Vec Ideal S512x128 .f32) (r : Fin 512) (e : Fin 256) :
    turnPlain a p q (ix2 r e) = Rotary.paired (fun e => a (ix2 r e)) (fun l => p (ix2 r l)) (fun l => q (ix2 r l)) e := by
  unfold turnPlain k0_pay33 k0_pay31
  pointwise [table_apply]
  rfl

theorem turnScaled_apply (a : FVec Ideal S512x256 .f32) (p q : Vec Ideal S512x128 .f32) (r : Fin 512) (e : Fin 256) :
    turnScaled a p q (ix2 r e)
      = Rotary.paired (fun e => a (ix2 r e)) (fun l => p (ix2 r l)) (fun l => q (ix2 r l)) e * Ideal.ofBits .f32 0x3E000000#32 := by
  unfold turnScaled k0_pay16 k0_pay15
  pointwise [table_apply]
  rfl

/-- A row block's tile. -/
def tile (x : Vec Ideal S512x1024 .f32) (sh sc : Vec Ideal S1x1x1024 .f32) (w : Vec Ideal S1024x2048 .bf16) (cs sn : Fin 512 → Fin 32 → EReal) : Vec Ideal S512x2048 .bf16 :=
  fun y => Cert.OddInputReferenceIdeal.OddInputRef.sections (prodRow x sh sc w (y 0)) (cs (y 0)) (sn (y 0)) (y 1)

/-- 256 columns that are the tile's, at their place in the block. -/
theorem piece (x : Vec Ideal S512x1024 .f32) (sh sc : Vec Ideal S1x1x1024 .f32) (w : Vec Ideal S1024x2048 .bf16) (cs sn : Fin 512 → Fin 32 → EReal) (o : Nat)
    (ho : ∀ a, (![0, o] : Fin 2 → Nat) a + S512x256.size a ≤ S512x2048.size a) (h : o + 256 ≤ 2048) (v : FVec Ideal S512x256 .bf16)
    (hv : ∀ r e, v (ix2 r e) = Cert.OddInputReferenceIdeal.OddInputRef.sections (prodRow x sh sc w r) (cs r) (sn r) ⟨o + e.val, by omega⟩) (y : S512x256.Idx) :
    v y = tile x sh sc w cs sn ((Rect.unit (s := S512x2048) ![0, o] S512x256.size ho).idx y) := by
  obtain ⟨r, e, rfl⟩ : ∃ (r : Fin 512) (e : Fin 256), y = ix2 r e := ⟨y 0, y 1, eq_ix2 y⟩
  refine (hv r e).trans ?_
  refine congrArg₂ (fun r c => Cert.OddInputReferenceIdeal.OddInputRef.sections (prodRow x sh sc w r) (cs r) (sn r) c) (Fin.ext ?_) (Fin.ext ?_)
  · show r.val = 0 + 1 * r.val
    omega
  · show o + e.val = o + 1 * e.val
    omega

theorem plain (x : Vec Ideal S512x1024 .f32) (sh sc : Vec Ideal S1x1x1024 .f32) (w : Vec Ideal S1024x2048 .bf16) (cs sn : Fin 512 → Fin 32 → EReal) (o : Nat)
    (hw : ∀ a, (![0, o] : Fin 2 → Nat) a + S1024x256.size a ≤ S1024x2048.size a)
    (ho : ∀ a, (![0, o] : Fin 2 → Nat) a + S512x256.size a ≤ S512x2048.size a)
    (h : o + 256 ≤ 2048) (hs : 1536 ≤ o) (y : S512x256.Idx) :
    k0_pay2 (k0_pay4 x sc sh) (cols w o hw) y = tile x sh sc w cs sn ((Rect.unit (s := S512x2048) ![0, o] S512x256.size ho).idx y) := by
  refine piece x sh sc w cs sn o ho h _ (fun r e => (prod_apply x sh sc w o hw h r e).trans ?_) y
  unfold Cert.OddInputReferenceIdeal.OddInputRef.sections
  rw [if_neg (show ¬o + e.val < 1024 by omega), if_neg (show ¬o + e.val < 1536 by omega)]

theorem paired_prod (x : Vec Ideal S512x1024 .f32) (sh sc : Vec Ideal S1x1x1024 .f32) (w : Vec Ideal S1024x2048 .bf16)
    (p q : Vec Ideal S512x128 .f32) (cs sn : Fin 512 → Fin 32 → EReal)
    (hp : ∀ r l, p (ix2 r l) = cs r ⟨l.val % 32, by omega⟩) (hq : ∀ r l, q (ix2 r l) = Rotary.signed (sn r) l.val) (o : Nat)
    (hw : ∀ a, (![0, o] : Fin 2 → Nat) a + S1024x256.size a ≤ S1024x2048.size a) (h : o + 256 ≤ 2048) (h64 : o % 64 = 0) (r : Fin 512) (e : Fin 256) :
    Rotary.paired (fun e => k0_pay12 (k0_pay4 x sc sh) (cols w o hw) (ix2 r e)) (fun l => p (ix2 r l)) (fun l => q (ix2 r l)) e
      = Rotary.turned (N := 2048) rfl (prodRow x sh sc w r) (cs r) (sn r) ⟨o + e.val, by omega⟩ := by
  rw [show (fun e => k0_pay12 (k0_pay4 x sc sh) (cols w o hw) (ix2 r e)) = fun e : Fin 256 => prodRow x sh sc w r ⟨o + e.val, by omega⟩ from
      funext fun e => prod_apply x sh sc w o hw h r e,
    show (fun l => p (ix2 r l)) = fun l : Fin 128 => cs r ⟨l.val % 32, by omega⟩ from funext fun l => hp r l,
    show (fun l => q (ix2 r l)) = fun l : Fin 128 => Rotary.signed (sn r) l.val from funext fun l => hq r l]
  exact Rotary.paired_eq rfl (prodRow x sh sc w r) (cs r) (sn r) o h h64 e

theorem turnedPiece (x : Vec Ideal S512x1024 .f32) (sh sc : Vec Ideal S1x1x1024 .f32) (w : Vec Ideal S1024x2048 .bf16)
    (p q : Vec Ideal S512x128 .f32) (cs sn : Fin 512 → Fin 32 → EReal)
    (hp : ∀ r l, p (ix2 r l) = cs r ⟨l.val % 32, by omega⟩) (hq : ∀ r l, q (ix2 r l) = Rotary.signed (sn r) l.val) (o : Nat)
    (hw : ∀ a, (![0, o] : Fin 2 → Nat) a + S1024x256.size a ≤ S1024x2048.size a)
    (ho : ∀ a, (![0, o] : Fin 2 → Nat) a + S512x256.size a ≤ S512x2048.size a)
    (h : o + 256 ≤ 2048) (h64 : o % 64 = 0) (hs : 1024 ≤ o ∧ o + 256 ≤ 1536) (y : S512x256.Idx) :
    turnPlain (k0_pay12 (k0_pay4 x sc sh) (cols w o hw)) p q y
      = tile x sh sc w cs sn ((Rect.unit (s := S512x2048) ![0, o] S512x256.size ho).idx y) := by
  refine piece x sh sc w cs sn o ho h _ (fun r e => (turnPlain_apply _ p q r e).trans ?_) y
  rw [paired_prod x sh sc w p q cs sn hp hq o hw h h64]
  unfold Cert.OddInputReferenceIdeal.OddInputRef.sections
  rw [if_neg (show ¬o + e.val < 1024 by omega), if_pos (show o + e.val < 1536 by omega)]

theorem turnedScaledPiece (x : Vec Ideal S512x1024 .f32) (sh sc : Vec Ideal S1x1x1024 .f32) (w : Vec Ideal S1024x2048 .bf16)
    (p q : Vec Ideal S512x128 .f32) (cs sn : Fin 512 → Fin 32 → EReal)
    (hp : ∀ r l, p (ix2 r l) = cs r ⟨l.val % 32, by omega⟩) (hq : ∀ r l, q (ix2 r l) = Rotary.signed (sn r) l.val) (o : Nat)
    (hw : ∀ a, (![0, o] : Fin 2 → Nat) a + S1024x256.size a ≤ S1024x2048.size a)
    (ho : ∀ a, (![0, o] : Fin 2 → Nat) a + S512x256.size a ≤ S512x2048.size a)
    (h : o + 256 ≤ 2048) (h64 : o % 64 = 0) (hs : 0 ≤ o ∧ o + 256 ≤ 1024) (y : S512x256.Idx) :
    turnScaled (k0_pay12 (k0_pay4 x sc sh) (cols w o hw)) p q y
      = tile x sh sc w cs sn ((Rect.unit (s := S512x2048) ![0, o] S512x256.size ho).idx y) := by
  refine piece x sh sc w cs sn o ho h _ (fun r e => (turnScaled_apply _ p q r e).trans ?_) y
  rw [paired_prod x sh sc w p q cs sn hp hq o hw h h64]
  unfold Cert.OddInputReferenceIdeal.OddInputRef.sections
  rw [if_pos (show o + e.val < 1024 by omega)]

theorem out6_eq (x : Vec Ideal S512x1024 .f32) (sh sc : Vec Ideal S1x1x1024 .f32) (w : Vec Ideal S1024x2048 .bf16)
    (p q : Vec Ideal S512x128 .f32) (cs sn : Fin 512 → Fin 32 → EReal)
    (hp : ∀ r l, p (ix2 r l) = cs r ⟨l.val % 32, by omega⟩) (hq : ∀ r l, q (ix2 r l) = Rotary.signed (sn r) l.val) :
    out0_6 x sh sc w p q = tile x sh sc w cs sn := by
  unfold_out out0_6
  simp only [View.ld_unit_zero (S := S512x1024) hz2, View.ld_unit_zero (S := S1x1x1024) hz3, View.ld_unit_zero (S := S512x128) hz2]
  funext y
  refine View.canon_apply_of_pieces (tile x sh sc w cs sn) _ ?_ y (cover0_6 _ _ _ _ _ _ _ _ y)
  intro pc hpc
  simp only [List.mem_cons, List.not_mem_nil, or_false] at hpc
  rcases hpc with rfl | rfl | rfl | rfl | rfl | rfl | rfl | rfl
  · exact fun y => plain x sh sc w cs sn 1792 inb_S1024x2048_S1024x256_0_1792 inb_S512x2048_S512x256_0_1792 (by omega) (by omega) y
  · exact fun y => plain x sh sc w cs sn 1536 inb_S1024x2048_S1024x256_0_1536 inb_S512x2048_S512x256_0_1536 (by omega) (by omega) y
  · exact fun y => turnedPiece x sh sc w p q cs sn hp hq 1280 inb_S1024x2048_S1024x256_0_1280 inb_S512x2048_S512x256_0_1280 (by omega) (by omega) (by omega) y
  · exact fun y => turnedPiece x sh sc w p q cs sn hp hq 1024 inb_S1024x2048_S1024x256_0_1024 inb_S512x2048_S512x256_0_1024 (by omega) (by omega) (by omega) y
  · exact fun y => turnedScaledPiece x sh sc w p q cs sn hp hq 768 inb_S1024x2048_S1024x256_0_768 inb_S512x2048_S512x256_0_768 (by omega) (by omega) (by omega) y
  · exact fun y => turnedScaledPiece x sh sc w p q cs sn hp hq 512 inb_S1024x2048_S1024x256_0_512 inb_S512x2048_S512x256_0_512 (by omega) (by omega) (by omega) y
  · exact fun y => turnedScaledPiece x sh sc w p q cs sn hp hq 256 inb_S1024x2048_S1024x256_0_256 inb_S512x2048_S512x256_0_256 (by omega) (by omega) (by omega) y
  · exact fun y => turnedScaledPiece x sh sc w p q cs sn hp hq 0 inb_S1024x2048_S1024x256_0_0 inb_S512x2048_S512x256_0_0 (by omega) (by omega) (by omega) y

/-- The kernel's table of cosines, four copies side by side. -/
def cosTable : FVec Ideal S8192x128 .f32 :=
  concatenate S8192x128 1 [⟨S8192x32, Host.cos Cert.OddInputReferenceIdeal.OddInputRef.angle⟩, ⟨S8192x32, Host.cos Cert.OddInputReferenceIdeal.OddInputRef.angle⟩, ⟨S8192x32, Host.cos Cert.OddInputReferenceIdeal.OddInputRef.angle⟩,
    ⟨S8192x32, Host.cos Cert.OddInputReferenceIdeal.OddInputRef.angle⟩] concatenates_S8192x32_S8192x32_S8192x32_S8192x32_S8192x128_d1

/-- The kernel's table of signed sines. -/
def sinTable : FVec Ideal S8192x128 .f32 :=
  concatenate S8192x128 1 [⟨S8192x32, Host.negf (Host.sin Cert.OddInputReferenceIdeal.OddInputRef.angle)⟩, ⟨S8192x32, Host.sin Cert.OddInputReferenceIdeal.OddInputRef.angle⟩,
    ⟨S8192x32, Host.negf (Host.sin Cert.OddInputReferenceIdeal.OddInputRef.angle)⟩, ⟨S8192x32, Host.sin Cert.OddInputReferenceIdeal.OddInputRef.angle⟩]
    concatenates_S8192x32_S8192x32_S8192x32_S8192x32_S8192x128_d1

theorem four_apply (t0 t1 t2 t3 : FVec Ideal S8192x32 .f32) (n : Fin 8192) (l : Fin 128) :
    concatenate S8192x128 1 [⟨S8192x32, t0⟩, ⟨S8192x32, t1⟩, ⟨S8192x32, t2⟩, ⟨S8192x32, t3⟩]
      concatenates_S8192x32_S8192x32_S8192x32_S8192x32_S8192x128_d1 (ix2 n l)
      = if h : l.val < 32 then t0 (ix2 n ⟨l.val, h⟩)
        else if h : l.val - 32 < 32 then t1 (ix2 n ⟨l.val - 32, h⟩)
        else if h : l.val - 32 - 32 < 32 then t2 (ix2 n ⟨l.val - 32 - 32, h⟩)
        else t3 (ix2 n ⟨l.val - 32 - 32 - 32, by omega⟩) := by
  pointwise

theorem cosTable_apply (n : Fin 8192) (l : Fin 128) : cosTable (ix2 n l) = Cert.OddInputReferenceIdeal.OddInputRef.cosRow n ⟨l.val % 32, by omega⟩ := by
  unfold cosTable
  rw [four_apply]
  by_cases h0 : l.val < 32
  · rw [dif_pos h0]
    exact congrArg (Cert.OddInputReferenceIdeal.OddInputRef.cosRow n) (Fin.ext (show l.val = l.val % 32 by omega))
  rw [dif_neg h0]
  by_cases h1 : l.val - 32 < 32
  · rw [dif_pos h1]
    exact congrArg (Cert.OddInputReferenceIdeal.OddInputRef.cosRow n) (Fin.ext (show l.val - 32 = l.val % 32 by omega))
  rw [dif_neg h1]
  by_cases h2 : l.val - 32 - 32 < 32
  · rw [dif_pos h2]
    exact congrArg (Cert.OddInputReferenceIdeal.OddInputRef.cosRow n) (Fin.ext (show l.val - 32 - 32 = l.val % 32 by omega))
  rw [dif_neg h2]
  exact congrArg (Cert.OddInputReferenceIdeal.OddInputRef.cosRow n) (Fin.ext (show l.val - 32 - 32 - 32 = l.val % 32 by omega))

theorem sinTable_apply (n : Fin 8192) (l : Fin 128) : sinTable (ix2 n l) = Rotary.signed (Cert.OddInputReferenceIdeal.OddInputRef.sinRow n) l.val := by
  unfold sinTable Rotary.signed
  rw [four_apply]
  by_cases h0 : l.val < 32
  · rw [dif_pos h0, if_pos (show l.val % 64 < 32 by omega)]
    exact congrArg (fun k => -Cert.OddInputReferenceIdeal.OddInputRef.sinRow n k) (Fin.ext (show l.val = l.val % 32 by omega))
  rw [dif_neg h0]
  by_cases h1 : l.val - 32 < 32
  · rw [dif_pos h1, if_neg (show ¬l.val % 64 < 32 by omega)]
    exact congrArg (Cert.OddInputReferenceIdeal.OddInputRef.sinRow n) (Fin.ext (show l.val - 32 = l.val % 32 by omega))
  rw [dif_neg h1]
  by_cases h2 : l.val - 32 - 32 < 32
  · rw [dif_pos h2, if_pos (show l.val % 64 < 32 by omega)]
    exact congrArg (fun k => -Cert.OddInputReferenceIdeal.OddInputRef.sinRow n k) (Fin.ext (show l.val - 32 - 32 = l.val % 32 by omega))
  rw [dif_neg h2, if_neg (show ¬l.val % 64 < 32 by omega)]
  exact congrArg (Cert.OddInputReferenceIdeal.OddInputRef.sinRow n) (Fin.ext (show l.val - 32 - 32 - 32 = l.val % 32 by omega))

variable (m : (ℓ : Loc nD τ sig) → Buf (Elt Ideal) ℓ) (c : Dev nD)

abbrev argX : FVec Ideal S2x8192x1024 .f32 := m ((c : Thread nD τ).loc main_arg0)
abbrev argShift : FVec Ideal S2x1024 .f32 := m ((c : Thread nD τ).loc main_arg1)
abbrev argScale : FVec Ideal S2x1024 .f32 := m ((c : Thread nD τ).loc main_arg2)
abbrev argW : FVec Ideal S1024x1536 .f32 := m ((c : Thread nD τ).loc main_arg3)

theorem V_x : V m c main_v22 = shapeCast S16384x1024 (argX m c) shapeCasts_S2x8192x1024_S16384x1024 := by
  unfold_abbrev_sides
  after_results_simp
  rfl

theorem V_shift : V m c main_v23 = shapeCast S2x1x1024 (argShift m c) shapeCasts_S2x1024_S2x1x1024 := by
  unfold_abbrev_sides
  after_results_simp
  rfl

theorem V_scale : V m c main_v24 = shapeCast S2x1x1024 (argScale m c) shapeCasts_S2x1024_S2x1x1024 := by
  unfold_abbrev_sides
  after_results_simp
  rfl

/-- The columns' places, as the host code lists them. -/
def places : IVec S2048x1 32 :=
  broadcastInDim S2048x1 ![0] bcast_S2048_S2048x1_0 (select (constantI S2048 1 0#1)
    (addi (fun i => lit0 (S2048.rowMajor i)) (broadcastInDim S2048 ![] bcast_S_S2048 (constantI S_ 32 1536#32)))
    (fun i => lit0 (S2048.rowMajor i)))

/-- The weights with the key and value columns repeated. -/
def weights (w : FVec Ideal S1024x1536 .f32) : FVec Ideal S1024x2048 .f32 :=
  Host.gather gather_S1024x1536_S2048x1_S1024x2048_0_1_n_n_1_1_10241 w places

theorem V_w : V m c main_v30 = truncf .bf16 (weights (argW m c)) bitsLt_bf16_f32 := by
  unfold_abbrev_sides
  after_results_simp
  rfl

theorem lit_eq : ∀ e : Fin 2048, min (lit0 e).toInt.toNat 1535 = (Cert.OddInputReferenceIdeal.OddInputRef.col e).val := by
  decide +kernel

theorem places_apply (e : Fin 2048) : places (ix2 e 0) = lit0 e := by
  have h : S2048.rowMajor (ix1 e) = e := Fin.ext (rowMajor_val1 (ix1 e))
  refine Eq.trans ?_ (congrArg lit0 h)
  unfold places
  pointwise

/-- A gather of columns, read at an entry. -/
theorem weights_apply (w : FVec Ideal S1024x1536 .f32) (d : Fin 1024) (e : Fin 2048) :
    weights w (ix2 d e) = w (ix2 d (Cert.OddInputReferenceIdeal.OddInputRef.col e)) := by
  unfold weights Host.gather
  refine congrArg w (funext fun a => Fin.ext ?_)
  match a with
  | ⟨0, _⟩ =>
    show GatherDims.start gather_S1024x1536_S2048x1_S1024x2048_0_1_n_n_1_1_10241 (ix2 d e) places (0 : Fin 2) + GatherDims.batchCoord gather_S1024x1536_S2048x1_S1024x2048_0_1_n_n_1_1_10241 (ix2 d e) (0 : Fin 2)
        + GatherDims.offCoord gather_S1024x1536_S2048x1_S1024x2048_0_1_n_n_1_1_10241 (ix2 d e) (0 : Fin 2) = d.val
    rw [GatherDims.batchCoord_eq_zero _ _ _ List.not_mem_nil]
    unfold GatherDims.start
    have h0 : (0 : Fin 2) ∉ ([1] : List (Fin 2)) := by decide
    rw [dif_neg (show (0 : Fin 2) ∉ gather_S1024x1536_S2048x1_S1024x2048_0_1_n_n_1_1_10241.startIndexMap from h0)]
    unfold GatherDims.offCoord
    rw [dif_pos ((GatherDims.mem_sKept _ _).mpr ⟨h0, List.not_mem_nil⟩)]
    simp only [Nat.zero_add]
    rfl
  | ⟨1, _⟩ =>
    show GatherDims.start gather_S1024x1536_S2048x1_S1024x2048_0_1_n_n_1_1_10241 (ix2 d e) places (1 : Fin 2) + GatherDims.batchCoord gather_S1024x1536_S2048x1_S1024x2048_0_1_n_n_1_1_10241 (ix2 d e) (1 : Fin 2)
        + GatherDims.offCoord gather_S1024x1536_S2048x1_S1024x2048_0_1_n_n_1_1_10241 (ix2 d e) (1 : Fin 2) = (Cert.OddInputReferenceIdeal.OddInputRef.col e).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S1024x1536_S2048x1_S1024x2048_0_1_n_n_1_1_10241.startIndexMap from List.mem_singleton.mpr rfl)]
    refine Eq.trans ?_ (lit_eq e)
    refine congrArg (fun v : BitVec 32 => min v.toInt.toNat 1535) (Eq.trans (congrArg places (funext fun b => Fin.ext ?_)) (places_apply e))
    match b with
    | ⟨0, _⟩ => rfl
    | ⟨1, _⟩ => rfl

theorem V_cos : V m c main_v19 = cosTable := by
  unfold_abbrev_sides
  after_results_simp
  rfl

theorem V_sin : V m c main_v21 = sinTable := by
  unfold_abbrev_sides
  after_results_simp
  rfl

theorem x_apply (x : FVec Ideal S2x8192x1024 .f32) (b : Fin 2) (n : Fin 8192) (d : Fin 1024) :
    shapeCast S16384x1024 x shapeCasts_S2x8192x1024_S16384x1024 (ix2 ⟨8192 * b.val + n.val, by omega⟩ d) = x (ix3 b n d) := by
  pointwise

theorem vec_apply (x : FVec Ideal S2x1024 .f32) (b : Fin 2) (d : Fin 1024) :
    shapeCast S2x1x1024 x shapeCasts_S2x1024_S2x1x1024 (ix3 b 0 d) = x (ix2 b d) := by
  pointwise

theorem index0 : ∀ t : Fin grid0.N, win0_0.index t 0 = t.val ∧ win0_0.index t 1 = 0 := by decide +kernel
theorem index1 : ∀ t : Fin grid0.N, win0_1.index t 0 = t.val / 16 ∧ win0_1.index t 1 = 0 ∧ win0_1.index t 2 = 0 := by decide +kernel
theorem index2 : ∀ t : Fin grid0.N, win0_2.index t 0 = t.val / 16 ∧ win0_2.index t 1 = 0 ∧ win0_2.index t 2 = 0 := by decide +kernel
theorem index3 : ∀ t : Fin grid0.N, win0_3.index t 0 = 0 ∧ win0_3.index t 1 = 0 := by decide +kernel
theorem index4 : ∀ t : Fin grid0.N, win0_4.index t 0 = t.val % 16 ∧ win0_4.index t 1 = 0 := by decide +kernel
theorem index5 : ∀ t : Fin grid0.N, win0_5.index t 0 = t.val % 16 ∧ win0_5.index t 1 = 0 := by decide +kernel
theorem index6 : ∀ t : Fin grid0.N, win0_6.index t 0 = t.val ∧ win0_6.index t 1 = 0 := by decide +kernel

theorem lt_N (t : Fin cfg0.N) : t.val < 32 := lt_of_lt_of_eq t.isLt (show cfg0.N = 32 from N_0)

/-- The batch and the token of a row of a row block. -/
abbrev batch (t : Fin cfg0.N) : Fin 2 := ⟨t.val / 16, by have := lt_N t; omega⟩
abbrev token (t : Fin cfg0.N) (r : Fin 512) : Fin 8192 := ⟨512 * (t.val % 16) + r.val, by omega⟩

theorem block0 (t : Fin cfg0.N) (r : Fin 512) (d : Fin 1024) :
    (iblk m c 0 t : Vec Ideal S512x1024 .f32) (ix2 r d) = argX m c (ix3 (batch t) (token t r) d) := by
  have hi := index0 t
  refine Eq.trans ?_ ((congrFun (V_x m c) (ix2 ⟨8192 * (batch t).val + (token t r).val, by omega⟩ d)).trans (x_apply (argX m c) (batch t) (token t r) d))
  unfold iblk
  rw [View.read_apply]
  show (V m c main_v22 : FVec Ideal S16384x1024 .f32) _ = V m c main_v22 _
  congr 1
  funext a
  apply Fin.ext
  match a with
  | ⟨0, _⟩ => show win0_0.index t 0 * 512 + 1 * r.val = 8192 * (t.val / 16) + (512 * (t.val % 16) + r.val); rw [hi.1]; omega
  | ⟨1, _⟩ => show win0_0.index t 1 * 1024 + 1 * d.val = d.val; rw [hi.2]; omega

theorem block1 (t : Fin cfg0.N) (d : Fin 1024) :
    (iblk m c 1 t : Vec Ideal S1x1x1024 .f32) (ix3 0 0 d) = argShift m c (ix2 (batch t) d) := by
  have hi := index1 t
  refine Eq.trans ?_ ((congrFun (V_shift m c) (ix3 (batch t) 0 d)).trans (vec_apply (argShift m c) (batch t) d))
  unfold iblk
  rw [View.read_apply]
  show (V m c main_v23 : FVec Ideal S2x1x1024 .f32) _ = V m c main_v23 _
  congr 1
  funext a
  apply Fin.ext
  match a with
  | ⟨0, _⟩ => show win0_1.index t 0 * 1 + 1 * 0 = t.val / 16; rw [hi.1]; omega
  | ⟨1, _⟩ => show win0_1.index t 1 * 1 + 1 * 0 = 0; rw [hi.2.1]
  | ⟨2, _⟩ => show win0_1.index t 2 * 1024 + 1 * d.val = d.val; rw [hi.2.2]; omega

theorem block2 (t : Fin cfg0.N) (d : Fin 1024) :
    (iblk m c 2 t : Vec Ideal S1x1x1024 .f32) (ix3 0 0 d) = argScale m c (ix2 (batch t) d) := by
  have hi := index2 t
  refine Eq.trans ?_ ((congrFun (V_scale m c) (ix3 (batch t) 0 d)).trans (vec_apply (argScale m c) (batch t) d))
  unfold iblk
  rw [View.read_apply]
  show (V m c main_v24 : FVec Ideal S2x1x1024 .f32) _ = V m c main_v24 _
  congr 1
  funext a
  apply Fin.ext
  match a with
  | ⟨0, _⟩ => show win0_2.index t 0 * 1 + 1 * 0 = t.val / 16; rw [hi.1]; omega
  | ⟨1, _⟩ => show win0_2.index t 1 * 1 + 1 * 0 = 0; rw [hi.2.1]
  | ⟨2, _⟩ => show win0_2.index t 2 * 1024 + 1 * d.val = d.val; rw [hi.2.2]; omega

theorem block3 (t : Fin cfg0.N) (d : Fin 1024) (e : Fin 2048) :
    (iblk m c 3 t : Vec Ideal S1024x2048 .bf16) (ix2 d e) = argW m c (ix2 d (Cert.OddInputReferenceIdeal.OddInputRef.col e)) := by
  have hi := index3 t
  refine Eq.trans ?_ ((congrFun (V_w m c) (ix2 d e)).trans (weights_apply (argW m c) d e))
  unfold iblk
  rw [View.read_apply]
  show (V m c main_v30 : FVec Ideal S1024x2048 .bf16) _ = V m c main_v30 _
  congr 1
  funext a
  apply Fin.ext
  match a with
  | ⟨0, _⟩ => show win0_3.index t 0 * 1024 + 1 * d.val = d.val; rw [hi.1]; omega
  | ⟨1, _⟩ => show win0_3.index t 1 * 2048 + 1 * e.val = e.val; rw [hi.2]; omega

theorem block4 (t : Fin cfg0.N) (r : Fin 512) (l : Fin 128) :
    (iblk m c 4 t : Vec Ideal S512x128 .f32) (ix2 r l) = Cert.OddInputReferenceIdeal.OddInputRef.cosRow (token t r) ⟨l.val % 32, by omega⟩ := by
  have hi := index4 t
  refine Eq.trans ?_ ((congrFun (V_cos m c) (ix2 (token t r) l)).trans (cosTable_apply (token t r) l))
  unfold iblk
  rw [View.read_apply]
  show (V m c main_v19 : FVec Ideal S8192x128 .f32) _ = V m c main_v19 _
  congr 1
  funext a
  apply Fin.ext
  match a with
  | ⟨0, _⟩ => show win0_4.index t 0 * 512 + 1 * r.val = 512 * (t.val % 16) + r.val; rw [hi.1]; omega
  | ⟨1, _⟩ => show win0_4.index t 1 * 128 + 1 * l.val = l.val; rw [hi.2]; omega

theorem block5 (t : Fin cfg0.N) (r : Fin 512) (l : Fin 128) :
    (iblk m c 5 t : Vec Ideal S512x128 .f32) (ix2 r l) = Rotary.signed (Cert.OddInputReferenceIdeal.OddInputRef.sinRow (token t r)) l.val := by
  have hi := index5 t
  refine Eq.trans ?_ ((congrFun (V_sin m c) (ix2 (token t r) l)).trans (sinTable_apply (token t r) l))
  unfold iblk
  rw [View.read_apply]
  show (V m c main_v21 : FVec Ideal S8192x128 .f32) _ = V m c main_v21 _
  congr 1
  funext a
  apply Fin.ext
  match a with
  | ⟨0, _⟩ => show win0_5.index t 0 * 512 + 1 * r.val = 512 * (t.val % 16) + r.val; rw [hi.1]; omega
  | ⟨1, _⟩ => show win0_5.index t 1 * 128 + 1 * l.val = l.val; rw [hi.2]; omega

/-- A row block's rows are the reference's. -/
theorem modRow_eq (t : Fin cfg0.N) (r : Fin 512) (d : Fin 1024) :
    modRow (iblk m c 0 t) (iblk m c 1 t) (iblk m c 2 t) r d
      = Cert.OddInputReferenceIdeal.OddInputRef.modulated (argX m c) (argShift m c) (argScale m c) (ix3 (batch t) (token t r) d) := by
  refine Eq.trans ?_ (Cert.OddInputReferenceIdeal.OddInputRef.modulated_apply (argX m c) (argShift m c) (argScale m c) (batch t) (token t r) d).symm
  unfold modRow
  rw [block0, block1, block2]

/-- A row block's product is the reference's, column by column with the heads repeated. -/
theorem prodRow_eq (t : Fin cfg0.N) (r : Fin 512) (e : Fin 2048) :
    prodRow (iblk m c 0 t) (iblk m c 1 t) (iblk m c 2 t) (iblk m c 3 t) r e
      = Cert.OddInputReferenceIdeal.OddInputRef.product (argX m c) (argShift m c) (argScale m c) (argW m c) (ix3 (batch t) (token t r) (Cert.OddInputReferenceIdeal.OddInputRef.col e)) := by
  refine Eq.trans (Finset.sum_congr rfl fun d _ => congrArg₂ (fun a b : EReal => a * b) (modRow_eq m c t r d) (block3 m c t d e)) ?_
  exact (Cert.OddInputReferenceIdeal.OddInputRef.product_apply (argX m c) (argShift m c) (argScale m c) (argW m c) (batch t) (token t r) (Cert.OddInputReferenceIdeal.OddInputRef.col e)).symm

/-- The result is the reference's. -/
theorem final : (dats m 0 c).arrAt 6 cfg0.N
    = Cert.OddInputReferenceIdeal.OddInputRef.result (argX m c) (argShift m c) (argScale m c) (argW m c) := by
  refine (dats m 0 c).arrAt_eq_of_covers 6 _ (by decide +kernel) fun t hf y => ?_
  have hi := index6 t
  refine (congrFun (Value.flushed6 m c t) y).trans ?_
  obtain ⟨r, e, rfl⟩ : ∃ (r : Fin 512) (e : Fin 2048), y = ix2 r e := ⟨y 0, y 1, eq_ix2 y⟩
  refine (congrFun (out6_eq (iblk m c 0 t) (iblk m c 1 t) (iblk m c 2 t) (iblk m c 3 t) (iblk m c 4 t) (iblk m c 5 t)
    (fun r => Cert.OddInputReferenceIdeal.OddInputRef.cosRow (token t r)) (fun r => Cert.OddInputReferenceIdeal.OddInputRef.sinRow (token t r)) (block4 m c t) (block5 m c t)) (ix2 r e)).trans ?_
  refine Eq.trans (congrArg (fun P => Cert.OddInputReferenceIdeal.OddInputRef.sections P (Cert.OddInputReferenceIdeal.OddInputRef.cosRow (token t r)) (Cert.OddInputReferenceIdeal.OddInputRef.sinRow (token t r)) e)
    (funext fun e => prodRow_eq m c t r e)) ?_
  refine (Cert.OddInputReferenceIdeal.OddInputRef.resultOf_apply _ (batch t) (token t r) e).symm.trans ?_
  refine congrArg (Cert.OddInputReferenceIdeal.OddInputRef.resultOf _) (funext fun a => Fin.ext ?_)
  match a with
  | ⟨0, _⟩ => show 8192 * (t.val / 16) + (512 * (t.val % 16) + r.val) = win0_6.index t 0 * 512 + 1 * r.val; rw [hi.1]; omega
  | ⟨1, _⟩ => show e.val = win0_6.index t 1 * 2048 + 1 * e.val; rw [hi.2]; omega

end Cert.OddInputIdeal.OddInputFinal

end
-- ==== Proof.lean ====
/-
  The certificate's claim (Defs.lean), for the calls of the encoder taken: each kernel and its idealization run to the end
  with their arguments unchanged and every counter at zero, and so does each reference; each idealized program is the
  kernel's; and each idealized kernel's results are its idealized reference's, those of the differential attention for
  finite values and parameter vectors.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Query
public import proofs.«01_k».proof.Proof.Gen.Query.Skeleton
public import proofs.«01_k».proof.Proof.Gen.Query.Launch
public import proofs.«01_k».proof.Proof.Gen.Query.Points
public import proofs.«01_k».proof.Proof.Gen.Query.Frame
public import proofs.«01_k».proof.Proof.Gen.QueryIdeal
public import proofs.«01_k».proof.Proof.Gen.QueryIdeal.Skeleton
public import proofs.«01_k».proof.Proof.Gen.QueryIdeal.Launch
public import proofs.«01_k».proof.Proof.Gen.QueryIdeal.Points
public import proofs.«01_k».proof.Proof.Gen.QueryIdeal.Frame
public import proofs.«01_k».proof.Proof.Gen.QueryIdeal.Value
public import proofs.«01_k».proof.Proof.Gen.QueryReferenceIdeal
public import proofs.«01_k».proof.Proof.Gen.QueryReferenceIdeal.Run
public import proofs.«01_k».proof.Proof.Gen.Input
public import proofs.«01_k».proof.Proof.Gen.Input.Skeleton
public import proofs.«01_k».proof.Proof.Gen.Input.Launch
public import proofs.«01_k».proof.Proof.Gen.Input.Points
public import proofs.«01_k».proof.Proof.Gen.Input.Frame
public import proofs.«01_k».proof.Proof.Gen.InputIdeal
public import proofs.«01_k».proof.Proof.Gen.InputIdeal.Skeleton
public import proofs.«01_k».proof.Proof.Gen.InputIdeal.Launch
public import proofs.«01_k».proof.Proof.Gen.InputIdeal.Points
public import proofs.«01_k».proof.Proof.Gen.InputIdeal.Frame
public import proofs.«01_k».proof.Proof.Gen.InputIdeal.Value
public import proofs.«01_k».proof.Proof.Gen.InputReferenceIdeal
public import proofs.«01_k».proof.Proof.Gen.InputReferenceIdeal.Run
public import proofs.«01_k».proof.Proof.Gen.Output
public import proofs.«01_k».proof.Proof.Gen.Output.Skeleton
public import proofs.«01_k».proof.Proof.Gen.Output.Launch
public import proofs.«01_k».proof.Proof.Gen.Output.Points
public import proofs.«01_k».proof.Proof.Gen.Output.Frame
public import proofs.«01_k».proof.Proof.Gen.OutputIdeal
public import proofs.«01_k».proof.Proof.Gen.OutputIdeal.Skeleton
public import proofs.«01_k».proof.Proof.Gen.OutputIdeal.Launch
public import proofs.«01_k».proof.Proof.Gen.OutputIdeal.Points
public import proofs.«01_k».proof.Proof.Gen.OutputIdeal.Frame
public import proofs.«01_k».proof.Proof.Gen.OutputIdeal.Value
public import proofs.«01_k».proof.Proof.Gen.OutputReferenceIdeal
public import proofs.«01_k».proof.Proof.Gen.OutputReferenceIdeal.Run
public import proofs.«01_k».proof.Proof.Gen.OddOutput
public import proofs.«01_k».proof.Proof.Gen.OddOutput.Skeleton
public import proofs.«01_k».proof.Proof.Gen.OddOutput.Launch
public import proofs.«01_k».proof.Proof.Gen.OddOutput.Points
public import proofs.«01_k».proof.Proof.Gen.OddOutput.Frame
public import proofs.«01_k».proof.Proof.Gen.OddOutputIdeal
public import proofs.«01_k».proof.Proof.Gen.OddOutputIdeal.Skeleton
public import proofs.«01_k».proof.Proof.Gen.OddOutputIdeal.Launch
public import proofs.«01_k».proof.Proof.Gen.OddOutputIdeal.Points
public import proofs.«01_k».proof.Proof.Gen.OddOutputIdeal.Frame
public import proofs.«01_k».proof.Proof.Gen.OddOutputIdeal.Value
public import proofs.«01_k».proof.Proof.Gen.OddOutputReferenceIdeal
public import proofs.«01_k».proof.Proof.Gen.OddOutputReferenceIdeal.Run
public import proofs.«01_k».proof.Proof.Gen.OddInput
public import proofs.«01_k».proof.Proof.Gen.OddInput.Skeleton
public import proofs.«01_k».proof.Proof.Gen.OddInput.Launch
public import proofs.«01_k».proof.Proof.Gen.OddInput.Points
public import proofs.«01_k».proof.Proof.Gen.OddInput.Frame
public import proofs.«01_k».proof.Proof.Gen.OddInputIdeal
public import proofs.«01_k».proof.Proof.Gen.OddInputIdeal.Skeleton
public import proofs.«01_k».proof.Proof.Gen.OddInputIdeal.Launch
public import proofs.«01_k».proof.Proof.Gen.OddInputIdeal.Points
public import proofs.«01_k».proof.Proof.Gen.OddInputIdeal.Frame
public import proofs.«01_k».proof.Proof.Gen.OddInputIdeal.Value
public import proofs.«01_k».proof.Proof.Gen.OddInputReferenceIdeal
public import proofs.«01_k».proof.Proof.Gen.OddInputReferenceIdeal.Run
public import proofs.«01_k».proof.Proof.Gen.Pre_finite_values
public import proofs.«01_k».proof.Proof.Gen.KernelIdeal.Value
public import proofs.«01_k».proof.Proof.Gen.ReferenceIdeal.Run
public import proofs.«01_k».proof.Proof.DiffFinal
public import Idealize.ShloMosaic.Adequacy
public import Idealize.ShloMosaic.Init
public import proofs.«01_k».proof.Proof.QueryFinal
public import proofs.«01_k».proof.Proof.InputFinal
public import proofs.«01_k».proof.Proof.OutputFinal
public import proofs.«01_k».proof.Proof.OddOutputFinal
public import proofs.«01_k».proof.Proof.OddInputFinal

@[expose] public section

noncomputable section

namespace Cert.Proof

open Idealize.ShloMosaic Idealize.SL.Sem Cert.KernelIdeal

/-- The reference runs from any memory with its arguments unchanged; it has no counter. -/
theorem reference_runs : Cert.quiescent_ReferenceIdeal := fun m g _ => (θ_run Cert.ReferenceIdeal.defs _ _).mono
  (fun r h => ⟨fun c => (h c).2, sem_eq_zero_of_no_sems (by decide) r.2⟩) (Cert.ReferenceIdeal.Value.run (F := Ideal) m g)

/-- The idealized kernel's result is the idealized reference's. -/
theorem algebraic : Cert.algebraic_KernelIdeal_ReferenceIdeal_pre_finite_values := by
  intro m g m' g' hpre hagree
  refine ⟨fun c => DiffFinal.result (DiffFinal.argQ m c) (DiffFinal.argK m c) (DiffFinal.argV m c) (DiffFinal.arg3 m c)
      (DiffFinal.arg4 m c) (DiffFinal.arg5 m c) (DiffFinal.arg6 m c) (DiffFinal.argG m c), ?_, ?_⟩
  · exact (θ_run Cert.KernelIdeal.defs _ _).mono
      (fun r h c => ⟨(h c).1.trans (DiffFinal.final m c (hpre c)), (h c).2⟩) (Cert.KernelIdeal.Value.run_blocks (F := Ideal) m g)
  · refine (θ_run Cert.ReferenceIdeal.defs _ _).mono (fun r h c => ⟨(h c).1.trans ?_, (h c).2⟩) (Cert.ReferenceIdeal.Value.run (F := Ideal) m' g')
    obtain ⟨h0, h1, h2, h3, h4, h5, h6, h7⟩ := hagree c
    refine (Cert.ReferenceIdeal.DiffRef.res_eq m' c).trans ?_
    rw [h0, h1, h2, h3, h4, h5, h6, h7]
    rfl

theorem query_reference_runs : Cert.quiescent_QueryReferenceIdeal := fun m g _ => (θ_run Cert.QueryReferenceIdeal.defs _ _).mono
  (fun r h => ⟨fun c => (h c).2.2, sem_eq_zero_of_no_sems (by decide) r.2⟩) (Cert.QueryReferenceIdeal.Value.run (F := Ideal) m g)

/-- The two results of the query projection are the reference's. -/
theorem query_algebraic : Cert.algebraic_QueryIdeal_QueryReferenceIdeal := by
  intro m g m' g' _ hagree
  refine ⟨fun c => Cert.QueryReferenceIdeal.QueryRef.queries (Cert.QueryIdeal.QueryFinal.argX m c) (Cert.QueryIdeal.QueryFinal.argShift m c)
      (Cert.QueryIdeal.QueryFinal.argScale m c) (Cert.QueryIdeal.QueryFinal.argW m c),
    fun c => Cert.QueryReferenceIdeal.QueryRef.rows (Cert.QueryIdeal.QueryFinal.argX m c) (Cert.QueryIdeal.QueryFinal.argShift m c)
      (Cert.QueryIdeal.QueryFinal.argScale m c), ?_, ?_⟩
  · exact (θ_run Cert.QueryIdeal.defs _ _).mono
      (fun r h c => ⟨(h c).1.trans (Cert.QueryIdeal.QueryFinal.final6 m c), (h c).2.1.trans (Cert.QueryIdeal.QueryFinal.final7 m c), (h c).2.2⟩)
      (Cert.QueryIdeal.Value.run_blocks (F := Ideal) m g)
  · refine (θ_run Cert.QueryReferenceIdeal.defs _ _).mono (fun r h c => ⟨(h c).1.trans ?_, (h c).2.1.trans ?_, (h c).2.2⟩)
      (Cert.QueryReferenceIdeal.Value.run (F := Ideal) m' g')
    · obtain ⟨h0, h1, h2, h3⟩ := hagree c
      rw [h0, h1, h2, h3]
      rfl
    · obtain ⟨h0, h1, h2, h3⟩ := hagree c
      rw [h0, h1, h2]
      rfl

theorem input_reference_runs : Cert.quiescent_InputReferenceIdeal := fun m g _ => (θ_run Cert.InputReferenceIdeal.defs _ _).mono
  (fun r h => ⟨fun c => (h c).2, sem_eq_zero_of_no_sems (by decide) r.2⟩) (Cert.InputReferenceIdeal.Value.run (F := Ideal) m g)

/-- The result of the even layer's input projection is the reference's. -/
theorem input_algebraic : Cert.algebraic_InputIdeal_InputReferenceIdeal := by
  intro m g m' g' _ hagree
  refine ⟨fun c => Cert.InputReferenceIdeal.InputRef.result (Cert.InputIdeal.InputFinal.argX m c) (Cert.InputIdeal.InputFinal.argShift m c) (Cert.InputIdeal.InputFinal.argScale m c) (Cert.InputIdeal.InputFinal.argW m c), ?_, ?_⟩
  · exact (θ_run Cert.InputIdeal.defs _ _).mono (fun r h c => ⟨(h c).1.trans (Cert.InputIdeal.InputFinal.final m c), (h c).2⟩)
      (Cert.InputIdeal.Value.run_blocks (F := Ideal) m g)
  · refine (θ_run Cert.InputReferenceIdeal.defs _ _).mono (fun r h c => ⟨(h c).1.trans ?_, (h c).2⟩)
      (Cert.InputReferenceIdeal.Value.run (F := Ideal) m' g')
    obtain ⟨h0, h1, h2, h3⟩ := hagree c
    refine (Cert.InputReferenceIdeal.InputRef.res_eq m' c).trans ?_
    rw [h0, h1, h2, h3]

theorem output_reference_runs : Cert.quiescent_OutputReferenceIdeal := fun m g _ => (θ_run Cert.OutputReferenceIdeal.defs _ _).mono
  (fun r h => ⟨fun c => (h c).2, sem_eq_zero_of_no_sems (by decide) r.2⟩) (Cert.OutputReferenceIdeal.Value.run (F := Ideal) m g)

/-- The result of the even layer's output projection and norm is the reference's. -/
theorem output_algebraic : Cert.algebraic_OutputIdeal_OutputReferenceIdeal := by
  intro m g m' g' _ hagree
  refine ⟨fun c => Cert.OutputReferenceIdeal.OutputRef.result (Cert.OutputIdeal.OutputFinal.argA m c) (Cert.OutputIdeal.OutputFinal.argB m c) (Cert.OutputIdeal.OutputFinal.argW m c) (Cert.OutputIdeal.OutputFinal.argX m c) (Cert.OutputIdeal.OutputFinal.argGate m c) (Cert.OutputIdeal.OutputFinal.argGain m c) (Cert.OutputIdeal.OutputFinal.argBias m c), ?_, ?_⟩
  · exact (θ_run Cert.OutputIdeal.defs _ _).mono (fun r h c => ⟨(h c).1.trans (Cert.OutputIdeal.OutputFinal.final m c), (h c).2⟩)
      (Cert.OutputIdeal.Value.run_blocks (F := Ideal) m g)
  · refine (θ_run Cert.OutputReferenceIdeal.defs _ _).mono (fun r h c => ⟨(h c).1.trans ?_, (h c).2⟩)
      (Cert.OutputReferenceIdeal.Value.run (F := Ideal) m' g')
    obtain ⟨h0, h1, h2, h3, h4, h5, h6⟩ := hagree c
    refine (Cert.OutputReferenceIdeal.OutputRef.res_eq m' c).trans ?_
    rw [h0, h1, h2, h3, h4, h5, h6]

theorem oddOutput_reference_runs : Cert.quiescent_OddOutputReferenceIdeal := fun m g _ => (θ_run Cert.OddOutputReferenceIdeal.defs _ _).mono
  (fun r h => ⟨fun c => (h c).2, sem_eq_zero_of_no_sems (by decide) r.2⟩) (Cert.OddOutputReferenceIdeal.Value.run (F := Ideal) m g)

/-- The result of the odd layer's output projection and norm is the reference's. -/
theorem oddOutput_algebraic : Cert.algebraic_OddOutputIdeal_OddOutputReferenceIdeal := by
  intro m g m' g' _ hagree
  refine ⟨fun c => Cert.OddOutputReferenceIdeal.OddOutputRef.result (Cert.OddOutputIdeal.OddOutputFinal.argA m c) (Cert.OddOutputIdeal.OddOutputFinal.argW m c) (Cert.OddOutputIdeal.OddOutputFinal.argX m c) (Cert.OddOutputIdeal.OddOutputFinal.argGate m c) (Cert.OddOutputIdeal.OddOutputFinal.argGain m c) (Cert.OddOutputIdeal.OddOutputFinal.argBias m c), ?_, ?_⟩
  · exact (θ_run Cert.OddOutputIdeal.defs _ _).mono (fun r h c => ⟨(h c).1.trans (Cert.OddOutputIdeal.OddOutputFinal.final m c), (h c).2⟩)
      (Cert.OddOutputIdeal.Value.run_blocks (F := Ideal) m g)
  · refine (θ_run Cert.OddOutputReferenceIdeal.defs _ _).mono (fun r h c => ⟨(h c).1.trans ?_, (h c).2⟩)
      (Cert.OddOutputReferenceIdeal.Value.run (F := Ideal) m' g')
    obtain ⟨h0, h1, h2, h3, h4, h5⟩ := hagree c
    refine (Cert.OddOutputReferenceIdeal.OddOutputRef.res_eq m' c).trans ?_
    rw [h0, h1, h2, h3, h4, h5]

theorem oddInput_reference_runs : Cert.quiescent_OddInputReferenceIdeal := fun m g _ => (θ_run Cert.OddInputReferenceIdeal.defs _ _).mono
  (fun r h => ⟨fun c => (h c).2, sem_eq_zero_of_no_sems (by decide) r.2⟩) (Cert.OddInputReferenceIdeal.Value.run (F := Ideal) m g)

/-- The result of the odd layer's input projection is the reference's. -/
theorem oddInput_algebraic : Cert.algebraic_OddInputIdeal_OddInputReferenceIdeal := by
  intro m g m' g' _ hagree
  refine ⟨fun c => Cert.OddInputReferenceIdeal.OddInputRef.result (Cert.OddInputIdeal.OddInputFinal.argX m c) (Cert.OddInputIdeal.OddInputFinal.argShift m c) (Cert.OddInputIdeal.OddInputFinal.argScale m c) (Cert.OddInputIdeal.OddInputFinal.argW m c), ?_, ?_⟩
  · exact (θ_run Cert.OddInputIdeal.defs _ _).mono (fun r h c => ⟨(h c).1.trans (Cert.OddInputIdeal.OddInputFinal.final m c), (h c).2⟩)
      (Cert.OddInputIdeal.Value.run_blocks (F := Ideal) m g)
  · refine (θ_run Cert.OddInputReferenceIdeal.defs _ _).mono (fun r h c => ⟨(h c).1.trans ?_, (h c).2⟩)
      (Cert.OddInputReferenceIdeal.Value.run (F := Ideal) m' g')
    obtain ⟨h0, h1, h2, h3⟩ := hagree c
    refine (Cert.OddInputReferenceIdeal.OddInputRef.res_eq m' c).trans ?_
    rw [h0, h1, h2, h3]

/-- The kernel's constant is named for the reals' 1 / (8 log 2). -/
theorem input_preserves : Cert.preserves_Input_InputIdeal := IdealRules.named_const.statement _ _ _ _ _ rfl

/-- Everything claimed. -/
theorem claim : Cert.Claim :=
  ⟨Cert.Kernel.Gen.facts, Cert.KernelIdeal.Gen.facts, Cert.ReferenceIdeal.Gen.facts,
    Cert.Query.Gen.facts, Cert.QueryIdeal.Gen.facts, Cert.QueryReferenceIdeal.Gen.facts,
    Cert.Input.Gen.facts, Cert.InputIdeal.Gen.facts, Cert.InputReferenceIdeal.Gen.facts,
    Cert.Output.Gen.facts, Cert.OutputIdeal.Gen.facts, Cert.OutputReferenceIdeal.Gen.facts,
    Cert.OddOutput.Gen.facts, Cert.OddOutputIdeal.Gen.facts, Cert.OddOutputReferenceIdeal.Gen.facts,
    Cert.OddInput.Gen.facts, Cert.OddInputIdeal.Gen.facts, Cert.OddInputReferenceIdeal.Gen.facts,
    Cert.Pre_finite_values.Gen.facts,
    fun m g _ => Cert.Kernel.Gen.frame m g, fun m g _ => Cert.KernelIdeal.Gen.frame m g, fun m g _ => Cert.KernelIdeal.Gen.frame m g,
    reference_runs, fun m g _ => reference_runs m g trivial,
    fun m g _ => Cert.Query.Gen.frame m g, fun m g _ => Cert.QueryIdeal.Gen.frame m g, query_reference_runs,
    fun m g _ => Cert.Input.Gen.frame m g, fun m g _ => Cert.InputIdeal.Gen.frame m g, input_reference_runs,
    fun m g _ => Cert.Output.Gen.frame m g, fun m g _ => Cert.OutputIdeal.Gen.frame m g, output_reference_runs,
    fun m g _ => Cert.OddOutput.Gen.frame m g, fun m g _ => Cert.OddOutputIdeal.Gen.frame m g, oddOutput_reference_runs,
    fun m g _ => Cert.OddInput.Gen.frame m g, fun m g _ => Cert.OddInputIdeal.Gen.frame m g, oddInput_reference_runs,
    trivial, algebraic,
    trivial, query_algebraic,
    input_preserves, input_algebraic,
    trivial, output_algebraic,
    trivial, oddOutput_algebraic,
    trivial, oddInput_algebraic⟩

end Cert.Proof

end
